-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_encoder_finite [hPre_encoder_finite : Cert.Pre_encoder_finite.Facts] (m : (ℓ : Loc Cert.KernelIdeal.nD Cert.KernelIdeal.τ Cert.KernelIdeal.sig) → Buf (Elt Ideal) ℓ) : Prop :=
  ∀ c : Dev Cert.KernelIdeal.nD,
    (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).2.2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).2.2.2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).2.2.2.2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).2.2.2.2.2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).2.2.2.2.2.2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).2.2.2.2.2.2.2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).2.2.2.2.2.2.2.2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).2.2.2.2.2.2.2.2.2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).2.2.2.2.2.2.2.2.2.2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).2.2.2.2.2.2.2.2.2.2.2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).2.2.2.2.2.2.2.2.2.2.2.2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).2.2.2.2.2.2.2.2.2.2.2.2.2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_encoder_finite [hPre_encoder_finite : Cert.Pre_encoder_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).2.2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).2.2.2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).2.2.2.2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).2.2.2.2.2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).2.2.2.2.2.2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).2.2.2.2.2.2.2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).2.2.2.2.2.2.2.2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).2.2.2.2.2.2.2.2.2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).2.2.2.2.2.2.2.2.2.2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).2.2.2.2.2.2.2.2.2.2.2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).2.2.2.2.2.2.2.2.2.2.2.2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).2.2.2.2.2.2.2.2.2.2.2.2.2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))).2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ r.2.sem = fun _ => 0)

def quiescent_KernelIdeal_pre_encoder_finite [hKernelIdeal : Cert.KernelIdeal.Facts] [hPre_encoder_finite : Cert.Pre_encoder_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_encoder_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))
      ∧ r.2.sem = fun _ => 0)

def quiescent_ReferenceIdeal_pre_encoder_finite [hReferenceIdeal : Cert.ReferenceIdeal.Facts] [hPre_encoder_finite : Cert.Pre_encoder_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_encoder_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))
      ∧ r.2.sem = fun _ => 0)

def preserves_Kernel_KernelIdeal : Prop :=
  True

def algebraic_KernelIdeal_ReferenceIdeal_pre_encoder_finite [hKernelIdeal : Cert.KernelIdeal.Facts] [hReferenceIdeal : Cert.ReferenceIdeal.Facts] [hPre_encoder_finite : Cert.Pre_encoder_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_encoder_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v357)) (v1 : (c : Dev Cert.KernelIdeal.nD) → Buf (Elt Ideal) ((c.tc : Thread Cert.KernelIdeal.nD Cert.KernelIdeal.τ).loc Cert.KernelIdeal.main_v52)) (v2 : (c : Dev Cert.KernelIdeal.nD) → Buf (Elt Ideal) ((c.tc : Thread Cert.KernelIdeal.nD Cert.KernelIdeal.τ).loc Cert.KernelIdeal.main_v361)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v357) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_v361) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v775) = v0 c
          ∧ r.2.mem ((c.tc : Thread Cert.ReferenceIdeal.nD Cert.ReferenceIdeal.τ).loc Cert.ReferenceIdeal.main_v378) = v1 c
          ∧ r.2.mem ((c.tc : Thread Cert.ReferenceIdeal.nD Cert.ReferenceIdeal.τ).loc Cert.ReferenceIdeal.main_v776) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_encoder_finite : Cert.Pre_encoder_finite.Facts),
    quiescent_Kernel (hKernel := hKernel)
    ∧ quiescent_KernelIdeal (hKernelIdeal := hKernelIdeal)
    ∧ quiescent_KernelIdeal_pre_encoder_finite (hKernelIdeal := hKernelIdeal) (hPre_encoder_finite := hPre_encoder_finite)
    ∧ quiescent_ReferenceIdeal (hReferenceIdeal := hReferenceIdeal)
    ∧ quiescent_ReferenceIdeal_pre_encoder_finite (hReferenceIdeal := hReferenceIdeal) (hPre_encoder_finite := hPre_encoder_finite)
    ∧ preserves_Kernel_KernelIdeal
    ∧ algebraic_KernelIdeal_ReferenceIdeal_pre_encoder_finite (hKernelIdeal := hKernelIdeal) (hReferenceIdeal := hReferenceIdeal) (hPre_encoder_finite := hPre_encoder_finite)
-- ==== Pre_encoder_finite.lean ====
abbrev S32x3x256x256 : Shape := ⟨4, ![32, 3, 256, 256]⟩
abbrev S128x3x4x4 : Shape := ⟨4, ![128, 3, 4, 4]⟩
abbrev S128 : Shape := ⟨1, ![128]⟩
abbrev S128x128x4x4 : Shape := ⟨4, ![128, 128, 4, 4]⟩
abbrev S128x128x3x3 : Shape := ⟨4, ![128, 128, 3, 3]⟩
abbrev S128x128x1x1 : Shape := ⟨4, ![128, 128, 1, 1]⟩
abbrev S64x128x1x1 : Shape := ⟨4, ![64, 128, 1, 1]⟩
abbrev S64 : Shape := ⟨1, ![64]⟩
abbrev S512x64 : Shape := ⟨2, ![512, 64]⟩
abbrev S128x64x3x3 : Shape := ⟨4, ![128, 64, 3, 3]⟩
abbrev S3 : Shape := ⟨1, ![3]⟩
abbrev S_ : Shape := ⟨0, ![]⟩

class Facts : Prop where
  bcast_S_S32x3x256x256 : S_.BroadcastsInDim S32x3x256x256 (![] : Fin 0 → Fin S32x3x256x256.rank)
  bcast_S_S128x3x4x4 : S_.BroadcastsInDim S128x3x4x4 (![] : Fin 0 → Fin S128x3x4x4.rank)
  bcast_S_S128 : S_.BroadcastsInDim S128 (![] : Fin 0 → Fin S128.rank)
  bcast_S_S128x128x4x4 : S_.BroadcastsInDim S128x128x4x4 (![] : Fin 0 → Fin S128x128x4x4.rank)
  bcast_S_S128x128x3x3 : S_.BroadcastsInDim S128x128x3x3 (![] : Fin 0 → Fin S128x128x3x3.rank)
  bcast_S_S128x128x1x1 : S_.BroadcastsInDim S128x128x1x1 (![] : Fin 0 → Fin S128x128x1x1.rank)
  bcast_S_S64x128x1x1 : S_.BroadcastsInDim S64x128x1x1 (![] : Fin 0 → Fin S64x128x1x1.rank)
  bcast_S_S64 : S_.BroadcastsInDim S64 (![] : Fin 0 → Fin S64.rank)

variable [Facts]

def fn_part2 {F : FTy → Type} [FloatOps F] (main_arg12 : FVec F S128 .f32) (main_arg13 : FVec F S64x128x1x1 .f32) (main_arg14 : FVec F S64 .f32) (main_v2 : IVec S32x3x256x256 1) (main_v5 : IVec S128x3x4x4 1) (main_v8 : IVec S128 1) (main_v11 : IVec S128x128x4x4 1) (main_v14 : IVec S128 1) (main_v17 : IVec S128x128x3x3 1) (main_v20 : IVec S128 1) (main_v23 : IVec S128x128x1x1 1) (main_v26 : IVec S128 1) (main_v29 : IVec S128x128x3x3 1) (main_v32 : IVec S128 1) (main_v35 : IVec S128x128x1x1 1) : IVec S32x3x256x256 1 × IVec S128x3x4x4 1 × IVec S128 1 × IVec S128x128x4x4 1 × IVec S128 1 × IVec S128x128x3x3 1 × IVec S128 1 × IVec S128x128x1x1 1 × IVec S128 1 × IVec S128x128x3x3 1 × IVec S128 1 × IVec S128x128x1x1 1 × IVec S128 1 × IVec S64x128x1x1 1 × IVec S64 1 :=
  let main_v36 : FVec F S128 .f32 := Host.absf main_arg12
  let main_cst_11 : FVec F S_ .f32 := constant S_ .f32 0x7F800000#32
  let main_v37 : FVec F S128 .f32 := broadcastInDim S128 ![] bcast_S_S128 main_cst_11
  let main_v38 : IVec S128 1 := cmpf .olt main_v36 main_v37
  let main_v39 : FVec F S64x128x1x1 .f32 := Host.absf main_arg13
  let main_cst_12 : FVec F S_ .f32 := constant S_ .f32 0x7F800000#32
  let main_v40 : FVec F S64x128x1x1 .f32 := broadcastInDim S64x128x1x1 ![] bcast_S_S64x128x1x1 main_cst_12
  let main_v41 : IVec S64x128x1x1 1 := cmpf .olt main_v39 main_v40
  let main_v42 : FVec F S64 .f32 := Host.absf main_arg14
  let main_cst_13 : FVec F S_ .f32 := constant S_ .f32 0x7F800000#32
  let main_v43 : FVec F S64 .f32 := broadcastInDim S64 ![] bcast_S_S64 main_cst_13
  let main_v44 : IVec S64 1 := cmpf .olt main_v42 main_v43
  (main_v2, main_v5, main_v8, main_v11, main_v14, main_v17, main_v20, main_v23, main_v26, main_v29, main_v32, main_v35, main_v38, main_v41, main_v44)

def fn_part1 {F : FTy → Type} [FloatOps F] (main_arg6 : FVec F S128 .f32) (main_arg7 : FVec F S128x128x1x1 .f32) (main_arg8 : FVec F S128 .f32) (main_arg9 : FVec F S128x128x3x3 .f32) (main_arg10 : FVec F S128 .f32) (main_arg11 : FVec F S128x128x1x1 .f32) (main_arg12 : FVec F S128 .f32) (main_arg13 : FVec F S64x128x1x1 .f32) (main_arg14 : FVec F S64 .f32) (main_v2 : IVec S32x3x256x256 1) (main_v5 : IVec S128x3x4x4 1) (main_v8 : IVec S128 1) (main_v11 : IVec S128x128x4x4 1) (main_v14 : IVec S128 1) (main_v17 : IVec S128x128x3x3 1) : IVec S32x3x256x256 1 × IVec S128x3x4x4 1 × IVec S128 1 × IVec S128x128x4x4 1 × IVec S128 1 × IVec S128x128x3x3 1 × IVec S128 1 × IVec S128x128x1x1 1 × IVec S128 1 × IVec S128x128x3x3 1 × IVec S128 1 × IVec S128x128x1x1 1 × IVec S128 1 × IVec S64x128x1x1 1 × IVec S64 1 :=
  let main_v18 : FVec F S128 .f32 := Host.absf main_arg6
  let main_cst_5 : FVec F S_ .f32 := constant S_ .f32 0x7F800000#32
  let main_v19 : FVec F S128 .f32 := broadcastInDim S128 ![] bcast_S_S128 main_cst_5
  let main_v20 : IVec S128 1 := cmpf .olt main_v18 main_v19
  let main_v21 : FVec F S128x128x1x1 .f32 := Host.absf main_arg7
  let main_cst_6 : FVec F S_ .f32 := constant S_ .f32 0x7F800000#32
  let main_v22 : FVec F S128x128x1x1 .f32 := broadcastInDim S128x128x1x1 ![] bcast_S_S128x128x1x1 main_cst_6
  let main_v23 : IVec S128x128x1x1 1 := cmpf .olt main_v21 main_v22
  let main_v24 : FVec F S128 .f32 := Host.absf main_arg8
  let main_cst_7 : FVec F S_ .f32 := constant S_ .f32 0x7F800000#32
  let main_v25 : FVec F S128 .f32 := broadcastInDim S128 ![] bcast_S_S128 main_cst_7
  let main_v26 : IVec S128 1 := cmpf .olt main_v24 main_v25
  let main_v27 : FVec F S128x128x3x3 .f32 := Host.absf main_arg9
  let main_cst_8 : FVec F S_ .f32 := constant S_ .f32 0x7F800000#32
  let main_v28 : FVec F S128x128x3x3 .f32 := broadcastInDim S128x128x3x3 ![] bcast_S_S128x128x3x3 main_cst_8
  let main_v29 : IVec S128x128x3x3 1 := cmpf .olt main_v27 main_v28
  let main_v30 : FVec F S128 .f32 := Host.absf main_arg10
  let main_cst_9 : FVec F S_ .f32 := constant S_ .f32 0x7F800000#32
  let main_v31 : FVec F S128 .f32 := broadcastInDim S128 ![] bcast_S_S128 main_cst_9
  let main_v32 : IVec S128 1 := cmpf .olt main_v30 main_v31
  let main_v33 : FVec F S128x128x1x1 .f32 := Host.absf main_arg11
  let main_cst_10 : FVec F S_ .f32 := constant S_ .f32 0x7F800000#32
  let main_v34 : FVec F S128x128x1x1 .f32 := broadcastInDim S128x128x1x1 ![] bcast_S_S128x128x1x1 main_cst_10
  let main_v35 : IVec S128x128x1x1 1 := cmpf .olt main_v33 main_v34
  fn_part2 (F := F) main_arg12 main_arg13 main_arg14 main_v2 main_v5 main_v8 main_v11 main_v14 main_v17 main_v20 main_v23 main_v26 main_v29 main_v32 main_v35

def fn {F : FTy → Type} [FloatOps F] (main_arg0 : FVec F S32x3x256x256 .f32) (main_arg1 : FVec F S128x3x4x4 .f32) (main_arg2 : FVec F S128 .f32) (main_arg3 : FVec F S128x128x4x4 .f32) (main_arg4 : FVec F S128 .f32) (main_arg5 : FVec F S128x128x3x3 .f32) (main_arg6 : FVec F S128 .f32) (main_arg7 : FVec F S128x128x1x1 .f32) (main_arg8 : FVec F S128 .f32) (main_arg9 : FVec F S128x128x3x3 .f32) (main_arg10 : FVec F S128 .f32) (main_arg11 : FVec F S128x128x1x1 .f32) (main_arg12 : FVec F S128 .f32) (main_arg13 : FVec F S64x128x1x1 .f32) (main_arg14 : FVec F S64 .f32) (main_arg15 : FVec F S512x64 .f32) (main_arg16 : FVec F S128x64x3x3 .f32) (main_arg17 : FVec F S128 .f32) (main_arg18 : FVec F S128x128x3x3 .f32) (main_arg19 : FVec F S128 .f32) (main_arg20 : FVec F S128x128x1x1 .f32) (main_arg21 : FVec F S128 .f32) (main_arg22 : FVec F S128x128x3x3 .f32) (main_arg23 : FVec F S128 .f32) (main_arg24 : FVec F S128x128x1x1 .f32) (main_arg25 : FVec F S128 .f32) (main_arg26 : FVec F S128x128x4x4 .f32) (main_arg27 : FVec F S128 .f32) (main_arg28 : FVec F S128x3x4x4 .f32) (main_arg29 : FVec F S3 .f32) : IVec S32x3x256x256 1 × IVec S128x3x4x4 1 × IVec S128 1 × IVec S128x128x4x4 1 × IVec S128 1 × IVec S128x128x3x3 1 × IVec S128 1 × IVec S128x128x1x1 1 × IVec S128 1 × IVec S128x128x3x3 1 × IVec S128 1 × IVec S128x128x1x1 1 × IVec S128 1 × IVec S64x128x1x1 1 × IVec S64 1 :=
  let main_v0 : FVec F S32x3x256x256 .f32 := Host.absf main_arg0
  let main_cst : FVec F S_ .f32 := constant S_ .f32 0x7F800000#32
  let main_v1 : FVec F S32x3x256x256 .f32 := broadcastInDim S32x3x256x256 ![] bcast_S_S32x3x256x256 main_cst
  let main_v2 : IVec S32x3x256x256 1 := cmpf .olt main_v0 main_v1
  let main_v3 : FVec F S128x3x4x4 .f32 := Host.absf main_arg1
  let main_cst_0 : FVec F S_ .f32 := constant S_ .f32 0x7F800000#32
  let main_v4 : FVec F S128x3x4x4 .f32 := broadcastInDim S128x3x4x4 ![] bcast_S_S128x3x4x4 main_cst_0
  let main_v5 : IVec S128x3x4x4 1 := cmpf .olt main_v3 main_v4
  let main_v6 : FVec F S128 .f32 := Host.absf main_arg2
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  let main_v9 : FVec F S128x128x4x4 .f32 := Host.absf main_arg3
  let main_cst_2 : FVec F S_ .f32 := constant S_ .f32 0x7F800000#32
  let main_v10 : FVec F S128x128x4x4 .f32 := broadcastInDim S128x128x4x4 ![] bcast_S_S128x128x4x4 main_cst_2
  let main_v11 : IVec S128x128x4x4 1 := cmpf .olt main_v9 main_v10
  let main_v12 : FVec F S128 .f32 := Host.absf main_arg4
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  let main_v15 : FVec F S128x128x3x3 .f32 := Host.absf main_arg5
  let main_cst_4 : FVec F S_ .f32 := constant S_ .f32 0x7F800000#32
  let main_v16 : FVec F S128x128x3x3 .f32 := broadcastInDim S128x128x3x3 ![] bcast_S_S128x128x3x3 main_cst_4
  let main_v17 : IVec S128x128x3x3 1 := cmpf .olt main_v15 main_v16
  fn_part1 (F := F) main_arg6 main_arg7 main_arg8 main_arg9 main_arg10 main_arg11 main_arg12 main_arg13 main_arg14 main_v2 main_v5 main_v8 main_v11 main_v14 main_v17
-- ==== Kernel.lean ====
abbrev S32x3x256x256 : Shape := ⟨4, ![32, 3, 256, 256]⟩
abbrev S128x3x4x4 : Shape := ⟨4, ![128, 3, 4, 4]⟩
abbrev S128 : Shape := ⟨1, ![128]⟩
abbrev S128x128x4x4 : Shape := ⟨4, ![128, 128, 4, 4]⟩
abbrev S128x128x3x3 : Shape := ⟨4, ![128, 128, 3, 3]⟩
abbrev S128x128x1x1 : Shape := ⟨4, ![128, 128, 1, 1]⟩
abbrev S64x128x1x1 : Shape := ⟨4, ![64, 128, 1, 1]⟩
abbrev S64 : Shape := ⟨1, ![64]⟩
abbrev S512x64 : Shape := ⟨2, ![512, 64]⟩
abbrev S128x64x3x3 : Shape := ⟨4, ![128, 64, 3, 3]⟩
abbrev S3 : Shape := ⟨1, ![3]⟩
abbrev S32x256x256x3 : Shape := ⟨4, ![32, 256, 256, 3]⟩
abbrev S4x4x3x128 : Shape := ⟨4, ![4, 4, 3, 128]⟩
abbrev S_ : Shape := ⟨0, ![]⟩
abbrev S32x258x258x3 : Shape := ⟨4, ![32, 258, 258, 3]⟩
abbrev S32x129x2x129x2x3 : Shape := ⟨6, ![32, 129, 2, 129, 2, 3]⟩
abbrev S32x129x129x2x2x3 : Shape := ⟨6, ![32, 129, 129, 2, 2, 3]⟩
abbrev S32x129x129x12 : Shape := ⟨4, ![32, 129, 129, 12]⟩
abbrev S2x2x2x2x3x128 : Shape := ⟨6, ![2, 2, 2, 2, 3, 128]⟩
abbrev S2x2x12x128 : Shape := ⟨4, ![2, 2, 12, 128]⟩
abbrev S1x128 : Shape := ⟨2, ![1, 128]⟩
abbrev S32x128x128x128 : Shape := ⟨4, ![32, 128, 128, 128]⟩
abbrev S1x129x129x12 : Shape := ⟨4, ![1, 129, 129, 12]⟩
abbrev S1x128x128x128 : Shape := ⟨4, ![1, 128, 128, 128]⟩
abbrev S1x128x128x12 : Shape := ⟨4, ![1, 128, 128, 12]⟩
abbrev S16384x12 : Shape := ⟨2, ![16384, 12]⟩
abbrev S1x1x12x128 : Shape := ⟨4, ![1, 1, 12, 128]⟩
abbrev S12x128 : Shape := ⟨2, ![12, 128]⟩
abbrev S16384x128 : Shape := ⟨2, ![16384, 128]⟩
abbrev S4x4x128x128 : Shape := ⟨4, ![4, 4, 128, 128]⟩
abbrev S32x130x130x128 : Shape := ⟨4, ![32, 130, 130, 128]⟩
abbrev S32x65x2x65x2x128 : Shape := ⟨6, ![32, 65, 2, 65, 2, 128]⟩
abbrev S32x65x65x2x2x128 : Shape := ⟨6, ![32, 65, 65, 2, 2, 128]⟩
abbrev S32x65x65x512 : Shape := ⟨4, ![32, 65, 65, 512]⟩
abbrev S2x2x2x2x128x128 : Shape := ⟨6, ![2, 2, 2, 2, 128, 128]⟩
abbrev S2x2x512x128 : Shape := ⟨4, ![2, 2, 512, 128]⟩
abbrev S32x64x64x128 : Shape := ⟨4, ![32, 64, 64, 128]⟩
abbrev S1x65x65x512 : Shape := ⟨4, ![1, 65, 65, 512]⟩
abbrev S1x64x64x128 : Shape := ⟨4, ![1, 64, 64, 128]⟩
abbrev S1x64x64x512 : Shape := ⟨4, ![1, 64, 64, 512]⟩
abbrev S4096x512 : Shape := ⟨2, ![4096, 512]⟩
abbrev S1x1x512x128 : Shape := ⟨4, ![1, 1, 512, 128]⟩
abbrev S512x128 : Shape := ⟨2, ![512, 128]⟩
abbrev S4096x128 : Shape := ⟨2, ![4096, 128]⟩
abbrev S3x3x128x128 : Shape := ⟨4, ![3, 3, 128, 128]⟩
abbrev S128x128 : Shape := ⟨2, ![128, 128]⟩
abbrev S32x66x66x128 : Shape := ⟨4, ![32, 66, 66, 128]⟩
abbrev S1x66x66x128 : Shape := ⟨4, ![1, 66, 66, 128]⟩
abbrev S64x64x128 : Shape := ⟨3, ![64, 64, 128]⟩
abbrev S1x1x128x128 : Shape := ⟨4, ![1, 1, 128, 128]⟩
abbrev S64x128 : Shape := ⟨2, ![64, 128]⟩
abbrev S128x64 : Shape := ⟨2, ![128, 64]⟩
abbrev S512 : Shape := ⟨1, ![512]⟩
abbrev S1x512 : Shape := ⟨2, ![1, 512]⟩
abbrev S1x64 : Shape := ⟨2, ![1, 64]⟩
abbrev S32x64x64x64 : Shape := ⟨4, ![32, 64, 64, 64]⟩
abbrev S32x4096x64 : Shape := ⟨3, ![32, 4096, 64]⟩
abbrev S32x4096x128 : Shape := ⟨3, ![32, 4096, 128]⟩
abbrev S1x64x64x64 : Shape := ⟨4, ![1, 64, 64, 64]⟩
abbrev S1x4096x64 : Shape := ⟨3, ![1, 4096, 64]⟩
abbrev S1x4096x128 : Shape := ⟨3, ![1, 4096, 128]⟩
abbrev S4096x64 : Shape := ⟨2, ![4096, 64]⟩
abbrev S4096 : Shape := ⟨1, ![4096]⟩
abbrev S4096x1 : Shape := ⟨2, ![4096, 1]⟩
abbrev S3x3x64x128 : Shape := ⟨4, ![3, 3, 64, 128]⟩
abbrev S32x66x66x64 : Shape := ⟨4, ![32, 66, 66, 64]⟩
abbrev S32x1x128 : Shape := ⟨3, ![32, 1, 128]⟩
abbrev S1x66x66x64 : Shape := ⟨4, ![1, 66, 66, 64]⟩
abbrev S1x1x128 : Shape := ⟨3, ![1, 1, 128]⟩
abbrev S64x64x64 : Shape := ⟨3, ![64, 64, 64]⟩
abbrev S1x1x64x128 : Shape := ⟨4, ![1, 1, 64, 128]⟩
abbrev S1 : Shape := ⟨1, ![1]⟩
abbrev S1x1x1x1 : Shape := ⟨4, ![1, 1, 1, 1]⟩
abbrev S32x1x1 : Shape := ⟨3, ![32, 1, 1]⟩
abbrev S32 : Shape := ⟨1, ![32]⟩
abbrev S32x1x66x66x128 : Shape := ⟨5, ![32, 1, 66, 66, 128]⟩
abbrev S3x3x128x2x2x128 : Shape := ⟨6, ![3, 3, 128, 2, 2, 128]⟩
abbrev S4 : Shape := ⟨1, ![4]⟩
abbrev S3x3x128x512 : Shape := ⟨4, ![3, 3, 128, 512]⟩
abbrev S4x128 : Shape := ⟨2, ![4, 128]⟩
abbrev S32x64x64x512 : Shape := ⟨4, ![32, 64, 64, 512]⟩
abbrev S1x1x66x66x128 : Shape := ⟨5, ![1, 1, 66, 66, 128]⟩
abbrev S1x1x64x64x128 : Shape := ⟨5, ![1, 1, 64, 64, 128]⟩
abbrev S1x1x128x512 : Shape := ⟨4, ![1, 1, 128, 512]⟩
abbrev S128x512 : Shape := ⟨2, ![128, 512]⟩
abbrev S32x64x64x2x2x128 : Shape := ⟨6, ![32, 64, 64, 2, 2, 128]⟩
abbrev S32x64x2x64x2x128 : Shape := ⟨6, ![32, 64, 2, 64, 2, 128]⟩
abbrev S4x4x128x3 : Shape := ⟨4, ![4, 4, 128, 3]⟩
abbrev S32x34x130x128 : Shape := ⟨4, ![32, 34, 130, 128]⟩
abbrev S32x1x34x130x128 : Shape := ⟨5, ![32, 1, 34, 130, 128]⟩
abbrev S32x4x34x130x128 : Shape := ⟨5, ![32, 4, 34, 130, 128]⟩
abbrev S3x3x128x2x2x3 : Shape := ⟨6, ![3, 3, 128, 2, 2, 3]⟩
abbrev S1x1x128x3 : Shape := ⟨4, ![1, 1, 128, 3]⟩
abbrev S128x3 : Shape := ⟨2, ![128, 3]⟩
abbrev S3x3x128x12 : Shape := ⟨4, ![3, 3, 128, 12]⟩
abbrev S1x3 : Shape := ⟨2, ![1, 3]⟩
abbrev S4x3 : Shape := ⟨2, ![4, 3]⟩
abbrev S12 : Shape := ⟨1, ![12]⟩
abbrev S1x12 : Shape := ⟨2, ![1, 12]⟩
abbrev S32x128x128x12 : Shape := ⟨4, ![32, 128, 128, 12]⟩
abbrev S1x1x34x130x128 : Shape := ⟨5, ![1, 1, 34, 130, 128]⟩
abbrev S1x32x128x12 : Shape := ⟨4, ![1, 32, 128, 12]⟩
abbrev S1x1x32x128x128 : Shape := ⟨5, ![1, 1, 32, 128, 128]⟩
abbrev S1x1x128x12 : Shape := ⟨4, ![1, 1, 128, 12]⟩
abbrev S128x12 : Shape := ⟨2, ![128, 12]⟩
abbrev S4096x12 : Shape := ⟨2, ![4096, 12]⟩
abbrev S32x128x128x2x2x3 : Shape := ⟨6, ![32, 128, 128, 2, 2, 3]⟩
abbrev S32x128x2x128x2x3 : Shape := ⟨6, ![32, 128, 2, 128, 2, 3]⟩
abbrev S32x4096x1 : Shape := ⟨3, ![32, 4096, 1]⟩
abbrev S32x4096 : Shape := ⟨2, ![32, 4096]⟩
abbrev S131072 : Shape := ⟨1, ![131072]⟩
abbrev S131072x1 : Shape := ⟨2, ![131072, 1]⟩

abbrev nBuf : Space → Nat
  | .hbm => 547
  | .vmem => 78
  | .smem => 0
  | _ => 0

abbrev hbmTy0_0 (i : Nat) : BufTy := match i % 128 with
  | 0 => ⟨S32x3x256x256, .f32⟩
  | 1 => ⟨S128x3x4x4, .f32⟩
  | 2 => ⟨S128, .f32⟩
  | 3 => ⟨S128x128x4x4, .f32⟩
  | 4 => ⟨S128, .f32⟩
  | 5 => ⟨S128x128x3x3, .f32⟩
  | 6 => ⟨S128, .f32⟩
  | 7 => ⟨S128x128x1x1, .f32⟩
  | 8 => ⟨S128, .f32⟩
  | 9 => ⟨S128x128x3x3, .f32⟩
  | 10 => ⟨S128, .f32⟩
  | 11 => ⟨S128x128x1x1, .f32⟩
  | 12 => ⟨S128, .f32⟩
  | 13 => ⟨S64x128x1x1, .f32⟩
  | 14 => ⟨S64, .f32⟩
  | 15 => ⟨S512x64, .f32⟩
  | 16 => ⟨S128x64x3x3, .f32⟩
  | 17 => ⟨S128, .f32⟩
  | 18 => ⟨S128x128x3x3, .f32⟩
  | 19 => ⟨S128, .f32⟩
  | 20 => ⟨S128x128x1x1, .f32⟩
  | 21 => ⟨S128, .f32⟩
  | 22 => ⟨S128x128x3x3, .f32⟩
  | 23 => ⟨S128, .f32⟩
  | 24 => ⟨S128x128x1x1, .f32⟩
  | 25 => ⟨S128, .f32⟩
  | 26 => ⟨S128x128x4x4, .f32⟩
  | 27 => ⟨S128, .f32⟩
  | 28 => ⟨S128x3x4x4, .f32⟩
  | 29 => ⟨S3, .f32⟩
  | 30 => ⟨S32x256x256x3, .f32⟩
  | 31 => ⟨S4x4x3x128, .f32⟩
  | 32 => ⟨S_, .i32⟩
  | 33 => ⟨S_, .f32⟩
  | 34 => ⟨S32x258x258x3, .f32⟩
  | 35 => ⟨S32x129x2x129x2x3, .f32⟩
  | 36 => ⟨S32x129x129x2x2x3, .f32⟩
  | 37 => ⟨S32x129x129x12, .f32⟩
  | 38 => ⟨S2x2x2x2x3x128, .f32⟩
  | 39 => ⟨S2x2x2x2x3x128, .f32⟩
  | 40 => ⟨S2x2x12x128, .f32⟩
  | 41 => ⟨S1x128, .f32⟩
  | 42 => ⟨S32x128x128x128, .f32⟩
  | 43 => ⟨S4x4x128x128, .f32⟩
  | 44 => ⟨S_, .i32⟩
  | 45 => ⟨S_, .f32⟩
  | 46 => ⟨S32x130x130x128, .f32⟩
  | 47 => ⟨S32x65x2x65x2x128, .f32⟩
  | 48 => ⟨S32x65x65x2x2x128, .f32⟩
  | 49 => ⟨S32x65x65x512, .f32⟩
  | 50 => ⟨S2x2x2x2x128x128, .f32⟩
  | 51 => ⟨S2x2x2x2x128x128, .f32⟩
  | 52 => ⟨S2x2x512x128, .f32⟩
  | 53 => ⟨S1x128, .f32⟩
  | 54 => ⟨S32x64x64x128, .f32⟩
  | 55 => ⟨S3x3x128x128, .f32⟩
  | 56 => ⟨S128x128, .f32⟩
  | 57 => ⟨S128x128, .f32⟩
  | 58 => ⟨S_, .i32⟩
  | 59 => ⟨S_, .f32⟩
  | 60 => ⟨S32x66x66x128, .f32⟩
  | 61 => ⟨S1x128, .f32⟩
  | 62 => ⟨S1x128, .f32⟩
  | 63 => ⟨S32x64x64x128, .f32⟩
  | 64 => ⟨S3x3x128x128, .f32⟩
  | 65 => ⟨S128x128, .f32⟩
  | 66 => ⟨S128x128, .f32⟩
  | 67 => ⟨S_, .i32⟩
  | 68 => ⟨S_, .f32⟩
  | 69 => ⟨S32x66x66x128, .f32⟩
  | 70 => ⟨S1x128, .f32⟩
  | 71 => ⟨S1x128, .f32⟩
  | 72 => ⟨S32x64x64x128, .f32⟩
  | 73 => ⟨S64x128, .f32⟩
  | 74 => ⟨S128x64, .f32⟩
  | 75 => ⟨S512x64, .f32⟩
  | 76 => ⟨S_, .f32⟩
  | 77 => ⟨S512, .f32⟩
  | 78 => ⟨S1x512, .f32⟩
  | 79 => ⟨S1x64, .f32⟩
  | 80 => ⟨S32x64x64x64, .f32⟩
  | 81 => ⟨S32x4096x64, .f32⟩
  | 82 => ⟨S32x4096x128, .i32⟩
  | 83 => ⟨S32x64x64x64, .f32⟩
  | 84 => ⟨S32x64x64x64, .f32⟩
  | 85 => ⟨S3x3x64x128, .f32⟩
  | 86 => ⟨S_, .i32⟩
  | 87 => ⟨S_, .f32⟩
  | 88 => ⟨S32x66x66x64, .f32⟩
  | 89 => ⟨S1x128, .f32⟩
  | 90 => ⟨S32x64x64x128, .f32⟩
  | 91 => ⟨S32x1x128, .f32⟩
  | 92 => ⟨S32x1x1, .f32⟩
  | 93 => ⟨S32, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S3x3x128x128, .f32⟩
  | 101 => ⟨S128x128, .f32⟩
  | 102 => ⟨S128x128, .f32⟩
  | 103 => ⟨S_, .i32⟩
  | 104 => ⟨S_, .f32⟩
  | 105 => ⟨S32x66x66x128, .f32⟩
  | 106 => ⟨S1x128, .f32⟩
  | 107 => ⟨S1x128, .f32⟩
  | 108 => ⟨S32x64x64x128, .f32⟩
  | 109 => ⟨S3x3x128x128, .f32⟩
  | 110 => ⟨S128x128, .f32⟩
  | 111 => ⟨S128x128, .f32⟩
  | 112 => ⟨S_, .i32⟩
  | 113 => ⟨S_, .f32⟩
  | 114 => ⟨S32x66x66x128, .f32⟩
  | 115 => ⟨S1x128, .f32⟩
  | 116 => ⟨S1x128, .f32⟩
  | 117 => ⟨S32x64x64x128, .f32⟩
  | 118 => ⟨S4x4x128x128, .f32⟩
  | 119 => ⟨S_, .i32⟩
  | 120 => ⟨S_, .f32⟩
  | 121 => ⟨S32x66x66x128, .f32⟩
  | 122 => ⟨S32x1x66x66x128, .f32⟩
  | 123 => ⟨S_, .f32⟩
  | 124 => ⟨S3x3x128x2x2x128, .f32⟩
  | 125 => ⟨S1x1x128x128, .f32⟩
  | 126 => ⟨S128x128, .f32⟩
  | 127 => ⟨S_, .i32⟩
  | _ => ⟨S32x3x256x256, .f32⟩

abbrev hbmTy0_1 (i : Nat) : BufTy := match i % 128 with
  | 0 => ⟨S1, .i32⟩
  | 1 => ⟨S_, .i32⟩
  | 2 => ⟨S1, .i32⟩
  | 3 => ⟨S_, .i32⟩
  | 4 => ⟨S1, .i32⟩
  | 5 => ⟨S_, .i32⟩
  | 6 => ⟨S1, .i32⟩
  | 7 => ⟨S4, .i32⟩
  | 8 => ⟨S3x3x128x2x2x128, .f32⟩
  | 9 => ⟨S1x1x128x128, .f32⟩
  | 10 => ⟨S128x128, .f32⟩
  | 11 => ⟨S_, .i32⟩
  | 12 => ⟨S1, .i32⟩
  | 13 => ⟨S_, .i32⟩
  | 14 => ⟨S1, .i32⟩
  | 15 => ⟨S_, .i32⟩
  | 16 => ⟨S1, .i32⟩
  | 17 => ⟨S_, .i32⟩
  | 18 => ⟨S1, .i32⟩
  | 19 => ⟨S4, .i32⟩
  | 20 => ⟨S3x3x128x2x2x128, .f32⟩
  | 21 => ⟨S1x1x128x128, .f32⟩
  | 22 => ⟨S128x128, .f32⟩
  | 23 => ⟨S_, .i32⟩
  | 24 => ⟨S1, .i32⟩
  | 25 => ⟨S_, .i32⟩
  | 26 => ⟨S1, .i32⟩
  | 27 => ⟨S_, .i32⟩
  | 28 => ⟨S1, .i32⟩
  | 29 => ⟨S_, .i32⟩
  | 30 => ⟨S1, .i32⟩
  | 31 => ⟨S4, .i32⟩
  | 32 => ⟨S3x3x128x2x2x128, .f32⟩
  | 33 => ⟨S1x1x128x128, .f32⟩
  | 34 => ⟨S128x128, .f32⟩
  | 35 => ⟨S_, .i32⟩
  | 36 => ⟨S1, .i32⟩
  | 37 => ⟨S_, .i32⟩
  | 38 => ⟨S1, .i32⟩
  | 39 => ⟨S_, .i32⟩
  | 40 => ⟨S1, .i32⟩
  | 41 => ⟨S_, .i32⟩
  | 42 => ⟨S1, .i32⟩
  | 43 => ⟨S4, .i32⟩
  | 44 => ⟨S3x3x128x2x2x128, .f32⟩
  | 45 => ⟨S1x1x128x128, .f32⟩
  | 46 => ⟨S128x128, .f32⟩
  | 47 => ⟨S_, .i32⟩
  | 48 => ⟨S1, .i32⟩
  | 49 => ⟨S_, .i32⟩
  | 50 => ⟨S1, .i32⟩
  | 51 => ⟨S_, .i32⟩
  | 52 => ⟨S1, .i32⟩
  | 53 => ⟨S_, .i32⟩
  | 54 => ⟨S1, .i32⟩
  | 55 => ⟨S4, .i32⟩
  | 56 => ⟨S3x3x128x2x2x128, .f32⟩
  | 57 => ⟨S1x1x128x128, .f32⟩
  | 58 => ⟨S128x128, .f32⟩
  | 59 => ⟨S_, .i32⟩
  | 60 => ⟨S1, .i32⟩
  | 61 => ⟨S_, .i32⟩
  | 62 => ⟨S1, .i32⟩
  | 63 => ⟨S_, .i32⟩
  | 64 => ⟨S1, .i32⟩
  | 65 => ⟨S_, .i32⟩
  | 66 => ⟨S1, .i32⟩
  | 67 => ⟨S4, .i32⟩
  | 68 => ⟨S3x3x128x2x2x128, .f32⟩
  | 69 => ⟨S1x1x128x128, .f32⟩
  | 70 => ⟨S128x128, .f32⟩
  | 71 => ⟨S_, .i32⟩
  | 72 => ⟨S1, .i32⟩
  | 73 => ⟨S_, .i32⟩
  | 74 => ⟨S1, .i32⟩
  | 75 => ⟨S_, .i32⟩
  | 76 => ⟨S1, .i32⟩
  | 77 => ⟨S_, .i32⟩
  | 78 => ⟨S1, .i32⟩
  | 79 => ⟨S4, .i32⟩
  | 80 => ⟨S3x3x128x2x2x128, .f32⟩
  | 81 => ⟨S1x1x128x128, .f32⟩
  | 82 => ⟨S128x128, .f32⟩
  | 83 => ⟨S_, .i32⟩
  | 84 => ⟨S1, .i32⟩
  | 85 => ⟨S_, .i32⟩
  | 86 => ⟨S1, .i32⟩
  | 87 => ⟨S_, .i32⟩
  | 88 => ⟨S1, .i32⟩
  | 89 => ⟨S_, .i32⟩
  | 90 => ⟨S1, .i32⟩
  | 91 => ⟨S4, .i32⟩
  | 92 => ⟨S3x3x128x2x2x128, .f32⟩
  | 93 => ⟨S1x1x128x128, .f32⟩
  | 94 => ⟨S128x128, .f32⟩
  | 95 => ⟨S_, .i32⟩
  | 96 => ⟨S1, .i32⟩
  | 97 => ⟨S_, .i32⟩
  | 98 => ⟨S1, .i32⟩
  | 99 => ⟨S_, .i32⟩
  | 100 => ⟨S1, .i32⟩
  | 101 => ⟨S_, .i32⟩
  | 102 => ⟨S1, .i32⟩
  | 103 => ⟨S4, .i32⟩
  | 104 => ⟨S3x3x128x2x2x128, .f32⟩
  | 105 => ⟨S1x1x128x128, .f32⟩
  | 106 => ⟨S128x128, .f32⟩
  | 107 => ⟨S_, .i32⟩
  | 108 => ⟨S1, .i32⟩
  | 109 => ⟨S_, .i32⟩
  | 110 => ⟨S1, .i32⟩
  | 111 => ⟨S_, .i32⟩
  | 112 => ⟨S1, .i32⟩
  | 113 => ⟨S_, .i32⟩
  | 114 => ⟨S1, .i32⟩
  | 115 => ⟨S4, .i32⟩
  | 116 => ⟨S3x3x128x2x2x128, .f32⟩
  | 117 => ⟨S1x1x128x128, .f32⟩
  | 118 => ⟨S128x128, .f32⟩
  | 119 => ⟨S_, .i32⟩
  | 120 => ⟨S1, .i32⟩
  | 121 => ⟨S_, .i32⟩
  | 122 => ⟨S1, .i32⟩
  | 123 => ⟨S_, .i32⟩
  | 124 => ⟨S1, .i32⟩
  | 125 => ⟨S_, .i32⟩
  | 126 => ⟨S1, .i32⟩
  | 127 => ⟨S4, .i32⟩
  | _ => ⟨S32x3x256x256, .f32⟩

abbrev hbmTy0_2 (i : Nat) : BufTy := match i % 128 with
  | 0 => ⟨S3x3x128x2x2x128, .f32⟩
  | 1 => ⟨S1x1x128x128, .f32⟩
  | 2 => ⟨S128x128, .f32⟩
  | 3 => ⟨S_, .i32⟩
  | 4 => ⟨S1, .i32⟩
  | 5 => ⟨S_, .i32⟩
  | 6 => ⟨S1, .i32⟩
  | 7 => ⟨S_, .i32⟩
  | 8 => ⟨S1, .i32⟩
  | 9 => ⟨S_, .i32⟩
  | 10 => ⟨S1, .i32⟩
  | 11 => ⟨S4, .i32⟩
  | 12 => ⟨S3x3x128x2x2x128, .f32⟩
  | 13 => ⟨S1x1x128x128, .f32⟩
  | 14 => ⟨S128x128, .f32⟩
  | 15 => ⟨S_, .i32⟩
  | 16 => ⟨S1, .i32⟩
  | 17 => ⟨S_, .i32⟩
  | 18 => ⟨S1, .i32⟩
  | 19 => ⟨S_, .i32⟩
  | 20 => ⟨S1, .i32⟩
  | 21 => ⟨S_, .i32⟩
  | 22 => ⟨S1, .i32⟩
  | 23 => ⟨S4, .i32⟩
  | 24 => ⟨S3x3x128x2x2x128, .f32⟩
  | 25 => ⟨S1x1x128x128, .f32⟩
  | 26 => ⟨S128x128, .f32⟩
  | 27 => ⟨S_, .i32⟩
  | 28 => ⟨S1, .i32⟩
  | 29 => ⟨S_, .i32⟩
  | 30 => ⟨S1, .i32⟩
  | 31 => ⟨S_, .i32⟩
  | 32 => ⟨S1, .i32⟩
  | 33 => ⟨S_, .i32⟩
  | 34 => ⟨S1, .i32⟩
  | 35 => ⟨S4, .i32⟩
  | 36 => ⟨S3x3x128x2x2x128, .f32⟩
  | 37 => ⟨S1x1x128x128, .f32⟩
  | 38 => ⟨S128x128, .f32⟩
  | 39 => ⟨S_, .i32⟩
  | 40 => ⟨S1, .i32⟩
  | 41 => ⟨S_, .i32⟩
  | 42 => ⟨S1, .i32⟩
  | 43 => ⟨S_, .i32⟩
  | 44 => ⟨S1, .i32⟩
  | 45 => ⟨S_, .i32⟩
  | 46 => ⟨S1, .i32⟩
  | 47 => ⟨S4, .i32⟩
  | 48 => ⟨S3x3x128x2x2x128, .f32⟩
  | 49 => ⟨S1x1x128x128, .f32⟩
  | 50 => ⟨S128x128, .f32⟩
  | 51 => ⟨S_, .i32⟩
  | 52 => ⟨S1, .i32⟩
  | 53 => ⟨S_, .i32⟩
  | 54 => ⟨S1, .i32⟩
  | 55 => ⟨S_, .i32⟩
  | 56 => ⟨S1, .i32⟩
  | 57 => ⟨S_, .i32⟩
  | 58 => ⟨S1, .i32⟩
  | 59 => ⟨S4, .i32⟩
  | 60 => ⟨S3x3x128x2x2x128, .f32⟩
  | 61 => ⟨S3x3x128x512, .f32⟩
  | 62 => ⟨S1x128, .f32⟩
  | 63 => ⟨S4x128, .f32⟩
  | 64 => ⟨S512, .f32⟩
  | 65 => ⟨S1x512, .f32⟩
  | 66 => ⟨S32x64x64x512, .f32⟩
  | 67 => ⟨S32x64x64x2x2x128, .f32⟩
  | 68 => ⟨S32x64x2x64x2x128, .f32⟩
  | 69 => ⟨S32x128x128x128, .f32⟩
  | 70 => ⟨S4x4x128x3, .f32⟩
  | 71 => ⟨S_, .i32⟩
  | 72 => ⟨S_, .f32⟩
  | 73 => ⟨S32x130x130x128, .f32⟩
  | 74 => ⟨S32x34x130x128, .f32⟩
  | 75 => ⟨S32x34x130x128, .f32⟩
  | 76 => ⟨S32x34x130x128, .f32⟩
  | 77 => ⟨S32x34x130x128, .f32⟩
  | 78 => ⟨S32x1x34x130x128, .f32⟩
  | 79 => ⟨S32x1x34x130x128, .f32⟩
  | 80 => ⟨S32x1x34x130x128, .f32⟩
  | 81 => ⟨S32x1x34x130x128, .f32⟩
  | 82 => ⟨S32x4x34x130x128, .f32⟩
  | 83 => ⟨S_, .f32⟩
  | 84 => ⟨S3x3x128x2x2x3, .f32⟩
  | 85 => ⟨S1x1x128x3, .f32⟩
  | 86 => ⟨S128x3, .f32⟩
  | 87 => ⟨S_, .i32⟩
  | 88 => ⟨S1, .i32⟩
  | 89 => ⟨S_, .i32⟩
  | 90 => ⟨S1, .i32⟩
  | 91 => ⟨S_, .i32⟩
  | 92 => ⟨S1, .i32⟩
  | 93 => ⟨S_, .i32⟩
  | 94 => ⟨S1, .i32⟩
  | 95 => ⟨S4, .i32⟩
  | 96 => ⟨S3x3x128x2x2x3, .f32⟩
  | 97 => ⟨S1x1x128x3, .f32⟩
  | 98 => ⟨S128x3, .f32⟩
  | 99 => ⟨S_, .i32⟩
  | 100 => ⟨S1, .i32⟩
  | 101 => ⟨S_, .i32⟩
  | 102 => ⟨S1, .i32⟩
  | 103 => ⟨S_, .i32⟩
  | 104 => ⟨S1, .i32⟩
  | 105 => ⟨S_, .i32⟩
  | 106 => ⟨S1, .i32⟩
  | 107 => ⟨S4, .i32⟩
  | 108 => ⟨S3x3x128x2x2x3, .f32⟩
  | 109 => ⟨S1x1x128x3, .f32⟩
  | 110 => ⟨S128x3, .f32⟩
  | 111 => ⟨S_, .i32⟩
  | 112 => ⟨S1, .i32⟩
  | 113 => ⟨S_, .i32⟩
  | 114 => ⟨S1, .i32⟩
  | 115 => ⟨S_, .i32⟩
  | 116 => ⟨S1, .i32⟩
  | 117 => ⟨S_, .i32⟩
  | 118 => ⟨S1, .i32⟩
  | 119 => ⟨S4, .i32⟩
  | 120 => ⟨S3x3x128x2x2x3, .f32⟩
  | 121 => ⟨S1x1x128x3, .f32⟩
  | 122 => ⟨S128x3, .f32⟩
  | 123 => ⟨S_, .i32⟩
  | 124 => ⟨S1, .i32⟩
  | 125 => ⟨S_, .i32⟩
  | 126 => ⟨S1, .i32⟩
  | 127 => ⟨S_, .i32⟩
  | _ => ⟨S32x3x256x256, .f32⟩

abbrev hbmTy0_3 (i : Nat) : BufTy := match i % 128 with
  | 0 => ⟨S1, .i32⟩
  | 1 => ⟨S_, .i32⟩
  | 2 => ⟨S1, .i32⟩
  | 3 => ⟨S4, .i32⟩
  | 4 => ⟨S3x3x128x2x2x3, .f32⟩
  | 5 => ⟨S1x1x128x3, .f32⟩
  | 6 => ⟨S128x3, .f32⟩
  | 7 => ⟨S_, .i32⟩
  | 8 => ⟨S1, .i32⟩
  | 9 => ⟨S_, .i32⟩
  | 10 => ⟨S1, .i32⟩
  | 11 => ⟨S_, .i32⟩
  | 12 => ⟨S1, .i32⟩
  | 13 => ⟨S_, .i32⟩
  | 14 => ⟨S1, .i32⟩
  | 15 => ⟨S4, .i32⟩
  | 16 => ⟨S3x3x128x2x2x3, .f32⟩
  | 17 => ⟨S1x1x128x3, .f32⟩
  | 18 => ⟨S128x3, .f32⟩
  | 19 => ⟨S_, .i32⟩
  | 20 => ⟨S1, .i32⟩
  | 21 => ⟨S_, .i32⟩
  | 22 => ⟨S1, .i32⟩
  | 23 => ⟨S_, .i32⟩
  | 24 => ⟨S1, .i32⟩
  | 25 => ⟨S_, .i32⟩
  | 26 => ⟨S1, .i32⟩
  | 27 => ⟨S4, .i32⟩
  | 28 => ⟨S3x3x128x2x2x3, .f32⟩
  | 29 => ⟨S1x1x128x3, .f32⟩
  | 30 => ⟨S128x3, .f32⟩
  | 31 => ⟨S_, .i32⟩
  | 32 => ⟨S1, .i32⟩
  | 33 => ⟨S_, .i32⟩
  | 34 => ⟨S1, .i32⟩
  | 35 => ⟨S_, .i32⟩
  | 36 => ⟨S1, .i32⟩
  | 37 => ⟨S_, .i32⟩
  | 38 => ⟨S1, .i32⟩
  | 39 => ⟨S4, .i32⟩
  | 40 => ⟨S3x3x128x2x2x3, .f32⟩
  | 41 => ⟨S1x1x128x3, .f32⟩
  | 42 => ⟨S128x3, .f32⟩
  | 43 => ⟨S_, .i32⟩
  | 44 => ⟨S1, .i32⟩
  | 45 => ⟨S_, .i32⟩
  | 46 => ⟨S1, .i32⟩
  | 47 => ⟨S_, .i32⟩
  | 48 => ⟨S1, .i32⟩
  | 49 => ⟨S_, .i32⟩
  | 50 => ⟨S1, .i32⟩
  | 51 => ⟨S4, .i32⟩
  | 52 => ⟨S3x3x128x2x2x3, .f32⟩
  | 53 => ⟨S1x1x128x3, .f32⟩
  | 54 => ⟨S128x3, .f32⟩
  | 55 => ⟨S_, .i32⟩
  | 56 => ⟨S1, .i32⟩
  | 57 => ⟨S_, .i32⟩
  | 58 => ⟨S1, .i32⟩
  | 59 => ⟨S_, .i32⟩
  | 60 => ⟨S1, .i32⟩
  | 61 => ⟨S_, .i32⟩
  | 62 => ⟨S1, .i32⟩
  | 63 => ⟨S4, .i32⟩
  | 64 => ⟨S3x3x128x2x2x3, .f32⟩
  | 65 => ⟨S1x1x128x3, .f32⟩
  | 66 => ⟨S128x3, .f32⟩
  | 67 => ⟨S_, .i32⟩
  | 68 => ⟨S1, .i32⟩
  | 69 => ⟨S_, .i32⟩
  | 70 => ⟨S1, .i32⟩
  | 71 => ⟨S_, .i32⟩
  | 72 => ⟨S1, .i32⟩
  | 73 => ⟨S_, .i32⟩
  | 74 => ⟨S1, .i32⟩
  | 75 => ⟨S4, .i32⟩
  | 76 => ⟨S3x3x128x2x2x3, .f32⟩
  | 77 => ⟨S1x1x128x3, .f32⟩
  | 78 => ⟨S128x3, .f32⟩
  | 79 => ⟨S_, .i32⟩
  | 80 => ⟨S1, .i32⟩
  | 81 => ⟨S_, .i32⟩
  | 82 => ⟨S1, .i32⟩
  | 83 => ⟨S_, .i32⟩
  | 84 => ⟨S1, .i32⟩
  | 85 => ⟨S_, .i32⟩
  | 86 => ⟨S1, .i32⟩
  | 87 => ⟨S4, .i32⟩
  | 88 => ⟨S3x3x128x2x2x3, .f32⟩
  | 89 => ⟨S1x1x128x3, .f32⟩
  | 90 => ⟨S128x3, .f32⟩
  | 91 => ⟨S_, .i32⟩
  | 92 => ⟨S1, .i32⟩
  | 93 => ⟨S_, .i32⟩
  | 94 => ⟨S1, .i32⟩
  | 95 => ⟨S_, .i32⟩
  | 96 => ⟨S1, .i32⟩
  | 97 => ⟨S_, .i32⟩
  | 98 => ⟨S1, .i32⟩
  | 99 => ⟨S4, .i32⟩
  | 100 => ⟨S3x3x128x2x2x3, .f32⟩
  | 101 => ⟨S1x1x128x3, .f32⟩
  | 102 => ⟨S128x3, .f32⟩
  | 103 => ⟨S_, .i32⟩
  | 104 => ⟨S1, .i32⟩
  | 105 => ⟨S_, .i32⟩
  | 106 => ⟨S1, .i32⟩
  | 107 => ⟨S_, .i32⟩
  | 108 => ⟨S1, .i32⟩
  | 109 => ⟨S_, .i32⟩
  | 110 => ⟨S1, .i32⟩
  | 111 => ⟨S4, .i32⟩
  | 112 => ⟨S3x3x128x2x2x3, .f32⟩
  | 113 => ⟨S1x1x128x3, .f32⟩
  | 114 => ⟨S128x3, .f32⟩
  | 115 => ⟨S_, .i32⟩
  | 116 => ⟨S1, .i32⟩
  | 117 => ⟨S_, .i32⟩
  | 118 => ⟨S1, .i32⟩
  | 119 => ⟨S_, .i32⟩
  | 120 => ⟨S1, .i32⟩
  | 121 => ⟨S_, .i32⟩
  | 122 => ⟨S1, .i32⟩
  | 123 => ⟨S4, .i32⟩
  | 124 => ⟨S3x3x128x2x2x3, .f32⟩
  | 125 => ⟨S1x1x128x3, .f32⟩
  | 126 => ⟨S128x3, .f32⟩
  | 127 => ⟨S_, .i32⟩
  | _ => ⟨S32x3x256x256, .f32⟩

abbrev hbmTy0_4 (i : Nat) : BufTy := match i % 128 with
  | 0 => ⟨S1, .i32⟩
  | 1 => ⟨S_, .i32⟩
  | 2 => ⟨S1, .i32⟩
  | 3 => ⟨S_, .i32⟩
  | 4 => ⟨S1, .i32⟩
  | 5 => ⟨S_, .i32⟩
  | 6 => ⟨S1, .i32⟩
  | 7 => ⟨S4, .i32⟩
  | 8 => ⟨S3x3x128x2x2x3, .f32⟩
  | 9 => ⟨S1x1x128x3, .f32⟩
  | 10 => ⟨S128x3, .f32⟩
  | 11 => ⟨S_, .i32⟩
  | 12 => ⟨S1, .i32⟩
  | 13 => ⟨S_, .i32⟩
  | 14 => ⟨S1, .i32⟩
  | 15 => ⟨S_, .i32⟩
  | 16 => ⟨S1, .i32⟩
  | 17 => ⟨S_, .i32⟩
  | 18 => ⟨S1, .i32⟩
  | 19 => ⟨S4, .i32⟩
  | 20 => ⟨S3x3x128x2x2x3, .f32⟩
  | 21 => ⟨S3x3x128x12, .f32⟩
  | 22 => ⟨S1x3, .f32⟩
  | 23 => ⟨S4x3, .f32⟩
  | 24 => ⟨S12, .f32⟩
  | 25 => ⟨S1x12, .f32⟩
  | 26 => ⟨S32x128x128x12, .f32⟩
  | 27 => ⟨S32x128x128x2x2x3, .f32⟩
  | 28 => ⟨S32x128x2x128x2x3, .f32⟩
  | 29 => ⟨S32x256x256x3, .f32⟩
  | 30 => ⟨S32x3x256x256, .f32⟩
  | 31 => ⟨S32x4096x1, .i32⟩
  | 32 => ⟨S32x4096, .i32⟩
  | 33 => ⟨S131072, .i32⟩
  | 34 => ⟨S131072x1, .i32⟩
  | _ => ⟨S32x3x256x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x3x256x256, .f32⟩

abbrev bufTy : (tb : Table) → Fin (tcTables nBuf tb) → BufTy
  | .hbm, ⟨i, _⟩ => hbmTy i
  | .local _ .vmem, ⟨0, _⟩ => ⟨S1x129x129x12, .f32⟩
  | .local _ .vmem, ⟨1, _⟩ => ⟨S1x129x129x12, .f32⟩
  | .local _ .vmem, ⟨2, _⟩ => ⟨S2x2x12x128, .f32⟩
  | .local _ .vmem, ⟨3, _⟩ => ⟨S1x128, .f32⟩
  | .local _ .vmem, ⟨4, _⟩ => ⟨S1x128x128x128, .f32⟩
  | .local _ .vmem, ⟨5, _⟩ => ⟨S1x128x128x128, .f32⟩
  | .local _ .vmem, ⟨6, _⟩ => ⟨S1x65x65x512, .f32⟩
  | .local _ .vmem, ⟨7, _⟩ => ⟨S1x65x65x512, .f32⟩
  | .local _ .vmem, ⟨8, _⟩ => ⟨S2x2x512x128, .f32⟩
  | .local _ .vmem, ⟨9, _⟩ => ⟨S1x128, .f32⟩
  | .local _ .vmem, ⟨10, _⟩ => ⟨S1x64x64x128, .f32⟩
  | .local _ .vmem, ⟨11, _⟩ => ⟨S1x64x64x128, .f32⟩
  | .local _ .vmem, ⟨12, _⟩ => ⟨S1x66x66x128, .f32⟩
  | .local _ .vmem, ⟨13, _⟩ => ⟨S1x66x66x128, .f32⟩
  | .local _ .vmem, ⟨14, _⟩ => ⟨S3x3x128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S1x64x64x128, .f32⟩
  | .local _ .vmem, ⟨19, _⟩ => ⟨S1x64x64x128, .f32⟩
  | .local _ .vmem, ⟨20, _⟩ => ⟨S1x66x66x128, .f32⟩
  | .local _ .vmem, ⟨21, _⟩ => ⟨S1x66x66x128, .f32⟩
  | .local _ .vmem, ⟨22, _⟩ => ⟨S3x3x128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S1x64x64x128, .f32⟩
  | .local _ .vmem, ⟨27, _⟩ => ⟨S1x64x64x128, .f32⟩
  | .local _ .vmem, ⟨28, _⟩ => ⟨S1x64x64x128, .f32⟩
  | .local _ .vmem, ⟨29, _⟩ => ⟨S1x64x64x128, .f32⟩
  | .local _ .vmem, ⟨30, _⟩ => ⟨S128x64, .f32⟩
  | .local _ .vmem, ⟨31, _⟩ => ⟨S1x64, .f32⟩
  | .local _ .vmem, ⟨32, _⟩ => ⟨S512x64, .f32⟩
  | .local _ .vmem, ⟨33, _⟩ => ⟨S1x512, .f32⟩
  | .local _ .vmem, ⟨34, _⟩ => ⟨S1x64x64x64, .f32⟩
  | .local _ .vmem, ⟨35, _⟩ => ⟨S1x64x64x64, .f32⟩
  | .local _ .vmem, ⟨36, _⟩ => ⟨S1x4096x64, .f32⟩
  | .local _ .vmem, ⟨37, _⟩ => ⟨S1x4096x64, .f32⟩
  | .local _ .vmem, ⟨38, _⟩ => ⟨S1x4096x128, .i32⟩
  | .local _ .vmem, ⟨39, _⟩ => ⟨S1x4096x128, .i32⟩
  | .local _ .vmem, ⟨40, _⟩ => ⟨S1x66x66x64, .f32⟩
  | .local _ .vmem, ⟨41, _⟩ => ⟨S1x66x66x64, .f32⟩
  | .local _ .vmem, ⟨42, _⟩ => ⟨S1x64x64x64, .f32⟩
  | .local _ .vmem, ⟨43, _⟩ => ⟨S1x64x64x64, .f32⟩
  | .local _ .vmem, ⟨44, _⟩ => ⟨S3x3x64x128, .f32⟩
  | .local _ .vmem, ⟨45, _⟩ => ⟨S1x128, .f32⟩
  | .local _ .vmem, ⟨46, _⟩ => ⟨S1x64x64x128, .f32⟩
  | .local _ .vmem, ⟨47, _⟩ => ⟨S1x64x64x128, .f32⟩
  | .local _ .vmem, ⟨48, _⟩ => ⟨S1x1x128, .f32⟩
  | .local _ .vmem, ⟨49, _⟩ => ⟨S1x1x128, .f32⟩
  | .local _ .vmem, ⟨50, _⟩ => ⟨S1x66x66x128, .f32⟩
  | .local _ .vmem, ⟨51, _⟩ => ⟨S1x66x66x128, .f32⟩
  | .local _ .vmem, ⟨52, _⟩ => ⟨S3x3x128x128, .f32⟩
  | .local _ .vmem, ⟨53, _⟩ => ⟨S1x128, .f32⟩
  | .local _ .vmem, ⟨54, _⟩ => ⟨S128x128, .f32⟩
  | .local _ .vmem, ⟨55, _⟩ => ⟨S1x128, .f32⟩
  | .local _ .vmem, ⟨56, _⟩ => ⟨S1x64x64x128, .f32⟩
  | .local _ .vmem, ⟨57, _⟩ => ⟨S1x64x64x128, .f32⟩
  | .local _ .vmem, ⟨58, _⟩ => ⟨S1x66x66x128, .f32⟩
  | .local _ .vmem, ⟨59, _⟩ => ⟨S1x66x66x128, .f32⟩
  | .local _ .vmem, ⟨60, _⟩ => ⟨S3x3x128x128, .f32⟩
  | .local _ .vmem, ⟨61, _⟩ => ⟨S1x128, .f32⟩
  | .local _ .vmem, ⟨62, _⟩ => ⟨S128x128, .f32⟩
  | .local _ .vmem, ⟨63, _⟩ => ⟨S1x128, .f32⟩
  | .local _ .vmem, ⟨64, _⟩ => ⟨S1x64x64x128, .f32⟩
  | .local _ .vmem, ⟨65, _⟩ => ⟨S1x64x64x128, .f32⟩
  | .local _ .vmem, ⟨66, _⟩ => ⟨S1x1x66x66x128, .f32⟩
  | .local _ .vmem, ⟨67, _⟩ => ⟨S1x1x66x66x128, .f32⟩
  | .local _ .vmem, ⟨68, _⟩ => ⟨S3x3x128x512, .f32⟩
  | .local _ .vmem, ⟨69, _⟩ => ⟨S1x512, .f32⟩
  | .local _ .vmem, ⟨70, _⟩ => ⟨S1x64x64x512, .f32⟩
  | .local _ .vmem, ⟨71, _⟩ => ⟨S1x64x64x512, .f32⟩
  | .local _ .vmem, ⟨72, _⟩ => ⟨S1x1x34x130x128, .f32⟩
  | .local _ .vmem, ⟨73, _⟩ => ⟨S1x1x34x130x128, .f32⟩
  | .local _ .vmem, ⟨74, _⟩ => ⟨S3x3x128x12, .f32⟩
  | .local _ .vmem, ⟨75, _⟩ => ⟨S1x12, .f32⟩
  | .local _ .vmem, ⟨76, _⟩ => ⟨S1x32x128x12, .f32⟩
  | .local _ .vmem, ⟨77, _⟩ => ⟨S1x32x128x12, .f32⟩
  | _, _ => ⟨S32x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_c : Ref sig .tc := ⟨.hbm, 32, rfl⟩
abbrev main_call0_v0 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_c_0 : Ref sig .tc := ⟨.hbm, 44, rfl⟩
abbrev main_call1_v0 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_c_1 : Ref sig .tc := ⟨.hbm, 58, rfl⟩
abbrev main_call2_v0 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_c_2 : Ref sig .tc := ⟨.hbm, 67, rfl⟩
abbrev main_call3_v0 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_cst : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41_0 : Ref sig .tc := ⟨.hbm, 80, rfl⟩
abbrev main_v41_1 : Ref sig .tc := ⟨.hbm, 81, rfl⟩
abbrev main_v41_2 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_c_3 : Ref sig .tc := ⟨.hbm, 86, rfl⟩
abbrev main_call4_v0 : Ref sig .tc := ⟨.hbm, 87, rfl⟩
abbrev main_v45 : Ref sig .tc := ⟨.hbm, 88, rfl⟩
abbrev main_v46 : Ref sig .tc := ⟨.hbm, 89, rfl⟩
abbrev main_v47_0 : Ref sig .tc := ⟨.hbm, 90, rfl⟩
abbrev main_v47_1 : Ref sig .tc := ⟨.hbm, 91, rfl⟩
abbrev main_v48 : Ref sig .tc := ⟨.hbm, 92, rfl⟩
abbrev main_v49 : Ref sig .tc := ⟨.hbm, 93, rfl⟩
abbrev main_cst_4 : Ref sig .tc := ⟨.hbm, 94, rfl⟩
abbrev main_v50 : Ref sig .tc := ⟨.hbm, 95, rfl⟩
abbrev main_cst_5 : Ref sig .tc := ⟨.hbm, 96, rfl⟩
abbrev main_v51 : Ref sig .tc := ⟨.hbm, 97, rfl⟩
abbrev main_cst_6 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_c_7 : Ref sig .tc := ⟨.hbm, 103, rfl⟩
abbrev main_call5_v0 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_c_8 : Ref sig .tc := ⟨.hbm, 112, rfl⟩
abbrev main_call6_v0 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_c_9 : Ref sig .tc := ⟨.hbm, 119, rfl⟩
abbrev main_call7_v0 : Ref sig .tc := ⟨.hbm, 120, rfl⟩
abbrev main_v68 : Ref sig .tc := ⟨.hbm, 121, rfl⟩
abbrev main_v69 : Ref sig .tc := ⟨.hbm, 122, rfl⟩
abbrev main_cst_10 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_c_11 : Ref sig .tc := ⟨.hbm, 127, rfl⟩
abbrev main_v73 : Ref sig .tc := ⟨.hbm, 128, rfl⟩
abbrev main_c_12 : Ref sig .tc := ⟨.hbm, 129, rfl⟩
abbrev main_v74 : Ref sig .tc := ⟨.hbm, 130, rfl⟩
abbrev main_c_13 : Ref sig .tc := ⟨.hbm, 131, rfl⟩
abbrev main_v75 : Ref sig .tc := ⟨.hbm, 132, rfl⟩
abbrev main_c_14 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_c_15 : Ref sig .tc := ⟨.hbm, 139, rfl⟩
abbrev main_v81 : Ref sig .tc := ⟨.hbm, 140, rfl⟩
abbrev main_c_16 : Ref sig .tc := ⟨.hbm, 141, rfl⟩
abbrev main_v82 : Ref sig .tc := ⟨.hbm, 142, rfl⟩
abbrev main_c_17 : Ref sig .tc := ⟨.hbm, 143, rfl⟩
abbrev main_v83 : Ref sig .tc := ⟨.hbm, 144, rfl⟩
abbrev main_c_18 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_c_19 : Ref sig .tc := ⟨.hbm, 151, rfl⟩
abbrev main_v89 : Ref sig .tc := ⟨.hbm, 152, rfl⟩
abbrev main_c_20 : Ref sig .tc := ⟨.hbm, 153, rfl⟩
abbrev main_v90 : Ref sig .tc := ⟨.hbm, 154, rfl⟩
abbrev main_c_21 : Ref sig .tc := ⟨.hbm, 155, rfl⟩
abbrev main_v91 : Ref sig .tc := ⟨.hbm, 156, rfl⟩
abbrev main_c_22 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_c_23 : Ref sig .tc := ⟨.hbm, 163, rfl⟩
abbrev main_v97 : Ref sig .tc := ⟨.hbm, 164, rfl⟩
abbrev main_c_24 : Ref sig .tc := ⟨.hbm, 165, rfl⟩
abbrev main_v98 : Ref sig .tc := ⟨.hbm, 166, rfl⟩
abbrev main_c_25 : Ref sig .tc := ⟨.hbm, 167, rfl⟩
abbrev main_v99 : Ref sig .tc := ⟨.hbm, 168, rfl⟩
abbrev main_c_26 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_c_27 : Ref sig .tc := ⟨.hbm, 175, rfl⟩
abbrev main_v105 : Ref sig .tc := ⟨.hbm, 176, rfl⟩
abbrev main_c_28 : Ref sig .tc := ⟨.hbm, 177, rfl⟩
abbrev main_v106 : Ref sig .tc := ⟨.hbm, 178, rfl⟩
abbrev main_c_29 : Ref sig .tc := ⟨.hbm, 179, rfl⟩
abbrev main_v107 : Ref sig .tc := ⟨.hbm, 180, rfl⟩
abbrev main_c_30 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_c_31 : Ref sig .tc := ⟨.hbm, 187, rfl⟩
abbrev main_v113 : Ref sig .tc := ⟨.hbm, 188, rfl⟩
abbrev main_c_32 : Ref sig .tc := ⟨.hbm, 189, rfl⟩
abbrev main_v114 : Ref sig .tc := ⟨.hbm, 190, rfl⟩
abbrev main_c_33 : Ref sig .tc := ⟨.hbm, 191, rfl⟩
abbrev main_v115 : Ref sig .tc := ⟨.hbm, 192, rfl⟩
abbrev main_c_34 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_c_35 : Ref sig .tc := ⟨.hbm, 199, rfl⟩
abbrev main_v121 : Ref sig .tc := ⟨.hbm, 200, rfl⟩
abbrev main_c_36 : Ref sig .tc := ⟨.hbm, 201, rfl⟩
abbrev main_v122 : Ref sig .tc := ⟨.hbm, 202, rfl⟩
abbrev main_c_37 : Ref sig .tc := ⟨.hbm, 203, rfl⟩
abbrev main_v123 : Ref sig .tc := ⟨.hbm, 204, rfl⟩
abbrev main_c_38 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_c_39 : Ref sig .tc := ⟨.hbm, 211, rfl⟩
abbrev main_v129 : Ref sig .tc := ⟨.hbm, 212, rfl⟩
abbrev main_c_40 : Ref sig .tc := ⟨.hbm, 213, rfl⟩
abbrev main_v130 : Ref sig .tc := ⟨.hbm, 214, rfl⟩
abbrev main_c_41 : Ref sig .tc := ⟨.hbm, 215, rfl⟩
abbrev main_v131 : Ref sig .tc := ⟨.hbm, 216, rfl⟩
abbrev main_c_42 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_c_43 : Ref sig .tc := ⟨.hbm, 223, rfl⟩
abbrev main_v137 : Ref sig .tc := ⟨.hbm, 224, rfl⟩
abbrev main_c_44 : Ref sig .tc := ⟨.hbm, 225, rfl⟩
abbrev main_v138 : Ref sig .tc := ⟨.hbm, 226, rfl⟩
abbrev main_c_45 : Ref sig .tc := ⟨.hbm, 227, rfl⟩
abbrev main_v139 : Ref sig .tc := ⟨.hbm, 228, rfl⟩
abbrev main_c_46 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_c_47 : Ref sig .tc := ⟨.hbm, 235, rfl⟩
abbrev main_v145 : Ref sig .tc := ⟨.hbm, 236, rfl⟩
abbrev main_c_48 : Ref sig .tc := ⟨.hbm, 237, rfl⟩
abbrev main_v146 : Ref sig .tc := ⟨.hbm, 238, rfl⟩
abbrev main_c_49 : Ref sig .tc := ⟨.hbm, 239, rfl⟩
abbrev main_v147 : Ref sig .tc := ⟨.hbm, 240, rfl⟩
abbrev main_c_50 : Ref sig .tc := ⟨.hbm, 241, rfl⟩
abbrev main_v148 : Ref sig .tc := ⟨.hbm, 242, rfl⟩
abbrev main_v149 : Ref sig .tc := ⟨.hbm, 243, rfl⟩
abbrev main_v150 : Ref sig .tc := ⟨.hbm, 244, rfl⟩
abbrev main_v151 : Ref sig .tc := ⟨.hbm, 245, rfl⟩
abbrev main_v152 : Ref sig .tc := ⟨.hbm, 246, rfl⟩
abbrev main_c_51 : Ref sig .tc := ⟨.hbm, 247, rfl⟩
abbrev main_v153 : Ref sig .tc := ⟨.hbm, 248, rfl⟩
abbrev main_c_52 : Ref sig .tc := ⟨.hbm, 249, rfl⟩
abbrev main_v154 : Ref sig .tc := ⟨.hbm, 250, rfl⟩
abbrev main_c_53 : Ref sig .tc := ⟨.hbm, 251, rfl⟩
abbrev main_v155 : Ref sig .tc := ⟨.hbm, 252, rfl⟩
abbrev main_c_54 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_c_55 : Ref sig .tc := ⟨.hbm, 259, rfl⟩
abbrev main_v161 : Ref sig .tc := ⟨.hbm, 260, rfl⟩
abbrev main_c_56 : Ref sig .tc := ⟨.hbm, 261, rfl⟩
abbrev main_v162 : Ref sig .tc := ⟨.hbm, 262, rfl⟩
abbrev main_c_57 : Ref sig .tc := ⟨.hbm, 263, rfl⟩
abbrev main_v163 : Ref sig .tc := ⟨.hbm, 264, rfl⟩
abbrev main_c_58 : Ref sig .tc := ⟨.hbm, 265, rfl⟩
abbrev main_v164 : Ref sig .tc := ⟨.hbm, 266, rfl⟩
abbrev main_v165 : Ref sig .tc := ⟨.hbm, 267, rfl⟩
abbrev main_v166 : Ref sig .tc := ⟨.hbm, 268, rfl⟩
abbrev main_v167 : Ref sig .tc := ⟨.hbm, 269, rfl⟩
abbrev main_v168 : Ref sig .tc := ⟨.hbm, 270, rfl⟩
abbrev main_c_59 : Ref sig .tc := ⟨.hbm, 271, rfl⟩
abbrev main_v169 : Ref sig .tc := ⟨.hbm, 272, rfl⟩
abbrev main_c_60 : Ref sig .tc := ⟨.hbm, 273, rfl⟩
abbrev main_v170 : Ref sig .tc := ⟨.hbm, 274, rfl⟩
abbrev main_c_61 : Ref sig .tc := ⟨.hbm, 275, rfl⟩
abbrev main_v171 : Ref sig .tc := ⟨.hbm, 276, rfl⟩
abbrev main_c_62 : Ref sig .tc := ⟨.hbm, 277, rfl⟩
abbrev main_v172 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_v176 : Ref sig .tc := ⟨.hbm, 282, rfl⟩
abbrev main_c_63 : Ref sig .tc := ⟨.hbm, 283, rfl⟩
abbrev main_v177 : Ref sig .tc := ⟨.hbm, 284, rfl⟩
abbrev main_c_64 : Ref sig .tc := ⟨.hbm, 285, rfl⟩
abbrev main_v178 : Ref sig .tc := ⟨.hbm, 286, rfl⟩
abbrev main_c_65 : Ref sig .tc := ⟨.hbm, 287, rfl⟩
abbrev main_v179 : Ref sig .tc := ⟨.hbm, 288, rfl⟩
abbrev main_c_66 : Ref sig .tc := ⟨.hbm, 289, rfl⟩
abbrev main_v180 : Ref sig .tc := ⟨.hbm, 290, rfl⟩
abbrev main_v181 : Ref sig .tc := ⟨.hbm, 291, rfl⟩
abbrev main_v182 : Ref sig .tc := ⟨.hbm, 292, rfl⟩
abbrev main_v183 : Ref sig .tc := ⟨.hbm, 293, rfl⟩
abbrev main_v184 : Ref sig .tc := ⟨.hbm, 294, rfl⟩
abbrev main_c_67 : Ref sig .tc := ⟨.hbm, 295, rfl⟩
abbrev main_v185 : Ref sig .tc := ⟨.hbm, 296, rfl⟩
abbrev main_c_68 : Ref sig .tc := ⟨.hbm, 297, rfl⟩
abbrev main_v186 : Ref sig .tc := ⟨.hbm, 298, rfl⟩
abbrev main_c_69 : Ref sig .tc := ⟨.hbm, 299, rfl⟩
abbrev main_v187 : Ref sig .tc := ⟨.hbm, 300, rfl⟩
abbrev main_c_70 : Ref sig .tc := ⟨.hbm, 301, rfl⟩
abbrev main_v188 : Ref sig .tc := ⟨.hbm, 302, rfl⟩
abbrev main_v189 : Ref sig .tc := ⟨.hbm, 303, rfl⟩
abbrev main_v190 : Ref sig .tc := ⟨.hbm, 304, rfl⟩
abbrev main_v191 : Ref sig .tc := ⟨.hbm, 305, rfl⟩
abbrev main_v192 : Ref sig .tc := ⟨.hbm, 306, rfl⟩
abbrev main_c_71 : Ref sig .tc := ⟨.hbm, 307, rfl⟩
abbrev main_v193 : Ref sig .tc := ⟨.hbm, 308, rfl⟩
abbrev main_c_72 : Ref sig .tc := ⟨.hbm, 309, rfl⟩
abbrev main_v194 : Ref sig .tc := ⟨.hbm, 310, rfl⟩
abbrev main_c_73 : Ref sig .tc := ⟨.hbm, 311, rfl⟩
abbrev main_v195 : Ref sig .tc := ⟨.hbm, 312, rfl⟩
abbrev main_c_74 : Ref sig .tc := ⟨.hbm, 313, rfl⟩
abbrev main_v196 : Ref sig .tc := ⟨.hbm, 314, rfl⟩
abbrev main_v197 : Ref sig .tc := ⟨.hbm, 315, rfl⟩
abbrev main_v198 : Ref sig .tc := ⟨.hbm, 316, rfl⟩
abbrev main_v199 : Ref sig .tc := ⟨.hbm, 317, rfl⟩
abbrev main_v200 : Ref sig .tc := ⟨.hbm, 318, rfl⟩
abbrev main_v201 : Ref sig .tc := ⟨.hbm, 319, rfl⟩
abbrev main_v202 : Ref sig .tc := ⟨.hbm, 320, rfl⟩
abbrev main_v203 : Ref sig .tc := ⟨.hbm, 321, rfl⟩
abbrev main_v204 : Ref sig .tc := ⟨.hbm, 322, rfl⟩
abbrev main_v205 : Ref sig .tc := ⟨.hbm, 323, rfl⟩
abbrev main_v206 : Ref sig .tc := ⟨.hbm, 324, rfl⟩
abbrev main_v207 : Ref sig .tc := ⟨.hbm, 325, rfl⟩
abbrev main_v208 : Ref sig .tc := ⟨.hbm, 326, rfl⟩
abbrev main_c_75 : Ref sig .tc := ⟨.hbm, 327, rfl⟩
abbrev main_call8_v0 : Ref sig .tc := ⟨.hbm, 328, rfl⟩
abbrev main_v209 : Ref sig .tc := ⟨.hbm, 329, rfl⟩
abbrev main_v210 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_v214 : Ref sig .tc := ⟨.hbm, 334, rfl⟩
abbrev main_v215 : Ref sig .tc := ⟨.hbm, 335, rfl⟩
abbrev main_v216 : Ref sig .tc := ⟨.hbm, 336, rfl⟩
abbrev main_v217 : Ref sig .tc := ⟨.hbm, 337, rfl⟩
abbrev main_v218 : Ref sig .tc := ⟨.hbm, 338, rfl⟩
abbrev main_cst_76 : Ref sig .tc := ⟨.hbm, 339, rfl⟩
abbrev main_v219 : Ref sig .tc := ⟨.hbm, 340, rfl⟩
abbrev main_v220 : Ref sig .tc := ⟨.hbm, 341, rfl⟩
abbrev main_v221 : Ref sig .tc := ⟨.hbm, 342, rfl⟩
abbrev main_c_77 : Ref sig .tc := ⟨.hbm, 343, rfl⟩
abbrev main_v222 : Ref sig .tc := ⟨.hbm, 344, rfl⟩
abbrev main_c_78 : Ref sig .tc := ⟨.hbm, 345, rfl⟩
abbrev main_v223 : Ref sig .tc := ⟨.hbm, 346, rfl⟩
abbrev main_c_79 : Ref sig .tc := ⟨.hbm, 347, rfl⟩
abbrev main_v224 : Ref sig .tc := ⟨.hbm, 348, rfl⟩
abbrev main_c_80 : Ref sig .tc := ⟨.hbm, 349, rfl⟩
abbrev main_v225 : Ref sig .tc := ⟨.hbm, 350, rfl⟩
abbrev main_v226 : Ref sig .tc := ⟨.hbm, 351, rfl⟩
abbrev main_v227 : Ref sig .tc := ⟨.hbm, 352, rfl⟩
abbrev main_v228 : Ref sig .tc := ⟨.hbm, 353, rfl⟩
abbrev main_v229 : Ref sig .tc := ⟨.hbm, 354, rfl⟩
abbrev main_c_81 : Ref sig .tc := ⟨.hbm, 355, rfl⟩
abbrev main_v230 : Ref sig .tc := ⟨.hbm, 356, rfl⟩
abbrev main_c_82 : Ref sig .tc := ⟨.hbm, 357, rfl⟩
abbrev main_v231 : Ref sig .tc := ⟨.hbm, 358, rfl⟩
abbrev main_c_83 : Ref sig .tc := ⟨.hbm, 359, rfl⟩
abbrev main_v232 : Ref sig .tc := ⟨.hbm, 360, rfl⟩
abbrev main_c_84 : Ref sig .tc := ⟨.hbm, 361, rfl⟩
abbrev main_v233 : Ref sig .tc := ⟨.hbm, 362, rfl⟩
abbrev main_v234 : Ref sig .tc := ⟨.hbm, 363, rfl⟩
abbrev main_v235 : Ref sig .tc := ⟨.hbm, 364, rfl⟩
abbrev main_v236 : Ref sig .tc := ⟨.hbm, 365, rfl⟩
abbrev main_v237 : Ref sig .tc := ⟨.hbm, 366, rfl⟩
abbrev main_c_85 : Ref sig .tc := ⟨.hbm, 367, rfl⟩
abbrev main_v238 : Ref sig .tc := ⟨.hbm, 368, rfl⟩
abbrev main_c_86 : Ref sig .tc := ⟨.hbm, 369, rfl⟩
abbrev main_v239 : Ref sig .tc := ⟨.hbm, 370, rfl⟩
abbrev main_c_87 : Ref sig .tc := ⟨.hbm, 371, rfl⟩
abbrev main_v240 : Ref sig .tc := ⟨.hbm, 372, rfl⟩
abbrev main_c_88 : Ref sig .tc := ⟨.hbm, 373, rfl⟩
abbrev main_v241 : Ref sig .tc := ⟨.hbm, 374, rfl⟩
abbrev main_v242 : Ref sig .tc := ⟨.hbm, 375, rfl⟩
abbrev main_v243 : Ref sig .tc := ⟨.hbm, 376, rfl⟩
abbrev main_v244 : Ref sig .tc := ⟨.hbm, 377, rfl⟩
abbrev main_v245 : Ref sig .tc := ⟨.hbm, 378, rfl⟩
abbrev main_c_89 : Ref sig .tc := ⟨.hbm, 379, rfl⟩
abbrev main_v246 : Ref sig .tc := ⟨.hbm, 380, rfl⟩
abbrev main_c_90 : Ref sig .tc := ⟨.hbm, 381, rfl⟩
abbrev main_v247 : Ref sig .tc := ⟨.hbm, 382, rfl⟩
abbrev main_c_91 : Ref sig .tc := ⟨.hbm, 383, rfl⟩
abbrev main_v248 : Ref sig .tc := ⟨.hbm, 384, rfl⟩
abbrev main_c_92 : Ref sig .tc := ⟨.hbm, 385, rfl⟩
abbrev main_v249 : Ref sig .tc := ⟨.hbm, 386, rfl⟩
abbrev main_v250 : Ref sig .tc := ⟨.hbm, 387, rfl⟩
abbrev main_v251 : Ref sig .tc := ⟨.hbm, 388, rfl⟩
abbrev main_v252 : Ref sig .tc := ⟨.hbm, 389, rfl⟩
abbrev main_v253 : Ref sig .tc := ⟨.hbm, 390, rfl⟩
abbrev main_c_93 : Ref sig .tc := ⟨.hbm, 391, rfl⟩
abbrev main_v254 : Ref sig .tc := ⟨.hbm, 392, rfl⟩
abbrev main_c_94 : Ref sig .tc := ⟨.hbm, 393, rfl⟩
abbrev main_v255 : Ref sig .tc := ⟨.hbm, 394, rfl⟩
abbrev main_c_95 : Ref sig .tc := ⟨.hbm, 395, rfl⟩
abbrev main_v256 : Ref sig .tc := ⟨.hbm, 396, rfl⟩
abbrev main_c_96 : Ref sig .tc := ⟨.hbm, 397, rfl⟩
abbrev main_v257 : Ref sig .tc := ⟨.hbm, 398, rfl⟩
abbrev main_v258 : Ref sig .tc := ⟨.hbm, 399, rfl⟩
abbrev main_v259 : Ref sig .tc := ⟨.hbm, 400, rfl⟩
abbrev main_v260 : Ref sig .tc := ⟨.hbm, 401, rfl⟩
abbrev main_v261 : Ref sig .tc := ⟨.hbm, 402, rfl⟩
abbrev main_c_97 : Ref sig .tc := ⟨.hbm, 403, rfl⟩
abbrev main_v262 : Ref sig .tc := ⟨.hbm, 404, rfl⟩
abbrev main_c_98 : Ref sig .tc := ⟨.hbm, 405, rfl⟩
abbrev main_v263 : Ref sig .tc := ⟨.hbm, 406, rfl⟩
abbrev main_c_99 : Ref sig .tc := ⟨.hbm, 407, rfl⟩
abbrev main_v264 : Ref sig .tc := ⟨.hbm, 408, rfl⟩
abbrev main_c_100 : Ref sig .tc := ⟨.hbm, 409, rfl⟩
abbrev main_v265 : Ref sig .tc := ⟨.hbm, 410, rfl⟩
abbrev main_v266 : Ref sig .tc := ⟨.hbm, 411, rfl⟩
abbrev main_v267 : Ref sig .tc := ⟨.hbm, 412, rfl⟩
abbrev main_v268 : Ref sig .tc := ⟨.hbm, 413, rfl⟩
abbrev main_v269 : Ref sig .tc := ⟨.hbm, 414, rfl⟩
abbrev main_c_101 : Ref sig .tc := ⟨.hbm, 415, rfl⟩
abbrev main_v270 : Ref sig .tc := ⟨.hbm, 416, rfl⟩
abbrev main_c_102 : Ref sig .tc := ⟨.hbm, 417, rfl⟩
abbrev main_v271 : Ref sig .tc := ⟨.hbm, 418, rfl⟩
abbrev main_c_103 : Ref sig .tc := ⟨.hbm, 419, rfl⟩
abbrev main_v272 : Ref sig .tc := ⟨.hbm, 420, rfl⟩
abbrev main_c_104 : Ref sig .tc := ⟨.hbm, 421, rfl⟩
abbrev main_v273 : Ref sig .tc := ⟨.hbm, 422, rfl⟩
abbrev main_v274 : Ref sig .tc := ⟨.hbm, 423, rfl⟩
abbrev main_v275 : Ref sig .tc := ⟨.hbm, 424, rfl⟩
abbrev main_v276 : Ref sig .tc := ⟨.hbm, 425, rfl⟩
abbrev main_v277 : Ref sig .tc := ⟨.hbm, 426, rfl⟩
abbrev main_c_105 : Ref sig .tc := ⟨.hbm, 427, rfl⟩
abbrev main_v278 : Ref sig .tc := ⟨.hbm, 428, rfl⟩
abbrev main_c_106 : Ref sig .tc := ⟨.hbm, 429, rfl⟩
abbrev main_v279 : Ref sig .tc := ⟨.hbm, 430, rfl⟩
abbrev main_c_107 : Ref sig .tc := ⟨.hbm, 431, rfl⟩
abbrev main_v280 : Ref sig .tc := ⟨.hbm, 432, rfl⟩
abbrev main_c_108 : Ref sig .tc := ⟨.hbm, 433, rfl⟩
abbrev main_v281 : Ref sig .tc := ⟨.hbm, 434, rfl⟩
abbrev main_v282 : Ref sig .tc := ⟨.hbm, 435, rfl⟩
abbrev main_v283 : Ref sig .tc := ⟨.hbm, 436, rfl⟩
abbrev main_v284 : Ref sig .tc := ⟨.hbm, 437, rfl⟩
abbrev main_v285 : Ref sig .tc := ⟨.hbm, 438, rfl⟩
abbrev main_c_109 : Ref sig .tc := ⟨.hbm, 439, rfl⟩
abbrev main_v286 : Ref sig .tc := ⟨.hbm, 440, rfl⟩
abbrev main_c_110 : Ref sig .tc := ⟨.hbm, 441, rfl⟩
abbrev main_v287 : Ref sig .tc := ⟨.hbm, 442, rfl⟩
abbrev main_c_111 : Ref sig .tc := ⟨.hbm, 443, rfl⟩
abbrev main_v288 : Ref sig .tc := ⟨.hbm, 444, rfl⟩
abbrev main_c_112 : Ref sig .tc := ⟨.hbm, 445, rfl⟩
abbrev main_v289 : Ref sig .tc := ⟨.hbm, 446, rfl⟩
abbrev main_v290 : Ref sig .tc := ⟨.hbm, 447, rfl⟩
abbrev main_v291 : Ref sig .tc := ⟨.hbm, 448, rfl⟩
abbrev main_v292 : Ref sig .tc := ⟨.hbm, 449, rfl⟩
abbrev main_v293 : Ref sig .tc := ⟨.hbm, 450, rfl⟩
abbrev main_c_113 : Ref sig .tc := ⟨.hbm, 451, rfl⟩
abbrev main_v294 : Ref sig .tc := ⟨.hbm, 452, rfl⟩
abbrev main_c_114 : Ref sig .tc := ⟨.hbm, 453, rfl⟩
abbrev main_v295 : Ref sig .tc := ⟨.hbm, 454, rfl⟩
abbrev main_c_115 : Ref sig .tc := ⟨.hbm, 455, rfl⟩
abbrev main_v296 : Ref sig .tc := ⟨.hbm, 456, rfl⟩
abbrev main_c_116 : Ref sig .tc := ⟨.hbm, 457, rfl⟩
abbrev main_v297 : Ref sig .tc := ⟨.hbm, 458, rfl⟩
abbrev main_v298 : Ref sig .tc := ⟨.hbm, 459, rfl⟩
abbrev main_v299 : Ref sig .tc := ⟨.hbm, 460, rfl⟩
abbrev main_v300 : Ref sig .tc := ⟨.hbm, 461, rfl⟩
abbrev main_v301 : Ref sig .tc := ⟨.hbm, 462, rfl⟩
abbrev main_c_117 : Ref sig .tc := ⟨.hbm, 463, rfl⟩
abbrev main_v302 : Ref sig .tc := ⟨.hbm, 464, rfl⟩
abbrev main_c_118 : Ref sig .tc := ⟨.hbm, 465, rfl⟩
abbrev main_v303 : Ref sig .tc := ⟨.hbm, 466, rfl⟩
abbrev main_c_119 : Ref sig .tc := ⟨.hbm, 467, rfl⟩
abbrev main_v304 : Ref sig .tc := ⟨.hbm, 468, rfl⟩
abbrev main_c_120 : Ref sig .tc := ⟨.hbm, 469, rfl⟩
abbrev main_v305 : Ref sig .tc := ⟨.hbm, 470, rfl⟩
abbrev main_v306 : Ref sig .tc := ⟨.hbm, 471, rfl⟩
abbrev main_v307 : Ref sig .tc := ⟨.hbm, 472, rfl⟩
abbrev main_v308 : Ref sig .tc := ⟨.hbm, 473, rfl⟩
abbrev main_v309 : Ref sig .tc := ⟨.hbm, 474, rfl⟩
abbrev main_c_121 : Ref sig .tc := ⟨.hbm, 475, rfl⟩
abbrev main_v310 : Ref sig .tc := ⟨.hbm, 476, rfl⟩
abbrev main_c_122 : Ref sig .tc := ⟨.hbm, 477, rfl⟩
abbrev main_v311 : Ref sig .tc := ⟨.hbm, 478, rfl⟩
abbrev main_c_123 : Ref sig .tc := ⟨.hbm, 479, rfl⟩
abbrev main_v312 : Ref sig .tc := ⟨.hbm, 480, rfl⟩
abbrev main_c_124 : Ref sig .tc := ⟨.hbm, 481, rfl⟩
abbrev main_v313 : Ref sig .tc := ⟨.hbm, 482, rfl⟩
abbrev main_v314 : Ref sig .tc := ⟨.hbm, 483, rfl⟩
abbrev main_v315 : Ref sig .tc := ⟨.hbm, 484, rfl⟩
abbrev main_v316 : Ref sig .tc := ⟨.hbm, 485, rfl⟩
abbrev main_v317 : Ref sig .tc := ⟨.hbm, 486, rfl⟩
abbrev main_c_125 : Ref sig .tc := ⟨.hbm, 487, rfl⟩
abbrev main_v318 : Ref sig .tc := ⟨.hbm, 488, rfl⟩
abbrev main_c_126 : Ref sig .tc := ⟨.hbm, 489, rfl⟩
abbrev main_v319 : Ref sig .tc := ⟨.hbm, 490, rfl⟩
abbrev main_c_127 : Ref sig .tc := ⟨.hbm, 491, rfl⟩
abbrev main_v320 : Ref sig .tc := ⟨.hbm, 492, rfl⟩
abbrev main_c_128 : Ref sig .tc := ⟨.hbm, 493, rfl⟩
abbrev main_v321 : Ref sig .tc := ⟨.hbm, 494, rfl⟩
abbrev main_v322 : Ref sig .tc := ⟨.hbm, 495, rfl⟩
abbrev main_v323 : Ref sig .tc := ⟨.hbm, 496, rfl⟩
abbrev main_v324 : Ref sig .tc := ⟨.hbm, 497, rfl⟩
abbrev main_v325 : Ref sig .tc := ⟨.hbm, 498, rfl⟩
abbrev main_c_129 : Ref sig .tc := ⟨.hbm, 499, rfl⟩
abbrev main_v326 : Ref sig .tc := ⟨.hbm, 500, rfl⟩
abbrev main_c_130 : Ref sig .tc := ⟨.hbm, 501, rfl⟩
abbrev main_v327 : Ref sig .tc := ⟨.hbm, 502, rfl⟩
abbrev main_c_131 : Ref sig .tc := ⟨.hbm, 503, rfl⟩
abbrev main_v328 : Ref sig .tc := ⟨.hbm, 504, rfl⟩
abbrev main_c_132 : Ref sig .tc := ⟨.hbm, 505, rfl⟩
abbrev main_v329 : Ref sig .tc := ⟨.hbm, 506, rfl⟩
abbrev main_v330 : Ref sig .tc := ⟨.hbm, 507, rfl⟩
abbrev main_v331 : Ref sig .tc := ⟨.hbm, 508, rfl⟩
abbrev main_v332 : Ref sig .tc := ⟨.hbm, 509, rfl⟩
abbrev main_v333 : Ref sig .tc := ⟨.hbm, 510, rfl⟩
abbrev main_c_133 : Ref sig .tc := ⟨.hbm, 511, rfl⟩
abbrev main_v334 : Ref sig .tc := ⟨.hbm, 512, rfl⟩
abbrev main_c_134 : Ref sig .tc := ⟨.hbm, 513, rfl⟩
abbrev main_v335 : Ref sig .tc := ⟨.hbm, 514, rfl⟩
abbrev main_c_135 : Ref sig .tc := ⟨.hbm, 515, rfl⟩
abbrev main_v336 : Ref sig .tc := ⟨.hbm, 516, rfl⟩
abbrev main_c_136 : Ref sig .tc := ⟨.hbm, 517, rfl⟩
abbrev main_v337 : Ref sig .tc := ⟨.hbm, 518, rfl⟩
abbrev main_v338 : Ref sig .tc := ⟨.hbm, 519, rfl⟩
abbrev main_v339 : Ref sig .tc := ⟨.hbm, 520, rfl⟩
abbrev main_v340 : Ref sig .tc := ⟨.hbm, 521, rfl⟩
abbrev main_v341 : Ref sig .tc := ⟨.hbm, 522, rfl⟩
abbrev main_c_137 : Ref sig .tc := ⟨.hbm, 523, rfl⟩
abbrev main_v342 : Ref sig .tc := ⟨.hbm, 524, rfl⟩
abbrev main_c_138 : Ref sig .tc := ⟨.hbm, 525, rfl⟩
abbrev main_v343 : Ref sig .tc := ⟨.hbm, 526, rfl⟩
abbrev main_c_139 : Ref sig .tc := ⟨.hbm, 527, rfl⟩
abbrev main_v344 : Ref sig .tc := ⟨.hbm, 528, rfl⟩
abbrev main_c_140 : Ref sig .tc := ⟨.hbm, 529, rfl⟩
abbrev main_v345 : Ref sig .tc := ⟨.hbm, 530, rfl⟩
abbrev main_v346 : Ref sig .tc := ⟨.hbm, 531, rfl⟩
abbrev main_v347 : Ref sig .tc := ⟨.hbm, 532, rfl⟩
abbrev main_v348 : Ref sig .tc := ⟨.hbm, 533, rfl⟩
abbrev main_v349 : Ref sig .tc := ⟨.hbm, 534, rfl⟩
abbrev main_v350 : Ref sig .tc := ⟨.hbm, 535, rfl⟩
abbrev main_v351 : Ref sig .tc := ⟨.hbm, 536, rfl⟩
abbrev main_v352 : Ref sig .tc := ⟨.hbm, 537, rfl⟩
abbrev main_v353 : Ref sig .tc := ⟨.hbm, 538, rfl⟩
abbrev main_v354 : Ref sig .tc := ⟨.hbm, 539, rfl⟩
abbrev main_v355 : Ref sig .tc := ⟨.hbm, 540, rfl⟩
abbrev main_v356 : Ref sig .tc := ⟨.hbm, 541, rfl⟩
abbrev main_v357 : Ref sig .tc := ⟨.hbm, 542, rfl⟩
abbrev main_v358 : Ref sig .tc := ⟨.hbm, 543, rfl⟩
abbrev main_v359 : Ref sig .tc := ⟨.hbm, 544, rfl⟩
abbrev main_v360 : Ref sig .tc := ⟨.hbm, 545, rfl⟩
abbrev main_v361 : Ref sig .tc := ⟨.hbm, 546, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg5_1 : Ref sig .tc := ⟨.vmem, 35, rfl⟩
abbrev cc4_stg6_0 : Ref sig .tc := ⟨.vmem, 36, rfl⟩
abbrev cc4_stg6_1 : Ref sig .tc := ⟨.vmem, 37, rfl⟩
abbrev cc4_stg7_0 : Ref sig .tc := ⟨.vmem, 38, rfl⟩
abbrev cc4_stg7_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc5_stg5_0 : Ref sig .tc := ⟨.vmem, 48, rfl⟩
abbrev cc5_stg5_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg2_0 : Ref sig .tc := ⟨.vmem, 53, rfl⟩
abbrev cc6_stg3_0 : Ref sig .tc := ⟨.vmem, 54, rfl⟩
abbrev cc6_stg4_0 : Ref sig .tc := ⟨.vmem, 55, rfl⟩
abbrev cc6_stg5_0 : Ref sig .tc := ⟨.vmem, 56, rfl⟩
abbrev cc6_stg5_1 : Ref sig .tc := ⟨.vmem, 57, rfl⟩
abbrev cc7_stg0_0 : Ref sig .tc := ⟨.vmem, 58, rfl⟩
abbrev cc7_stg0_1 : Ref sig .tc := ⟨.vmem, 59, rfl⟩
abbrev cc7_stg1_0 : Ref sig .tc := ⟨.vmem, 60, rfl⟩
abbrev cc7_stg2_0 : Ref sig .tc := ⟨.vmem, 61, rfl⟩
abbrev cc7_stg3_0 : Ref sig .tc := ⟨.vmem, 62, rfl⟩
abbrev cc7_stg4_0 : Ref sig .tc := ⟨.vmem, 63, rfl⟩
abbrev cc7_stg5_0 : Ref sig .tc := ⟨.vmem, 64, rfl⟩
abbrev cc7_stg5_1 : Ref sig .tc := ⟨.vmem, 65, rfl⟩
abbrev cc8_stg0_0 : Ref sig .tc := ⟨.vmem, 66, rfl⟩
abbrev cc8_stg0_1 : Ref sig .tc := ⟨.vmem, 67, rfl⟩
abbrev cc8_stg1_0 : Ref sig .tc := ⟨.vmem, 68, rfl⟩
abbrev cc8_stg2_0 : Ref sig .tc := ⟨.vmem, 69, rfl⟩
abbrev cc8_stg3_0 : Ref sig .tc := ⟨.vmem, 70, rfl⟩
abbrev cc8_stg3_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg2_0 : Ref sig .tc := ⟨.vmem, 75, rfl⟩
abbrev cc9_stg3_0 : Ref sig .tc := ⟨.vmem, 76, rfl⟩
abbrev cc9_stg3_1 : Ref sig .tc := ⟨.vmem, 77, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem5_1 : DmaSem sig := 35
abbrev cc4_sem6_0 : DmaSem sig := 36
abbrev cc4_sem6_1 : DmaSem sig := 37
abbrev cc4_sem7_0 : DmaSem sig := 38
abbrev cc4_sem7_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem4_1 : DmaSem sig := 47
abbrev cc5_sem5_0 : DmaSem sig := 48
abbrev cc5_sem5_1 : DmaSem sig := 49
abbrev cc6_sem0_0 : DmaSem sig := 50
abbrev cc6_sem0_1 : DmaSem sig := 51
abbrev cc6_sem1_0 : DmaSem sig := 52
abbrev cc6_sem2_0 : DmaSem sig := 53
abbrev cc6_sem3_0 : DmaSem sig := 54
abbrev cc6_sem4_0 : DmaSem sig := 55
abbrev cc6_sem5_0 : DmaSem sig := 56
abbrev cc6_sem5_1 : DmaSem sig := 57
abbrev cc7_sem0_0 : DmaSem sig := 58
abbrev cc7_sem0_1 : DmaSem sig := 59
abbrev cc7_sem1_0 : DmaSem sig := 60
abbrev cc7_sem2_0 : DmaSem sig := 61
abbrev cc7_sem3_0 : DmaSem sig := 62
abbrev cc7_sem4_0 : DmaSem sig := 63
abbrev cc7_sem5_0 : DmaSem sig := 64
abbrev cc7_sem5_1 : DmaSem sig := 65
abbrev cc8_sem0_0 : DmaSem sig := 66
abbrev cc8_sem0_1 : DmaSem sig := 67
abbrev cc8_sem1_0 : DmaSem sig := 68
abbrev cc8_sem2_0 : DmaSem sig := 69
abbrev cc8_sem3_0 : DmaSem sig := 70
abbrev cc8_sem3_1 : DmaSem sig := 71
abbrev cc9_sem0_0 : DmaSem sig := 72
abbrev cc9_sem0_1 : DmaSem sig := 73
abbrev cc9_sem1_0 : DmaSem sig := 74
abbrev cc9_sem2_0 : DmaSem sig := 75
abbrev cc9_sem3_0 : DmaSem sig := 76
abbrev cc9_sem3_1 : DmaSem sig := 77

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x129x129x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2x12x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x65x65x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x2x512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x64x64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x66x66x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3x3x128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x64x64x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![32], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S1x66x66x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S3x3x128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1x64x64x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![32], ![false]⟩

def cc4_transform_0 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_7 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x64x64x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1x64x64x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1x4096x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S1x4096x128 .i32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![32], ![false]⟩

def cc5_transform_0 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc5_transform_1 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc5_transform_2 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc5_transform_5 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x66x66x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x64x64x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S3x3x64x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S1x64x64x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S1x1x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![32], ![false]⟩

def cc6_transform_0 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc6_transform_1 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage6_0 : Fin 2 → Memref sig .tc .vmem S1x66x66x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S3x3x128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S1x64x64x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![32], ![false]⟩

def cc7_transform_0 (i : grid7.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc7_transform_1 (i : grid7.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage7_0 : Fin 2 → Memref sig .tc .vmem S1x66x66x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S3x3x128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S1x64x64x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨2, ![32, 1], ![false, false]⟩

def cc8_transform_0 (i : grid8.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc8_transform_1 (i : grid8.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage8_0 : Fin 2 → Memref sig .tc .vmem S1x1x66x66x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 1 → Memref sig .tc .vmem S3x3x128x512 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, false]

abbrev stage8_2 : Fin 1 → Memref sig .tc .vmem S1x512 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, false]

abbrev stage8_3 : Fin 2 → Memref sig .tc .vmem S1x64x64x512 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true]

abbrev grid9 : Pipeline.Grid := ⟨2, ![32, 4], ![false, false]⟩

def cc9_transform_0 (i : grid9.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc9_transform_1 (i : grid9.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage9_0 : Fin 2 → Memref sig .tc .vmem S1x1x34x130x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 1 → Memref sig .tc .vmem S3x3x128x12 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, false]

abbrev stage9_2 : Fin 1 → Memref sig .tc .vmem S1x12 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false, false]

abbrev stage9_3 : Fin 2 → Memref sig .tc .vmem S1x32x128x12 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true]
-- ==== ReferenceIdeal.lean ====
abbrev S32x3x256x256 : Shape := ⟨4, ![32, 3, 256, 256]⟩
abbrev S128x3x4x4 : Shape := ⟨4, ![128, 3, 4, 4]⟩
abbrev S128 : Shape := ⟨1, ![128]⟩
abbrev S128x128x4x4 : Shape := ⟨4, ![128, 128, 4, 4]⟩
abbrev S128x128x3x3 : Shape := ⟨4, ![128, 128, 3, 3]⟩
abbrev S128x128x1x1 : Shape := ⟨4, ![128, 128, 1, 1]⟩
abbrev S64x128x1x1 : Shape := ⟨4, ![64, 128, 1, 1]⟩
abbrev S64 : Shape := ⟨1, ![64]⟩
abbrev S512x64 : Shape := ⟨2, ![512, 64]⟩
abbrev S128x64x3x3 : Shape := ⟨4, ![128, 64, 3, 3]⟩
abbrev S3 : Shape := ⟨1, ![3]⟩
abbrev S_ : Shape := ⟨0, ![]⟩
abbrev S512 : Shape := ⟨1, ![512]⟩
abbrev S3x128x4x4 : Shape := ⟨4, ![3, 128, 4, 4]⟩
abbrev S32x3x258x258 : Shape := ⟨4, ![32, 3, 258, 258]⟩
abbrev S32x3x128x128 : Shape := ⟨4, ![32, 3, 128, 128]⟩
abbrev S128x3x1x1 : Shape := ⟨4, ![128, 3, 1, 1]⟩
abbrev S128x3 : Shape := ⟨2, ![128, 3]⟩
abbrev S128x32x128x128 : Shape := ⟨4, ![128, 32, 128, 128]⟩
abbrev S32x128x128x128 : Shape := ⟨4, ![32, 128, 128, 128]⟩
abbrev S1x128x1x1 : Shape := ⟨4, ![1, 128, 1, 1]⟩
abbrev S32x128x130x130 : Shape := ⟨4, ![32, 128, 130, 130]⟩
abbrev S32x128x64x64 : Shape := ⟨4, ![32, 128, 64, 64]⟩
abbrev S128x128 : Shape := ⟨2, ![128, 128]⟩
abbrev S128x32x64x64 : Shape := ⟨4, ![128, 32, 64, 64]⟩
abbrev S64x512 : Shape := ⟨2, ![64, 512]⟩
abbrev S32x128x66x66 : Shape := ⟨4, ![32, 128, 66, 66]⟩
abbrev S64x128 : Shape := ⟨2, ![64, 128]⟩
abbrev S64x32x64x64 : Shape := ⟨4, ![64, 32, 64, 64]⟩
abbrev S32x64x64x64 : Shape := ⟨4, ![32, 64, 64, 64]⟩
abbrev S1x64x1x1 : Shape := ⟨4, ![1, 64, 1, 1]⟩
abbrev S131072x64 : Shape := ⟨2, ![131072, 64]⟩
abbrev S131072 : Shape := ⟨1, ![131072]⟩
abbrev S131072x1 : Shape := ⟨2, ![131072, 1]⟩
abbrev S1x512 : Shape := ⟨2, ![1, 512]⟩
abbrev S131072x512 : Shape := ⟨2, ![131072, 512]⟩
abbrev S1 : Shape := ⟨1, ![1]⟩
abbrev S1x1 : Shape := ⟨2, ![1, 1]⟩
abbrev S32x64x66x66 : Shape := ⟨4, ![32, 64, 66, 66]⟩
abbrev S128x64x1x1 : Shape := ⟨4, ![128, 64, 1, 1]⟩
abbrev S128x64 : Shape := ⟨2, ![128, 64]⟩
abbrev S32x128x131x131 : Shape := ⟨4, ![32, 128, 131, 131]⟩
abbrev S32x128x259x259 : Shape := ⟨4, ![32, 128, 259, 259]⟩
abbrev S32x128x256x256 : Shape := ⟨4, ![32, 128, 256, 256]⟩
abbrev S3x128x1x1 : Shape := ⟨4, ![3, 128, 1, 1]⟩
abbrev S3x128 : Shape := ⟨2, ![3, 128]⟩
abbrev S3x32x256x256 : Shape := ⟨4, ![3, 32, 256, 256]⟩
abbrev S1x3x1x1 : Shape := ⟨4, ![1, 3, 1, 1]⟩

abbrev nBuf : Space → Nat
  | .hbm => 891
  | .vmem => 0
  | .smem => 0
  | _ => 0

abbrev hbmTy0_0 (i : Nat) : BufTy := match i % 128 with
  | 0 => ⟨S32x3x256x256, .f32⟩
  | 1 => ⟨S128x3x4x4, .f32⟩
  | 2 => ⟨S128, .f32⟩
  | 3 => ⟨S128x128x4x4, .f32⟩
  | 4 => ⟨S128, .f32⟩
  | 5 => ⟨S128x128x3x3, .f32⟩
  | 6 => ⟨S128, .f32⟩
  | 7 => ⟨S128x128x1x1, .f32⟩
  | 8 => ⟨S128, .f32⟩
  | 9 => ⟨S128x128x3x3, .f32⟩
  | 10 => ⟨S128, .f32⟩
  | 11 => ⟨S128x128x1x1, .f32⟩
  | 12 => ⟨S128, .f32⟩
  | 13 => ⟨S64x128x1x1, .f32⟩
  | 14 => ⟨S64, .f32⟩
  | 15 => ⟨S512x64, .f32⟩
  | 16 => ⟨S128x64x3x3, .f32⟩
  | 17 => ⟨S128, .f32⟩
  | 18 => ⟨S128x128x3x3, .f32⟩
  | 19 => ⟨S128, .f32⟩
  | 20 => ⟨S128x128x1x1, .f32⟩
  | 21 => ⟨S128, .f32⟩
  | 22 => ⟨S128x128x3x3, .f32⟩
  | 23 => ⟨S128, .f32⟩
  | 24 => ⟨S128x128x1x1, .f32⟩
  | 25 => ⟨S128, .f32⟩
  | 26 => ⟨S128x128x4x4, .f32⟩
  | 27 => ⟨S128, .f32⟩
  | 28 => ⟨S128x3x4x4, .f32⟩
  | 29 => ⟨S3, .f32⟩
  | 30 => ⟨S512x64, .f32⟩
  | 31 => ⟨S_, .f32⟩
  | 32 => ⟨S512, .f32⟩
  | 33 => ⟨S128x3x4x4, .f32⟩
  | 34 => ⟨S3x128x4x4, .f32⟩
  | 35 => ⟨S_, .i32⟩
  | 36 => ⟨S_, .f32⟩
  | 37 => ⟨S32x3x258x258, .f32⟩
  | 38 => ⟨S32x3x128x128, .f32⟩
  | 39 => ⟨S128x3x1x1, .f32⟩
  | 40 => ⟨S128x3, .f32⟩
  | 41 => ⟨S128x32x128x128, .f32⟩
  | 42 => ⟨S32x128x128x128, .f32⟩
  | 43 => ⟨S32x3x128x128, .f32⟩
  | 44 => ⟨S128x3x1x1, .f32⟩
  | 45 => ⟨S128x3, .f32⟩
  | 46 => ⟨S128x32x128x128, .f32⟩
  | 47 => ⟨S32x128x128x128, .f32⟩
  | 48 => ⟨S32x128x128x128, .f32⟩
  | 49 => ⟨S32x3x128x128, .f32⟩
  | 50 => ⟨S128x3x1x1, .f32⟩
  | 51 => ⟨S128x3, .f32⟩
  | 52 => ⟨S128x32x128x128, .f32⟩
  | 53 => ⟨S32x128x128x128, .f32⟩
  | 54 => ⟨S32x128x128x128, .f32⟩
  | 55 => ⟨S32x3x128x128, .f32⟩
  | 56 => ⟨S128x3x1x1, .f32⟩
  | 57 => ⟨S128x3, .f32⟩
  | 58 => ⟨S128x32x128x128, .f32⟩
  | 59 => ⟨S32x128x128x128, .f32⟩
  | 60 => ⟨S32x128x128x128, .f32⟩
  | 61 => ⟨S32x3x128x128, .f32⟩
  | 62 => ⟨S128x3x1x1, .f32⟩
  | 63 => ⟨S128x3, .f32⟩
  | 64 => ⟨S128x32x128x128, .f32⟩
  | 65 => ⟨S32x128x128x128, .f32⟩
  | 66 => ⟨S32x128x128x128, .f32⟩
  | 67 => ⟨S32x3x128x128, .f32⟩
  | 68 => ⟨S128x3x1x1, .f32⟩
  | 69 => ⟨S128x3, .f32⟩
  | 70 => ⟨S128x32x128x128, .f32⟩
  | 71 => ⟨S32x128x128x128, .f32⟩
  | 72 => ⟨S32x128x128x128, .f32⟩
  | 73 => ⟨S32x3x128x128, .f32⟩
  | 74 => ⟨S128x3x1x1, .f32⟩
  | 75 => ⟨S128x3, .f32⟩
  | 76 => ⟨S128x32x128x128, .f32⟩
  | 77 => ⟨S32x128x128x128, .f32⟩
  | 78 => ⟨S32x128x128x128, .f32⟩
  | 79 => ⟨S32x3x128x128, .f32⟩
  | 80 => ⟨S128x3x1x1, .f32⟩
  | 81 => ⟨S128x3, .f32⟩
  | 82 => ⟨S128x32x128x128, .f32⟩
  | 83 => ⟨S32x128x128x128, .f32⟩
  | 84 => ⟨S32x128x128x128, .f32⟩
  | 85 => ⟨S32x3x128x128, .f32⟩
  | 86 => ⟨S128x3x1x1, .f32⟩
  | 87 => ⟨S128x3, .f32⟩
  | 88 => ⟨S128x32x128x128, .f32⟩
  | 89 => ⟨S32x128x128x128, .f32⟩
  | 90 => ⟨S32x128x128x128, .f32⟩
  | 91 => ⟨S32x3x128x128, .f32⟩
  | 92 => ⟨S128x3x1x1, .f32⟩
  | 93 => ⟨S128x3, .f32⟩
  | 94 => ⟨S128x32x128x128, .f32⟩
  | 95 => ⟨S32x128x128x128, .f32⟩
  | 96 => ⟨S32x128x128x128, .f32⟩
  | 97 => ⟨S32x3x128x128, .f32⟩
  | 98 => ⟨S128x3x1x1, .f32⟩
  | 99 => ⟨S128x3, .f32⟩
  | 100 => ⟨S128x32x128x128, .f32⟩
  | 101 => ⟨S32x128x128x128, .f32⟩
  | 102 => ⟨S32x128x128x128, .f32⟩
  | 103 => ⟨S32x3x128x128, .f32⟩
  | 104 => ⟨S128x3x1x1, .f32⟩
  | 105 => ⟨S128x3, .f32⟩
  | 106 => ⟨S128x32x128x128, .f32⟩
  | 107 => ⟨S32x128x128x128, .f32⟩
  | 108 => ⟨S32x128x128x128, .f32⟩
  | 109 => ⟨S32x3x128x128, .f32⟩
  | 110 => ⟨S128x3x1x1, .f32⟩
  | 111 => ⟨S128x3, .f32⟩
  | 112 => ⟨S128x32x128x128, .f32⟩
  | 113 => ⟨S32x128x128x128, .f32⟩
  | 114 => ⟨S32x128x128x128, .f32⟩
  | 115 => ⟨S32x3x128x128, .f32⟩
  | 116 => ⟨S128x3x1x1, .f32⟩
  | 117 => ⟨S128x3, .f32⟩
  | 118 => ⟨S128x32x128x128, .f32⟩
  | 119 => ⟨S32x128x128x128, .f32⟩
  | 120 => ⟨S32x128x128x128, .f32⟩
  | 121 => ⟨S32x3x128x128, .f32⟩
  | 122 => ⟨S128x3x1x1, .f32⟩
  | 123 => ⟨S128x3, .f32⟩
  | 124 => ⟨S128x32x128x128, .f32⟩
  | 125 => ⟨S32x128x128x128, .f32⟩
  | 126 => ⟨S32x128x128x128, .f32⟩
  | 127 => ⟨S32x3x128x128, .f32⟩
  | _ => ⟨S32x3x256x256, .f32⟩

abbrev hbmTy0_1 (i : Nat) : BufTy := match i % 128 with
  | 0 => ⟨S128x3x1x1, .f32⟩
  | 1 => ⟨S128x3, .f32⟩
  | 2 => ⟨S128x32x128x128, .f32⟩
  | 3 => ⟨S32x128x128x128, .f32⟩
  | 4 => ⟨S32x128x128x128, .f32⟩
  | 5 => ⟨S1x128x1x1, .f32⟩
  | 6 => ⟨S32x128x128x128, .f32⟩
  | 7 => ⟨S32x128x128x128, .f32⟩
  | 8 => ⟨S_, .f32⟩
  | 9 => ⟨S32x128x128x128, .f32⟩
  | 10 => ⟨S32x128x128x128, .f32⟩
  | 11 => ⟨S_, .i32⟩
  | 12 => ⟨S_, .f32⟩
  | 13 => ⟨S32x128x130x130, .f32⟩
  | 14 => ⟨S32x128x64x64, .f32⟩
  | 15 => ⟨S128x128x1x1, .f32⟩
  | 16 => ⟨S128x128, .f32⟩
  | 17 => ⟨S128x32x64x64, .f32⟩
  | 18 => ⟨S32x128x64x64, .f32⟩
  | 19 => ⟨S32x128x64x64, .f32⟩
  | 20 => ⟨S128x128x1x1, .f32⟩
  | 21 => ⟨S128x128, .f32⟩
  | 22 => ⟨S128x32x64x64, .f32⟩
  | 23 => ⟨S32x128x64x64, .f32⟩
  | 24 => ⟨S32x128x64x64, .f32⟩
  | 25 => ⟨S32x128x64x64, .f32⟩
  | 26 => ⟨S128x128x1x1, .f32⟩
  | 27 => ⟨S128x128, .f32⟩
  | 28 => ⟨S128x32x64x64, .f32⟩
  | 29 => ⟨S32x128x64x64, .f32⟩
  | 30 => ⟨S32x128x64x64, .f32⟩
  | 31 => ⟨S32x128x64x64, .f32⟩
  | 32 => ⟨S128x128x1x1, .f32⟩
  | 33 => ⟨S128x128, .f32⟩
  | 34 => ⟨S128x32x64x64, .f32⟩
  | 35 => ⟨S32x128x64x64, .f32⟩
  | 36 => ⟨S32x128x64x64, .f32⟩
  | 37 => ⟨S32x128x64x64, .f32⟩
  | 38 => ⟨S128x128x1x1, .f32⟩
  | 39 => ⟨S128x128, .f32⟩
  | 40 => ⟨S128x32x64x64, .f32⟩
  | 41 => ⟨S32x128x64x64, .f32⟩
  | 42 => ⟨S32x128x64x64, .f32⟩
  | 43 => ⟨S32x128x64x64, .f32⟩
  | 44 => ⟨S128x128x1x1, .f32⟩
  | 45 => ⟨S128x128, .f32⟩
  | 46 => ⟨S128x32x64x64, .f32⟩
  | 47 => ⟨S32x128x64x64, .f32⟩
  | 48 => ⟨S32x128x64x64, .f32⟩
  | 49 => ⟨S32x128x64x64, .f32⟩
  | 50 => ⟨S128x128x1x1, .f32⟩
  | 51 => ⟨S128x128, .f32⟩
  | 52 => ⟨S128x32x64x64, .f32⟩
  | 53 => ⟨S32x128x64x64, .f32⟩
  | 54 => ⟨S32x128x64x64, .f32⟩
  | 55 => ⟨S32x128x64x64, .f32⟩
  | 56 => ⟨S128x128x1x1, .f32⟩
  | 57 => ⟨S128x128, .f32⟩
  | 58 => ⟨S128x32x64x64, .f32⟩
  | 59 => ⟨S32x128x64x64, .f32⟩
  | 60 => ⟨S32x128x64x64, .f32⟩
  | 61 => ⟨S32x128x64x64, .f32⟩
  | 62 => ⟨S128x128x1x1, .f32⟩
  | 63 => ⟨S128x128, .f32⟩
  | 64 => ⟨S128x32x64x64, .f32⟩
  | 65 => ⟨S32x128x64x64, .f32⟩
  | 66 => ⟨S32x128x64x64, .f32⟩
  | 67 => ⟨S32x128x64x64, .f32⟩
  | 68 => ⟨S128x128x1x1, .f32⟩
  | 69 => ⟨S128x128, .f32⟩
  | 70 => ⟨S128x32x64x64, .f32⟩
  | 71 => ⟨S32x128x64x64, .f32⟩
  | 72 => ⟨S32x128x64x64, .f32⟩
  | 73 => ⟨S32x128x64x64, .f32⟩
  | 74 => ⟨S128x128x1x1, .f32⟩
  | 75 => ⟨S128x128, .f32⟩
  | 76 => ⟨S128x32x64x64, .f32⟩
  | 77 => ⟨S32x128x64x64, .f32⟩
  | 78 => ⟨S32x128x64x64, .f32⟩
  | 79 => ⟨S32x128x64x64, .f32⟩
  | 80 => ⟨S128x128x1x1, .f32⟩
  | 81 => ⟨S128x128, .f32⟩
  | 82 => ⟨S128x32x64x64, .f32⟩
  | 83 => ⟨S32x128x64x64, .f32⟩
  | 84 => ⟨S32x128x64x64, .f32⟩
  | 85 => ⟨S32x128x64x64, .f32⟩
  | 86 => ⟨S128x128x1x1, .f32⟩
  | 87 => ⟨S128x128, .f32⟩
  | 88 => ⟨S128x32x64x64, .f32⟩
  | 89 => ⟨S32x128x64x64, .f32⟩
  | 90 => ⟨S32x128x64x64, .f32⟩
  | 91 => ⟨S32x128x64x64, .f32⟩
  | 92 => ⟨S128x128x1x1, .f32⟩
  | 93 => ⟨S128x128, .f32⟩
  | 94 => ⟨S128x32x64x64, .f32⟩
  | 95 => ⟨S32x128x64x64, .f32⟩
  | 96 => ⟨S32x128x64x64, .f32⟩
  | 97 => ⟨S32x128x64x64, .f32⟩
  | 98 => ⟨S128x128x1x1, .f32⟩
  | 99 => ⟨S128x128, .f32⟩
  | 100 => ⟨S128x32x64x64, .f32⟩
  | 101 => ⟨S32x128x64x64, .f32⟩
  | 102 => ⟨S32x128x64x64, .f32⟩
  | 103 => ⟨S32x128x64x64, .f32⟩
  | 104 => ⟨S128x128x1x1, .f32⟩
  | 105 => ⟨S128x128, .f32⟩
  | 106 => ⟨S128x32x64x64, .f32⟩
  | 107 => ⟨S32x128x64x64, .f32⟩
  | 108 => ⟨S32x128x64x64, .f32⟩
  | 109 => ⟨S1x128x1x1, .f32⟩
  | 110 => ⟨S32x128x64x64, .f32⟩
  | 111 => ⟨S32x128x64x64, .f32⟩
  | 112 => ⟨S_, .f32⟩
  | 113 => ⟨S32x128x64x64, .f32⟩
  | 114 => ⟨S32x128x64x64, .f32⟩
  | 115 => ⟨S64x512, .f32⟩
  | 116 => ⟨S_, .f32⟩
  | 117 => ⟨S32x128x64x64, .f32⟩
  | 118 => ⟨S32x128x64x64, .f32⟩
  | 119 => ⟨S_, .i32⟩
  | 120 => ⟨S_, .f32⟩
  | 121 => ⟨S32x128x66x66, .f32⟩
  | 122 => ⟨S32x128x64x64, .f32⟩
  | 123 => ⟨S128x128x1x1, .f32⟩
  | 124 => ⟨S128x128, .f32⟩
  | 125 => ⟨S128x32x64x64, .f32⟩
  | 126 => ⟨S32x128x64x64, .f32⟩
  | 127 => ⟨S32x128x64x64, .f32⟩
  | _ => ⟨S32x3x256x256, .f32⟩

abbrev hbmTy0_2 (i : Nat) : BufTy := match i % 128 with
  | 0 => ⟨S128x128x1x1, .f32⟩
  | 1 => ⟨S128x128, .f32⟩
  | 2 => ⟨S128x32x64x64, .f32⟩
  | 3 => ⟨S32x128x64x64, .f32⟩
  | 4 => ⟨S32x128x64x64, .f32⟩
  | 5 => ⟨S32x128x64x64, .f32⟩
  | 6 => ⟨S128x128x1x1, .f32⟩
  | 7 => ⟨S128x128, .f32⟩
  | 8 => ⟨S128x32x64x64, .f32⟩
  | 9 => ⟨S32x128x64x64, .f32⟩
  | 10 => ⟨S32x128x64x64, .f32⟩
  | 11 => ⟨S32x128x64x64, .f32⟩
  | 12 => ⟨S128x128x1x1, .f32⟩
  | 13 => ⟨S128x128, .f32⟩
  | 14 => ⟨S128x32x64x64, .f32⟩
  | 15 => ⟨S32x128x64x64, .f32⟩
  | 16 => ⟨S32x128x64x64, .f32⟩
  | 17 => ⟨S32x128x64x64, .f32⟩
  | 18 => ⟨S128x128x1x1, .f32⟩
  | 19 => ⟨S128x128, .f32⟩
  | 20 => ⟨S128x32x64x64, .f32⟩
  | 21 => ⟨S32x128x64x64, .f32⟩
  | 22 => ⟨S32x128x64x64, .f32⟩
  | 23 => ⟨S32x128x64x64, .f32⟩
  | 24 => ⟨S128x128x1x1, .f32⟩
  | 25 => ⟨S128x128, .f32⟩
  | 26 => ⟨S128x32x64x64, .f32⟩
  | 27 => ⟨S32x128x64x64, .f32⟩
  | 28 => ⟨S32x128x64x64, .f32⟩
  | 29 => ⟨S32x128x64x64, .f32⟩
  | 30 => ⟨S128x128x1x1, .f32⟩
  | 31 => ⟨S128x128, .f32⟩
  | 32 => ⟨S128x32x64x64, .f32⟩
  | 33 => ⟨S32x128x64x64, .f32⟩
  | 34 => ⟨S32x128x64x64, .f32⟩
  | 35 => ⟨S32x128x64x64, .f32⟩
  | 36 => ⟨S128x128x1x1, .f32⟩
  | 37 => ⟨S128x128, .f32⟩
  | 38 => ⟨S128x32x64x64, .f32⟩
  | 39 => ⟨S32x128x64x64, .f32⟩
  | 40 => ⟨S32x128x64x64, .f32⟩
  | 41 => ⟨S32x128x64x64, .f32⟩
  | 42 => ⟨S128x128x1x1, .f32⟩
  | 43 => ⟨S128x128, .f32⟩
  | 44 => ⟨S128x32x64x64, .f32⟩
  | 45 => ⟨S32x128x64x64, .f32⟩
  | 46 => ⟨S32x128x64x64, .f32⟩
  | 47 => ⟨S1x128x1x1, .f32⟩
  | 48 => ⟨S32x128x64x64, .f32⟩
  | 49 => ⟨S32x128x64x64, .f32⟩
  | 50 => ⟨S_, .f32⟩
  | 51 => ⟨S32x128x64x64, .f32⟩
  | 52 => ⟨S32x128x64x64, .f32⟩
  | 53 => ⟨S_, .i32⟩
  | 54 => ⟨S_, .f32⟩
  | 55 => ⟨S32x128x64x64, .f32⟩
  | 56 => ⟨S32x128x64x64, .f32⟩
  | 57 => ⟨S128x128, .f32⟩
  | 58 => ⟨S128x32x64x64, .f32⟩
  | 59 => ⟨S32x128x64x64, .f32⟩
  | 60 => ⟨S1x128x1x1, .f32⟩
  | 61 => ⟨S32x128x64x64, .f32⟩
  | 62 => ⟨S32x128x64x64, .f32⟩
  | 63 => ⟨S32x128x64x64, .f32⟩
  | 64 => ⟨S128x128x4x4, .f32⟩
  | 65 => ⟨S128x128x4x4, .f32⟩
  | 66 => ⟨S_, .f32⟩
  | 67 => ⟨S32x128x64x64, .f32⟩
  | 68 => ⟨S32x128x64x64, .f32⟩
  | 69 => ⟨S_, .i32⟩
  | 70 => ⟨S_, .f32⟩
  | 71 => ⟨S32x128x66x66, .f32⟩
  | 72 => ⟨S32x128x64x64, .f32⟩
  | 73 => ⟨S128x128x1x1, .f32⟩
  | 74 => ⟨S128x128, .f32⟩
  | 75 => ⟨S128x32x64x64, .f32⟩
  | 76 => ⟨S32x128x64x64, .f32⟩
  | 77 => ⟨S32x128x64x64, .f32⟩
  | 78 => ⟨S128x128x1x1, .f32⟩
  | 79 => ⟨S128x128, .f32⟩
  | 80 => ⟨S128x32x64x64, .f32⟩
  | 81 => ⟨S32x128x64x64, .f32⟩
  | 82 => ⟨S32x128x64x64, .f32⟩
  | 83 => ⟨S32x128x64x64, .f32⟩
  | 84 => ⟨S128x128x1x1, .f32⟩
  | 85 => ⟨S128x128, .f32⟩
  | 86 => ⟨S128x32x64x64, .f32⟩
  | 87 => ⟨S32x128x64x64, .f32⟩
  | 88 => ⟨S32x128x64x64, .f32⟩
  | 89 => ⟨S32x128x64x64, .f32⟩
  | 90 => ⟨S128x128x1x1, .f32⟩
  | 91 => ⟨S128x128, .f32⟩
  | 92 => ⟨S128x32x64x64, .f32⟩
  | 93 => ⟨S32x128x64x64, .f32⟩
  | 94 => ⟨S32x128x64x64, .f32⟩
  | 95 => ⟨S32x128x64x64, .f32⟩
  | 96 => ⟨S128x128x1x1, .f32⟩
  | 97 => ⟨S128x128, .f32⟩
  | 98 => ⟨S128x32x64x64, .f32⟩
  | 99 => ⟨S32x128x64x64, .f32⟩
  | 100 => ⟨S32x128x64x64, .f32⟩
  | 101 => ⟨S32x128x64x64, .f32⟩
  | 102 => ⟨S128x128x1x1, .f32⟩
  | 103 => ⟨S128x128, .f32⟩
  | 104 => ⟨S128x32x64x64, .f32⟩
  | 105 => ⟨S32x128x64x64, .f32⟩
  | 106 => ⟨S32x128x64x64, .f32⟩
  | 107 => ⟨S32x128x64x64, .f32⟩
  | 108 => ⟨S128x128x1x1, .f32⟩
  | 109 => ⟨S128x128, .f32⟩
  | 110 => ⟨S128x32x64x64, .f32⟩
  | 111 => ⟨S32x128x64x64, .f32⟩
  | 112 => ⟨S32x128x64x64, .f32⟩
  | 113 => ⟨S32x128x64x64, .f32⟩
  | 114 => ⟨S128x128x1x1, .f32⟩
  | 115 => ⟨S128x128, .f32⟩
  | 116 => ⟨S128x32x64x64, .f32⟩
  | 117 => ⟨S32x128x64x64, .f32⟩
  | 118 => ⟨S32x128x64x64, .f32⟩
  | 119 => ⟨S32x128x64x64, .f32⟩
  | 120 => ⟨S128x128x1x1, .f32⟩
  | 121 => ⟨S128x128, .f32⟩
  | 122 => ⟨S128x32x64x64, .f32⟩
  | 123 => ⟨S32x128x64x64, .f32⟩
  | 124 => ⟨S32x128x64x64, .f32⟩
  | 125 => ⟨S1x128x1x1, .f32⟩
  | 126 => ⟨S32x128x64x64, .f32⟩
  | 127 => ⟨S32x128x64x64, .f32⟩
  | _ => ⟨S32x3x256x256, .f32⟩

abbrev hbmTy0_3 (i : Nat) : BufTy := match i % 128 with
  | 0 => ⟨S_, .f32⟩
  | 1 => ⟨S32x128x64x64, .f32⟩
  | 2 => ⟨S32x128x64x64, .f32⟩
  | 3 => ⟨S_, .i32⟩
  | 4 => ⟨S_, .f32⟩
  | 5 => ⟨S32x128x64x64, .f32⟩
  | 6 => ⟨S32x128x64x64, .f32⟩
  | 7 => ⟨S128x128, .f32⟩
  | 8 => ⟨S128x32x64x64, .f32⟩
  | 9 => ⟨S32x128x64x64, .f32⟩
  | 10 => ⟨S1x128x1x1, .f32⟩
  | 11 => ⟨S32x128x64x64, .f32⟩
  | 12 => ⟨S32x128x64x64, .f32⟩
  | 13 => ⟨S32x128x64x64, .f32⟩
  | 14 => ⟨S_, .i32⟩
  | 15 => ⟨S_, .f32⟩
  | 16 => ⟨S32x128x64x64, .f32⟩
  | 17 => ⟨S32x128x64x64, .f32⟩
  | 18 => ⟨S64x128, .f32⟩
  | 19 => ⟨S64x32x64x64, .f32⟩
  | 20 => ⟨S32x64x64x64, .f32⟩
  | 21 => ⟨S1x64x1x1, .f32⟩
  | 22 => ⟨S32x64x64x64, .f32⟩
  | 23 => ⟨S32x64x64x64, .f32⟩
  | 24 => ⟨S32x64x64x64, .f32⟩
  | 25 => ⟨S131072x64, .f32⟩
  | 26 => ⟨S131072x64, .f32⟩
  | 27 => ⟨S_, .f32⟩
  | 28 => ⟨S131072, .f32⟩
  | 29 => ⟨S131072x1, .f32⟩
  | 30 => ⟨S1x512, .f32⟩
  | 31 => ⟨S131072x512, .f32⟩
  | 32 => ⟨S131072x512, .f32⟩
  | 33 => ⟨S131072x512, .f32⟩
  | 34 => ⟨S131072x512, .f32⟩
  | 35 => ⟨S_, .f32⟩
  | 36 => ⟨S131072x512, .f32⟩
  | 37 => ⟨S131072x512, .f32⟩
  | 38 => ⟨S131072x512, .f32⟩
  | 39 => ⟨S131072x512, .i32⟩
  | 40 => ⟨S131072x512, .f32⟩
  | 41 => ⟨S131072x512, .i32⟩
  | 42 => ⟨S131072x1, .i32⟩
  | 43 => ⟨S131072, .i32⟩
  | 44 => ⟨S_, .i32⟩
  | 45 => ⟨S131072, .i32⟩
  | 46 => ⟨S131072, .i1⟩
  | 47 => ⟨S_, .i32⟩
  | 48 => ⟨S131072, .i32⟩
  | 49 => ⟨S131072, .i32⟩
  | 50 => ⟨S131072, .i32⟩
  | 51 => ⟨S131072x1, .i32⟩
  | 52 => ⟨S1, .i32⟩
  | 53 => ⟨S_, .i32⟩
  | 54 => ⟨S131072x1, .i32⟩
  | 55 => ⟨S131072x1, .i1⟩
  | 56 => ⟨S1x1, .i32⟩
  | 57 => ⟨S131072x1, .i32⟩
  | 58 => ⟨S131072x1, .i1⟩
  | 59 => ⟨S131072x1, .i1⟩
  | 60 => ⟨S_, .i1⟩
  | 61 => ⟨S131072, .i1⟩
  | 62 => ⟨S131072x64, .f32⟩
  | 63 => ⟨S131072x64, .i1⟩
  | 64 => ⟨S_, .f32⟩
  | 65 => ⟨S131072x64, .f32⟩
  | 66 => ⟨S131072x64, .f32⟩
  | 67 => ⟨S32x64x64x64, .f32⟩
  | 68 => ⟨S32x64x64x64, .f32⟩
  | 69 => ⟨S32x64x64x64, .f32⟩
  | 70 => ⟨S_, .f32⟩
  | 71 => ⟨S_, .f32⟩
  | 72 => ⟨S_, .f32⟩
  | 73 => ⟨S_, .f32⟩
  | 74 => ⟨S32x64x64x64, .f32⟩
  | 75 => ⟨S32x64x64x64, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S32x64x64x64, .f32⟩
  | 84 => ⟨S32x64x64x64, .f32⟩
  | 85 => ⟨S_, .i32⟩
  | 86 => ⟨S_, .f32⟩
  | 87 => ⟨S32x64x66x66, .f32⟩
  | 88 => ⟨S32x64x64x64, .f32⟩
  | 89 => ⟨S128x64x1x1, .f32⟩
  | 90 => ⟨S128x64, .f32⟩
  | 91 => ⟨S128x32x64x64, .f32⟩
  | 92 => ⟨S32x128x64x64, .f32⟩
  | 93 => ⟨S32x64x64x64, .f32⟩
  | 94 => ⟨S128x64x1x1, .f32⟩
  | 95 => ⟨S128x64, .f32⟩
  | 96 => ⟨S128x32x64x64, .f32⟩
  | 97 => ⟨S32x128x64x64, .f32⟩
  | 98 => ⟨S32x128x64x64, .f32⟩
  | 99 => ⟨S32x64x64x64, .f32⟩
  | 100 => ⟨S128x64x1x1, .f32⟩
  | 101 => ⟨S128x64, .f32⟩
  | 102 => ⟨S128x32x64x64, .f32⟩
  | 103 => ⟨S32x128x64x64, .f32⟩
  | 104 => ⟨S32x128x64x64, .f32⟩
  | 105 => ⟨S32x64x64x64, .f32⟩
  | 106 => ⟨S128x64x1x1, .f32⟩
  | 107 => ⟨S128x64, .f32⟩
  | 108 => ⟨S128x32x64x64, .f32⟩
  | 109 => ⟨S32x128x64x64, .f32⟩
  | 110 => ⟨S32x128x64x64, .f32⟩
  | 111 => ⟨S32x64x64x64, .f32⟩
  | 112 => ⟨S128x64x1x1, .f32⟩
  | 113 => ⟨S128x64, .f32⟩
  | 114 => ⟨S128x32x64x64, .f32⟩
  | 115 => ⟨S32x128x64x64, .f32⟩
  | 116 => ⟨S32x128x64x64, .f32⟩
  | 117 => ⟨S32x64x64x64, .f32⟩
  | 118 => ⟨S128x64x1x1, .f32⟩
  | 119 => ⟨S128x64, .f32⟩
  | 120 => ⟨S128x32x64x64, .f32⟩
  | 121 => ⟨S32x128x64x64, .f32⟩
  | 122 => ⟨S32x128x64x64, .f32⟩
  | 123 => ⟨S32x64x64x64, .f32⟩
  | 124 => ⟨S128x64x1x1, .f32⟩
  | 125 => ⟨S128x64, .f32⟩
  | 126 => ⟨S128x32x64x64, .f32⟩
  | 127 => ⟨S32x128x64x64, .f32⟩
  | _ => ⟨S32x3x256x256, .f32⟩

abbrev hbmTy0_4 (i : Nat) : BufTy := match i % 128 with
  | 0 => ⟨S32x128x64x64, .f32⟩
  | 1 => ⟨S32x64x64x64, .f32⟩
  | 2 => ⟨S128x64x1x1, .f32⟩
  | 3 => ⟨S128x64, .f32⟩
  | 4 => ⟨S128x32x64x64, .f32⟩
  | 5 => ⟨S32x128x64x64, .f32⟩
  | 6 => ⟨S32x128x64x64, .f32⟩
  | 7 => ⟨S32x64x64x64, .f32⟩
  | 8 => ⟨S128x64x1x1, .f32⟩
  | 9 => ⟨S128x64, .f32⟩
  | 10 => ⟨S128x32x64x64, .f32⟩
  | 11 => ⟨S32x128x64x64, .f32⟩
  | 12 => ⟨S32x128x64x64, .f32⟩
  | 13 => ⟨S1x128x1x1, .f32⟩
  | 14 => ⟨S32x128x64x64, .f32⟩
  | 15 => ⟨S32x128x64x64, .f32⟩
  | 16 => ⟨S_, .f32⟩
  | 17 => ⟨S32x128x64x64, .f32⟩
  | 18 => ⟨S32x128x64x64, .f32⟩
  | 19 => ⟨S_, .i32⟩
  | 20 => ⟨S_, .f32⟩
  | 21 => ⟨S32x128x66x66, .f32⟩
  | 22 => ⟨S32x128x64x64, .f32⟩
  | 23 => ⟨S128x128x1x1, .f32⟩
  | 24 => ⟨S128x128, .f32⟩
  | 25 => ⟨S128x32x64x64, .f32⟩
  | 26 => ⟨S32x128x64x64, .f32⟩
  | 27 => ⟨S32x128x64x64, .f32⟩
  | 28 => ⟨S128x128x1x1, .f32⟩
  | 29 => ⟨S128x128, .f32⟩
  | 30 => ⟨S128x32x64x64, .f32⟩
  | 31 => ⟨S32x128x64x64, .f32⟩
  | 32 => ⟨S32x128x64x64, .f32⟩
  | 33 => ⟨S32x128x64x64, .f32⟩
  | 34 => ⟨S128x128x1x1, .f32⟩
  | 35 => ⟨S128x128, .f32⟩
  | 36 => ⟨S128x32x64x64, .f32⟩
  | 37 => ⟨S32x128x64x64, .f32⟩
  | 38 => ⟨S32x128x64x64, .f32⟩
  | 39 => ⟨S32x128x64x64, .f32⟩
  | 40 => ⟨S128x128x1x1, .f32⟩
  | 41 => ⟨S128x128, .f32⟩
  | 42 => ⟨S128x32x64x64, .f32⟩
  | 43 => ⟨S32x128x64x64, .f32⟩
  | 44 => ⟨S32x128x64x64, .f32⟩
  | 45 => ⟨S32x128x64x64, .f32⟩
  | 46 => ⟨S128x128x1x1, .f32⟩
  | 47 => ⟨S128x128, .f32⟩
  | 48 => ⟨S128x32x64x64, .f32⟩
  | 49 => ⟨S32x128x64x64, .f32⟩
  | 50 => ⟨S32x128x64x64, .f32⟩
  | 51 => ⟨S32x128x64x64, .f32⟩
  | 52 => ⟨S128x128x1x1, .f32⟩
  | 53 => ⟨S128x128, .f32⟩
  | 54 => ⟨S128x32x64x64, .f32⟩
  | 55 => ⟨S32x128x64x64, .f32⟩
  | 56 => ⟨S32x128x64x64, .f32⟩
  | 57 => ⟨S32x128x64x64, .f32⟩
  | 58 => ⟨S128x128x1x1, .f32⟩
  | 59 => ⟨S128x128, .f32⟩
  | 60 => ⟨S128x32x64x64, .f32⟩
  | 61 => ⟨S32x128x64x64, .f32⟩
  | 62 => ⟨S32x128x64x64, .f32⟩
  | 63 => ⟨S32x128x64x64, .f32⟩
  | 64 => ⟨S128x128x1x1, .f32⟩
  | 65 => ⟨S128x128, .f32⟩
  | 66 => ⟨S128x32x64x64, .f32⟩
  | 67 => ⟨S32x128x64x64, .f32⟩
  | 68 => ⟨S32x128x64x64, .f32⟩
  | 69 => ⟨S32x128x64x64, .f32⟩
  | 70 => ⟨S128x128x1x1, .f32⟩
  | 71 => ⟨S128x128, .f32⟩
  | 72 => ⟨S128x32x64x64, .f32⟩
  | 73 => ⟨S32x128x64x64, .f32⟩
  | 74 => ⟨S32x128x64x64, .f32⟩
  | 75 => ⟨S1x128x1x1, .f32⟩
  | 76 => ⟨S32x128x64x64, .f32⟩
  | 77 => ⟨S32x128x64x64, .f32⟩
  | 78 => ⟨S_, .f32⟩
  | 79 => ⟨S32x128x64x64, .f32⟩
  | 80 => ⟨S32x128x64x64, .f32⟩
  | 81 => ⟨S_, .i32⟩
  | 82 => ⟨S_, .f32⟩
  | 83 => ⟨S32x128x64x64, .f32⟩
  | 84 => ⟨S32x128x64x64, .f32⟩
  | 85 => ⟨S128x128, .f32⟩
  | 86 => ⟨S128x32x64x64, .f32⟩
  | 87 => ⟨S32x128x64x64, .f32⟩
  | 88 => ⟨S1x128x1x1, .f32⟩
  | 89 => ⟨S32x128x64x64, .f32⟩
  | 90 => ⟨S32x128x64x64, .f32⟩
  | 91 => ⟨S32x128x64x64, .f32⟩
  | 92 => ⟨S_, .f32⟩
  | 93 => ⟨S32x128x64x64, .f32⟩
  | 94 => ⟨S32x128x64x64, .f32⟩
  | 95 => ⟨S_, .i32⟩
  | 96 => ⟨S_, .f32⟩
  | 97 => ⟨S32x128x66x66, .f32⟩
  | 98 => ⟨S32x128x64x64, .f32⟩
  | 99 => ⟨S128x128x1x1, .f32⟩
  | 100 => ⟨S128x128, .f32⟩
  | 101 => ⟨S128x32x64x64, .f32⟩
  | 102 => ⟨S32x128x64x64, .f32⟩
  | 103 => ⟨S32x128x64x64, .f32⟩
  | 104 => ⟨S128x128x1x1, .f32⟩
  | 105 => ⟨S128x128, .f32⟩
  | 106 => ⟨S128x32x64x64, .f32⟩
  | 107 => ⟨S32x128x64x64, .f32⟩
  | 108 => ⟨S32x128x64x64, .f32⟩
  | 109 => ⟨S32x128x64x64, .f32⟩
  | 110 => ⟨S128x128x1x1, .f32⟩
  | 111 => ⟨S128x128, .f32⟩
  | 112 => ⟨S128x32x64x64, .f32⟩
  | 113 => ⟨S32x128x64x64, .f32⟩
  | 114 => ⟨S32x128x64x64, .f32⟩
  | 115 => ⟨S32x128x64x64, .f32⟩
  | 116 => ⟨S128x128x1x1, .f32⟩
  | 117 => ⟨S128x128, .f32⟩
  | 118 => ⟨S128x32x64x64, .f32⟩
  | 119 => ⟨S32x128x64x64, .f32⟩
  | 120 => ⟨S32x128x64x64, .f32⟩
  | 121 => ⟨S32x128x64x64, .f32⟩
  | 122 => ⟨S128x128x1x1, .f32⟩
  | 123 => ⟨S128x128, .f32⟩
  | 124 => ⟨S128x32x64x64, .f32⟩
  | 125 => ⟨S32x128x64x64, .f32⟩
  | 126 => ⟨S32x128x64x64, .f32⟩
  | 127 => ⟨S32x128x64x64, .f32⟩
  | _ => ⟨S32x3x256x256, .f32⟩

abbrev hbmTy0_5 (i : Nat) : BufTy := match i % 128 with
  | 0 => ⟨S128x128x1x1, .f32⟩
  | 1 => ⟨S128x128, .f32⟩
  | 2 => ⟨S128x32x64x64, .f32⟩
  | 3 => ⟨S32x128x64x64, .f32⟩
  | 4 => ⟨S32x128x64x64, .f32⟩
  | 5 => ⟨S32x128x64x64, .f32⟩
  | 6 => ⟨S128x128x1x1, .f32⟩
  | 7 => ⟨S128x128, .f32⟩
  | 8 => ⟨S128x32x64x64, .f32⟩
  | 9 => ⟨S32x128x64x64, .f32⟩
  | 10 => ⟨S32x128x64x64, .f32⟩
  | 11 => ⟨S32x128x64x64, .f32⟩
  | 12 => ⟨S128x128x1x1, .f32⟩
  | 13 => ⟨S128x128, .f32⟩
  | 14 => ⟨S128x32x64x64, .f32⟩
  | 15 => ⟨S32x128x64x64, .f32⟩
  | 16 => ⟨S32x128x64x64, .f32⟩
  | 17 => ⟨S32x128x64x64, .f32⟩
  | 18 => ⟨S128x128x1x1, .f32⟩
  | 19 => ⟨S128x128, .f32⟩
  | 20 => ⟨S128x32x64x64, .f32⟩
  | 21 => ⟨S32x128x64x64, .f32⟩
  | 22 => ⟨S32x128x64x64, .f32⟩
  | 23 => ⟨S1x128x1x1, .f32⟩
  | 24 => ⟨S32x128x64x64, .f32⟩
  | 25 => ⟨S32x128x64x64, .f32⟩
  | 26 => ⟨S_, .f32⟩
  | 27 => ⟨S32x128x64x64, .f32⟩
  | 28 => ⟨S32x128x64x64, .f32⟩
  | 29 => ⟨S_, .i32⟩
  | 30 => ⟨S_, .f32⟩
  | 31 => ⟨S32x128x64x64, .f32⟩
  | 32 => ⟨S32x128x64x64, .f32⟩
  | 33 => ⟨S128x128, .f32⟩
  | 34 => ⟨S128x32x64x64, .f32⟩
  | 35 => ⟨S32x128x64x64, .f32⟩
  | 36 => ⟨S1x128x1x1, .f32⟩
  | 37 => ⟨S32x128x64x64, .f32⟩
  | 38 => ⟨S32x128x64x64, .f32⟩
  | 39 => ⟨S32x128x64x64, .f32⟩
  | 40 => ⟨S_, .f32⟩
  | 41 => ⟨S32x128x131x131, .f32⟩
  | 42 => ⟨S_, .i32⟩
  | 43 => ⟨S_, .f32⟩
  | 44 => ⟨S32x128x131x131, .f32⟩
  | 45 => ⟨S32x128x128x128, .f32⟩
  | 46 => ⟨S128x128x1x1, .f32⟩
  | 47 => ⟨S128x128, .f32⟩
  | 48 => ⟨S128x32x128x128, .f32⟩
  | 49 => ⟨S32x128x128x128, .f32⟩
  | 50 => ⟨S32x128x128x128, .f32⟩
  | 51 => ⟨S128x128x1x1, .f32⟩
  | 52 => ⟨S128x128, .f32⟩
  | 53 => ⟨S128x32x128x128, .f32⟩
  | 54 => ⟨S32x128x128x128, .f32⟩
  | 55 => ⟨S32x128x128x128, .f32⟩
  | 56 => ⟨S32x128x128x128, .f32⟩
  | 57 => ⟨S128x128x1x1, .f32⟩
  | 58 => ⟨S128x128, .f32⟩
  | 59 => ⟨S128x32x128x128, .f32⟩
  | 60 => ⟨S32x128x128x128, .f32⟩
  | 61 => ⟨S32x128x128x128, .f32⟩
  | 62 => ⟨S32x128x128x128, .f32⟩
  | 63 => ⟨S128x128x1x1, .f32⟩
  | 64 => ⟨S128x128, .f32⟩
  | 65 => ⟨S128x32x128x128, .f32⟩
  | 66 => ⟨S32x128x128x128, .f32⟩
  | 67 => ⟨S32x128x128x128, .f32⟩
  | 68 => ⟨S32x128x128x128, .f32⟩
  | 69 => ⟨S128x128x1x1, .f32⟩
  | 70 => ⟨S128x128, .f32⟩
  | 71 => ⟨S128x32x128x128, .f32⟩
  | 72 => ⟨S32x128x128x128, .f32⟩
  | 73 => ⟨S32x128x128x128, .f32⟩
  | 74 => ⟨S32x128x128x128, .f32⟩
  | 75 => ⟨S128x128x1x1, .f32⟩
  | 76 => ⟨S128x128, .f32⟩
  | 77 => ⟨S128x32x128x128, .f32⟩
  | 78 => ⟨S32x128x128x128, .f32⟩
  | 79 => ⟨S32x128x128x128, .f32⟩
  | 80 => ⟨S32x128x128x128, .f32⟩
  | 81 => ⟨S128x128x1x1, .f32⟩
  | 82 => ⟨S128x128, .f32⟩
  | 83 => ⟨S128x32x128x128, .f32⟩
  | 84 => ⟨S32x128x128x128, .f32⟩
  | 85 => ⟨S32x128x128x128, .f32⟩
  | 86 => ⟨S32x128x128x128, .f32⟩
  | 87 => ⟨S128x128x1x1, .f32⟩
  | 88 => ⟨S128x128, .f32⟩
  | 89 => ⟨S128x32x128x128, .f32⟩
  | 90 => ⟨S32x128x128x128, .f32⟩
  | 91 => ⟨S32x128x128x128, .f32⟩
  | 92 => ⟨S32x128x128x128, .f32⟩
  | 93 => ⟨S128x128x1x1, .f32⟩
  | 94 => ⟨S128x128, .f32⟩
  | 95 => ⟨S128x32x128x128, .f32⟩
  | 96 => ⟨S32x128x128x128, .f32⟩
  | 97 => ⟨S32x128x128x128, .f32⟩
  | 98 => ⟨S32x128x128x128, .f32⟩
  | 99 => ⟨S128x128x1x1, .f32⟩
  | 100 => ⟨S128x128, .f32⟩
  | 101 => ⟨S128x32x128x128, .f32⟩
  | 102 => ⟨S32x128x128x128, .f32⟩
  | 103 => ⟨S32x128x128x128, .f32⟩
  | 104 => ⟨S32x128x128x128, .f32⟩
  | 105 => ⟨S128x128x1x1, .f32⟩
  | 106 => ⟨S128x128, .f32⟩
  | 107 => ⟨S128x32x128x128, .f32⟩
  | 108 => ⟨S32x128x128x128, .f32⟩
  | 109 => ⟨S32x128x128x128, .f32⟩
  | 110 => ⟨S32x128x128x128, .f32⟩
  | 111 => ⟨S128x128x1x1, .f32⟩
  | 112 => ⟨S128x128, .f32⟩
  | 113 => ⟨S128x32x128x128, .f32⟩
  | 114 => ⟨S32x128x128x128, .f32⟩
  | 115 => ⟨S32x128x128x128, .f32⟩
  | 116 => ⟨S32x128x128x128, .f32⟩
  | 117 => ⟨S128x128x1x1, .f32⟩
  | 118 => ⟨S128x128, .f32⟩
  | 119 => ⟨S128x32x128x128, .f32⟩
  | 120 => ⟨S32x128x128x128, .f32⟩
  | 121 => ⟨S32x128x128x128, .f32⟩
  | 122 => ⟨S32x128x128x128, .f32⟩
  | 123 => ⟨S128x128x1x1, .f32⟩
  | 124 => ⟨S128x128, .f32⟩
  | 125 => ⟨S128x32x128x128, .f32⟩
  | 126 => ⟨S32x128x128x128, .f32⟩
  | 127 => ⟨S32x128x128x128, .f32⟩
  | _ => ⟨S32x3x256x256, .f32⟩

abbrev hbmTy0_6 (i : Nat) : BufTy := match i % 128 with
  | 0 => ⟨S32x128x128x128, .f32⟩
  | 1 => ⟨S128x128x1x1, .f32⟩
  | 2 => ⟨S128x128, .f32⟩
  | 3 => ⟨S128x32x128x128, .f32⟩
  | 4 => ⟨S32x128x128x128, .f32⟩
  | 5 => ⟨S32x128x128x128, .f32⟩
  | 6 => ⟨S32x128x128x128, .f32⟩
  | 7 => ⟨S128x128x1x1, .f32⟩
  | 8 => ⟨S128x128, .f32⟩
  | 9 => ⟨S128x32x128x128, .f32⟩
  | 10 => ⟨S32x128x128x128, .f32⟩
  | 11 => ⟨S32x128x128x128, .f32⟩
  | 12 => ⟨S1x128x1x1, .f32⟩
  | 13 => ⟨S32x128x128x128, .f32⟩
  | 14 => ⟨S32x128x128x128, .f32⟩
  | 15 => ⟨S_, .f32⟩
  | 16 => ⟨S32x128x128x128, .f32⟩
  | 17 => ⟨S32x128x128x128, .f32⟩
  | 18 => ⟨S_, .f32⟩
  | 19 => ⟨S32x128x259x259, .f32⟩
  | 20 => ⟨S_, .i32⟩
  | 21 => ⟨S_, .f32⟩
  | 22 => ⟨S32x128x259x259, .f32⟩
  | 23 => ⟨S32x128x256x256, .f32⟩
  | 24 => ⟨S3x128x1x1, .f32⟩
  | 25 => ⟨S3x128, .f32⟩
  | 26 => ⟨S3x32x256x256, .f32⟩
  | 27 => ⟨S32x3x256x256, .f32⟩
  | 28 => ⟨S32x128x256x256, .f32⟩
  | 29 => ⟨S3x128x1x1, .f32⟩
  | 30 => ⟨S3x128, .f32⟩
  | 31 => ⟨S3x32x256x256, .f32⟩
  | 32 => ⟨S32x3x256x256, .f32⟩
  | 33 => ⟨S32x3x256x256, .f32⟩
  | 34 => ⟨S32x128x256x256, .f32⟩
  | 35 => ⟨S3x128x1x1, .f32⟩
  | 36 => ⟨S3x128, .f32⟩
  | 37 => ⟨S3x32x256x256, .f32⟩
  | 38 => ⟨S32x3x256x256, .f32⟩
  | 39 => ⟨S32x3x256x256, .f32⟩
  | 40 => ⟨S32x128x256x256, .f32⟩
  | 41 => ⟨S3x128x1x1, .f32⟩
  | 42 => ⟨S3x128, .f32⟩
  | 43 => ⟨S3x32x256x256, .f32⟩
  | 44 => ⟨S32x3x256x256, .f32⟩
  | 45 => ⟨S32x3x256x256, .f32⟩
  | 46 => ⟨S32x128x256x256, .f32⟩
  | 47 => ⟨S3x128x1x1, .f32⟩
  | 48 => ⟨S3x128, .f32⟩
  | 49 => ⟨S3x32x256x256, .f32⟩
  | 50 => ⟨S32x3x256x256, .f32⟩
  | 51 => ⟨S32x3x256x256, .f32⟩
  | 52 => ⟨S32x128x256x256, .f32⟩
  | 53 => ⟨S3x128x1x1, .f32⟩
  | 54 => ⟨S3x128, .f32⟩
  | 55 => ⟨S3x32x256x256, .f32⟩
  | 56 => ⟨S32x3x256x256, .f32⟩
  | 57 => ⟨S32x3x256x256, .f32⟩
  | 58 => ⟨S32x128x256x256, .f32⟩
  | 59 => ⟨S3x128x1x1, .f32⟩
  | 60 => ⟨S3x128, .f32⟩
  | 61 => ⟨S3x32x256x256, .f32⟩
  | 62 => ⟨S32x3x256x256, .f32⟩
  | 63 => ⟨S32x3x256x256, .f32⟩
  | 64 => ⟨S32x128x256x256, .f32⟩
  | 65 => ⟨S3x128x1x1, .f32⟩
  | 66 => ⟨S3x128, .f32⟩
  | 67 => ⟨S3x32x256x256, .f32⟩
  | 68 => ⟨S32x3x256x256, .f32⟩
  | 69 => ⟨S32x3x256x256, .f32⟩
  | 70 => ⟨S32x128x256x256, .f32⟩
  | 71 => ⟨S3x128x1x1, .f32⟩
  | 72 => ⟨S3x128, .f32⟩
  | 73 => ⟨S3x32x256x256, .f32⟩
  | 74 => ⟨S32x3x256x256, .f32⟩
  | 75 => ⟨S32x3x256x256, .f32⟩
  | 76 => ⟨S32x128x256x256, .f32⟩
  | 77 => ⟨S3x128x1x1, .f32⟩
  | 78 => ⟨S3x128, .f32⟩
  | 79 => ⟨S3x32x256x256, .f32⟩
  | 80 => ⟨S32x3x256x256, .f32⟩
  | 81 => ⟨S32x3x256x256, .f32⟩
  | 82 => ⟨S32x128x256x256, .f32⟩
  | 83 => ⟨S3x128x1x1, .f32⟩
  | 84 => ⟨S3x128, .f32⟩
  | 85 => ⟨S3x32x256x256, .f32⟩
  | 86 => ⟨S32x3x256x256, .f32⟩
  | 87 => ⟨S32x3x256x256, .f32⟩
  | 88 => ⟨S32x128x256x256, .f32⟩
  | 89 => ⟨S3x128x1x1, .f32⟩
  | 90 => ⟨S3x128, .f32⟩
  | 91 => ⟨S3x32x256x256, .f32⟩
  | 92 => ⟨S32x3x256x256, .f32⟩
  | 93 => ⟨S32x3x256x256, .f32⟩
  | 94 => ⟨S32x128x256x256, .f32⟩
  | 95 => ⟨S3x128x1x1, .f32⟩
  | 96 => ⟨S3x128, .f32⟩
  | 97 => ⟨S3x32x256x256, .f32⟩
  | 98 => ⟨S32x3x256x256, .f32⟩
  | 99 => ⟨S32x3x256x256, .f32⟩
  | 100 => ⟨S32x128x256x256, .f32⟩
  | 101 => ⟨S3x128x1x1, .f32⟩
  | 102 => ⟨S3x128, .f32⟩
  | 103 => ⟨S3x32x256x256, .f32⟩
  | 104 => ⟨S32x3x256x256, .f32⟩
  | 105 => ⟨S32x3x256x256, .f32⟩
  | 106 => ⟨S32x128x256x256, .f32⟩
  | 107 => ⟨S3x128x1x1, .f32⟩
  | 108 => ⟨S3x128, .f32⟩
  | 109 => ⟨S3x32x256x256, .f32⟩
  | 110 => ⟨S32x3x256x256, .f32⟩
  | 111 => ⟨S32x3x256x256, .f32⟩
  | 112 => ⟨S32x128x256x256, .f32⟩
  | 113 => ⟨S3x128x1x1, .f32⟩
  | 114 => ⟨S3x128, .f32⟩
  | 115 => ⟨S3x32x256x256, .f32⟩
  | 116 => ⟨S32x3x256x256, .f32⟩
  | 117 => ⟨S32x3x256x256, .f32⟩
  | 118 => ⟨S1x3x1x1, .f32⟩
  | 119 => ⟨S32x3x256x256, .f32⟩
  | 120 => ⟨S32x3x256x256, .f32⟩
  | 121 => ⟨S32x3x256x256, .f32⟩
  | 122 => ⟨S131072x1, .i32⟩
  | _ => ⟨S32x3x256x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S32x3x256x256, .f32⟩

abbrev bufTy : (tb : Table) → Fin (tcTables nBuf tb) → BufTy
  | .hbm, ⟨i, _⟩ => hbmTy i
  | _, _ => ⟨S32x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_cst : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_c : Ref sig .tc := ⟨.hbm, 35, rfl⟩
abbrev main_call1_v0 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_call2_cst : Ref sig .tc := ⟨.hbm, 136, rfl⟩
abbrev main_call2_v0 : Ref sig .tc := ⟨.hbm, 137, rfl⟩
abbrev main_v103 : Ref sig .tc := ⟨.hbm, 138, rfl⟩
abbrev main_c_0 : Ref sig .tc := ⟨.hbm, 139, rfl⟩
abbrev main_call3_v0 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_call4_cst : Ref sig .tc := ⟨.hbm, 240, rfl⟩
abbrev main_call4_v0 : Ref sig .tc := ⟨.hbm, 241, rfl⟩
abbrev main_v203 : Ref sig .tc := ⟨.hbm, 242, rfl⟩
abbrev main_v204 : Ref sig .tc := ⟨.hbm, 243, rfl⟩
abbrev main_call5_cst : Ref sig .tc := ⟨.hbm, 244, rfl⟩
abbrev main_call5_v0 : Ref sig .tc := ⟨.hbm, 245, rfl⟩
abbrev main_v205 : Ref sig .tc := ⟨.hbm, 246, rfl⟩
abbrev main_c_1 : Ref sig .tc := ⟨.hbm, 247, rfl⟩
abbrev main_call6_v0 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_v226 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_v237 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_v241 : Ref sig .tc := ⟨.hbm, 284, rfl⟩
abbrev main_v242 : Ref sig .tc := ⟨.hbm, 285, rfl⟩
abbrev main_v243 : Ref sig .tc := ⟨.hbm, 286, rfl⟩
abbrev main_v244 : Ref sig .tc := ⟨.hbm, 287, rfl⟩
abbrev main_v245 : Ref sig .tc := ⟨.hbm, 288, rfl⟩
abbrev main_v246 : Ref sig .tc := ⟨.hbm, 289, rfl⟩
abbrev main_v247 : Ref sig .tc := ⟨.hbm, 290, rfl⟩
abbrev main_v248 : Ref sig .tc := ⟨.hbm, 291, rfl⟩
abbrev main_v249 : Ref sig .tc := ⟨.hbm, 292, rfl⟩
abbrev main_v250 : Ref sig .tc := ⟨.hbm, 293, rfl⟩
abbrev main_v251 : Ref sig .tc := ⟨.hbm, 294, rfl⟩
abbrev main_v252 : Ref sig .tc := ⟨.hbm, 295, rfl⟩
abbrev main_v253 : Ref sig .tc := ⟨.hbm, 296, rfl⟩
abbrev main_v254 : Ref sig .tc := ⟨.hbm, 297, rfl⟩
abbrev main_v255 : Ref sig .tc := ⟨.hbm, 298, rfl⟩
abbrev main_v256 : Ref sig .tc := ⟨.hbm, 299, rfl⟩
abbrev main_v257 : Ref sig .tc := ⟨.hbm, 300, rfl⟩
abbrev main_v258 : Ref sig .tc := ⟨.hbm, 301, rfl⟩
abbrev main_v259 : Ref sig .tc := ⟨.hbm, 302, rfl⟩
abbrev main_v260 : Ref sig .tc := ⟨.hbm, 303, rfl⟩
abbrev main_v261 : Ref sig .tc := ⟨.hbm, 304, rfl⟩
abbrev main_v262 : Ref sig .tc := ⟨.hbm, 305, rfl⟩
abbrev main_call7_cst : Ref sig .tc := ⟨.hbm, 306, rfl⟩
abbrev main_call7_v0 : Ref sig .tc := ⟨.hbm, 307, rfl⟩
abbrev main_v263 : Ref sig .tc := ⟨.hbm, 308, rfl⟩
abbrev main_c_2 : Ref sig .tc := ⟨.hbm, 309, rfl⟩
abbrev main_call8_v0 : Ref sig .tc := ⟨.hbm, 310, rfl⟩
abbrev main_v264 : Ref sig .tc := ⟨.hbm, 311, rfl⟩
abbrev main_v265 : Ref sig .tc := ⟨.hbm, 312, rfl⟩
abbrev main_v266 : Ref sig .tc := ⟨.hbm, 313, rfl⟩
abbrev main_v267 : Ref sig .tc := ⟨.hbm, 314, rfl⟩
abbrev main_v268 : Ref sig .tc := ⟨.hbm, 315, rfl⟩
abbrev main_v269 : Ref sig .tc := ⟨.hbm, 316, rfl⟩
abbrev main_v270 : Ref sig .tc := ⟨.hbm, 317, rfl⟩
abbrev main_v271 : Ref sig .tc := ⟨.hbm, 318, rfl⟩
abbrev main_v272 : Ref sig .tc := ⟨.hbm, 319, rfl⟩
abbrev main_v273 : Ref sig .tc := ⟨.hbm, 320, rfl⟩
abbrev main_v274 : Ref sig .tc := ⟨.hbm, 321, rfl⟩
abbrev main_call10_cst : Ref sig .tc := ⟨.hbm, 322, rfl⟩
abbrev main_call10_v0 : Ref sig .tc := ⟨.hbm, 323, rfl⟩
abbrev main_v275 : Ref sig .tc := ⟨.hbm, 324, rfl⟩
abbrev main_c_3 : Ref sig .tc := ⟨.hbm, 325, rfl⟩
abbrev main_call11_v0 : Ref sig .tc := ⟨.hbm, 326, rfl⟩
abbrev main_v276 : Ref sig .tc := ⟨.hbm, 327, rfl⟩
abbrev main_v277 : Ref sig .tc := ⟨.hbm, 328, rfl⟩
abbrev main_v278 : Ref sig .tc := ⟨.hbm, 329, rfl⟩
abbrev main_v279 : Ref sig .tc := ⟨.hbm, 330, rfl⟩
abbrev main_v280 : Ref sig .tc := ⟨.hbm, 331, rfl⟩
abbrev main_v281 : Ref sig .tc := ⟨.hbm, 332, rfl⟩
abbrev main_v282 : Ref sig .tc := ⟨.hbm, 333, rfl⟩
abbrev main_v283 : Ref sig .tc := ⟨.hbm, 334, rfl⟩
abbrev main_v284 : Ref sig .tc := ⟨.hbm, 335, rfl⟩
abbrev main_v285 : Ref sig .tc := ⟨.hbm, 336, rfl⟩
abbrev main_v286 : Ref sig .tc := ⟨.hbm, 337, rfl⟩
abbrev main_v287 : Ref sig .tc := ⟨.hbm, 338, rfl⟩
abbrev main_v288 : Ref sig .tc := ⟨.hbm, 339, rfl⟩
abbrev main_v289 : Ref sig .tc := ⟨.hbm, 340, rfl⟩
abbrev main_v290 : Ref sig .tc := ⟨.hbm, 341, rfl⟩
abbrev main_v291 : Ref sig .tc := ⟨.hbm, 342, rfl⟩
abbrev main_v292 : Ref sig .tc := ⟨.hbm, 343, rfl⟩
abbrev main_v293 : Ref sig .tc := ⟨.hbm, 344, rfl⟩
abbrev main_v294 : Ref sig .tc := ⟨.hbm, 345, rfl⟩
abbrev main_v295 : Ref sig .tc := ⟨.hbm, 346, rfl⟩
abbrev main_v296 : Ref sig .tc := ⟨.hbm, 347, rfl⟩
abbrev main_v297 : Ref sig .tc := ⟨.hbm, 348, rfl⟩
abbrev main_v298 : Ref sig .tc := ⟨.hbm, 349, rfl⟩
abbrev main_v299 : Ref sig .tc := ⟨.hbm, 350, rfl⟩
abbrev main_v300 : Ref sig .tc := ⟨.hbm, 351, rfl⟩
abbrev main_v301 : Ref sig .tc := ⟨.hbm, 352, rfl⟩
abbrev main_v302 : Ref sig .tc := ⟨.hbm, 353, rfl⟩
abbrev main_v303 : Ref sig .tc := ⟨.hbm, 354, rfl⟩
abbrev main_v304 : Ref sig .tc := ⟨.hbm, 355, rfl⟩
abbrev main_v305 : Ref sig .tc := ⟨.hbm, 356, rfl⟩
abbrev main_v306 : Ref sig .tc := ⟨.hbm, 357, rfl⟩
abbrev main_v307 : Ref sig .tc := ⟨.hbm, 358, rfl⟩
abbrev main_v308 : Ref sig .tc := ⟨.hbm, 359, rfl⟩
abbrev main_v309 : Ref sig .tc := ⟨.hbm, 360, rfl⟩
abbrev main_v310 : Ref sig .tc := ⟨.hbm, 361, rfl⟩
abbrev main_v311 : Ref sig .tc := ⟨.hbm, 362, rfl⟩
abbrev main_v312 : Ref sig .tc := ⟨.hbm, 363, rfl⟩
abbrev main_v313 : Ref sig .tc := ⟨.hbm, 364, rfl⟩
abbrev main_v314 : Ref sig .tc := ⟨.hbm, 365, rfl⟩
abbrev main_v315 : Ref sig .tc := ⟨.hbm, 366, rfl⟩
abbrev main_v316 : Ref sig .tc := ⟨.hbm, 367, rfl⟩
abbrev main_v317 : Ref sig .tc := ⟨.hbm, 368, rfl⟩
abbrev main_v318 : Ref sig .tc := ⟨.hbm, 369, rfl⟩
abbrev main_v319 : Ref sig .tc := ⟨.hbm, 370, rfl⟩
abbrev main_v320 : Ref sig .tc := ⟨.hbm, 371, rfl⟩
abbrev main_v321 : Ref sig .tc := ⟨.hbm, 372, rfl⟩
abbrev main_v322 : Ref sig .tc := ⟨.hbm, 373, rfl⟩
abbrev main_v323 : Ref sig .tc := ⟨.hbm, 374, rfl⟩
abbrev main_v324 : Ref sig .tc := ⟨.hbm, 375, rfl⟩
abbrev main_v325 : Ref sig .tc := ⟨.hbm, 376, rfl⟩
abbrev main_v326 : Ref sig .tc := ⟨.hbm, 377, rfl⟩
abbrev main_v327 : Ref sig .tc := ⟨.hbm, 378, rfl⟩
abbrev main_v328 : Ref sig .tc := ⟨.hbm, 379, rfl⟩
abbrev main_v329 : Ref sig .tc := ⟨.hbm, 380, rfl⟩
abbrev main_v330 : Ref sig .tc := ⟨.hbm, 381, rfl⟩
abbrev main_v331 : Ref sig .tc := ⟨.hbm, 382, rfl⟩
abbrev main_v332 : Ref sig .tc := ⟨.hbm, 383, rfl⟩
abbrev main_call12_cst : Ref sig .tc := ⟨.hbm, 384, rfl⟩
abbrev main_call12_v0 : Ref sig .tc := ⟨.hbm, 385, rfl⟩
abbrev main_v333 : Ref sig .tc := ⟨.hbm, 386, rfl⟩
abbrev main_c_4 : Ref sig .tc := ⟨.hbm, 387, rfl⟩
abbrev main_call13_v0 : Ref sig .tc := ⟨.hbm, 388, rfl⟩
abbrev main_v334 : Ref sig .tc := ⟨.hbm, 389, rfl⟩
abbrev main_v335 : Ref sig .tc := ⟨.hbm, 390, rfl⟩
abbrev main_v336 : Ref sig .tc := ⟨.hbm, 391, rfl⟩
abbrev main_v337 : Ref sig .tc := ⟨.hbm, 392, rfl⟩
abbrev main_v338 : Ref sig .tc := ⟨.hbm, 393, rfl⟩
abbrev main_v339 : Ref sig .tc := ⟨.hbm, 394, rfl⟩
abbrev main_v340 : Ref sig .tc := ⟨.hbm, 395, rfl⟩
abbrev main_v341 : Ref sig .tc := ⟨.hbm, 396, rfl⟩
abbrev main_v342 : Ref sig .tc := ⟨.hbm, 397, rfl⟩
abbrev main_c_5 : Ref sig .tc := ⟨.hbm, 398, rfl⟩
abbrev main_call14_v0 : Ref sig .tc := ⟨.hbm, 399, rfl⟩
abbrev main_v343 : Ref sig .tc := ⟨.hbm, 400, rfl⟩
abbrev main_v344 : Ref sig .tc := ⟨.hbm, 401, rfl⟩
abbrev main_v345 : Ref sig .tc := ⟨.hbm, 402, rfl⟩
abbrev main_v346 : Ref sig .tc := ⟨.hbm, 403, rfl⟩
abbrev main_v347 : Ref sig .tc := ⟨.hbm, 404, rfl⟩
abbrev main_v348 : Ref sig .tc := ⟨.hbm, 405, rfl⟩
abbrev main_v349 : Ref sig .tc := ⟨.hbm, 406, rfl⟩
abbrev main_v350 : Ref sig .tc := ⟨.hbm, 407, rfl⟩
abbrev main_v351 : Ref sig .tc := ⟨.hbm, 408, rfl⟩
abbrev main_v352 : Ref sig .tc := ⟨.hbm, 409, rfl⟩
abbrev main_v353 : Ref sig .tc := ⟨.hbm, 410, rfl⟩
abbrev main_cst_6 : Ref sig .tc := ⟨.hbm, 411, rfl⟩
abbrev main_v354 : Ref sig .tc := ⟨.hbm, 412, rfl⟩
abbrev main_v355 : Ref sig .tc := ⟨.hbm, 413, rfl⟩
abbrev main_v356 : Ref sig .tc := ⟨.hbm, 414, rfl⟩
abbrev main_v357 : Ref sig .tc := ⟨.hbm, 415, rfl⟩
abbrev main_v358 : Ref sig .tc := ⟨.hbm, 416, rfl⟩
abbrev main_v359 : Ref sig .tc := ⟨.hbm, 417, rfl⟩
abbrev main_v360 : Ref sig .tc := ⟨.hbm, 418, rfl⟩
abbrev main_cst_7 : Ref sig .tc := ⟨.hbm, 419, rfl⟩
abbrev main_v361 : Ref sig .tc := ⟨.hbm, 420, rfl⟩
abbrev main_v362 : Ref sig .tc := ⟨.hbm, 421, rfl⟩
abbrev main_v363 : Ref sig .tc := ⟨.hbm, 422, rfl⟩
abbrev main_call15_v0 : Ref sig .tc := ⟨.hbm, 423, rfl⟩
abbrev main_call15_v1_0 : Ref sig .tc := ⟨.hbm, 424, rfl⟩
abbrev main_v364 : Ref sig .tc := ⟨.hbm, 425, rfl⟩
abbrev main_v365 : Ref sig .tc := ⟨.hbm, 426, rfl⟩
abbrev main_v366 : Ref sig .tc := ⟨.hbm, 427, rfl⟩
abbrev main_call16_c : Ref sig .tc := ⟨.hbm, 428, rfl⟩
abbrev main_call16_v0 : Ref sig .tc := ⟨.hbm, 429, rfl⟩
abbrev main_call16_v1 : Ref sig .tc := ⟨.hbm, 430, rfl⟩
abbrev main_call16_c_0 : Ref sig .tc := ⟨.hbm, 431, rfl⟩
abbrev main_call16_v2 : Ref sig .tc := ⟨.hbm, 432, rfl⟩
abbrev main_call16_v3 : Ref sig .tc := ⟨.hbm, 433, rfl⟩
abbrev main_call16_v4 : Ref sig .tc := ⟨.hbm, 434, rfl⟩
abbrev main_call16_v5 : Ref sig .tc := ⟨.hbm, 435, rfl⟩
abbrev main_call16_c_1 : Ref sig .tc := ⟨.hbm, 436, rfl⟩
abbrev main_call16_c_2 : Ref sig .tc := ⟨.hbm, 437, rfl⟩
abbrev main_call16_v6 : Ref sig .tc := ⟨.hbm, 438, rfl⟩
abbrev main_call16_v7 : Ref sig .tc := ⟨.hbm, 439, rfl⟩
abbrev main_call16_v8 : Ref sig .tc := ⟨.hbm, 440, rfl⟩
abbrev main_call16_v9 : Ref sig .tc := ⟨.hbm, 441, rfl⟩
abbrev main_call16_v10 : Ref sig .tc := ⟨.hbm, 442, rfl⟩
abbrev main_call16_v11 : Ref sig .tc := ⟨.hbm, 443, rfl⟩
abbrev main_call16_c_3 : Ref sig .tc := ⟨.hbm, 444, rfl⟩
abbrev main_call16_v12 : Ref sig .tc := ⟨.hbm, 445, rfl⟩
abbrev main_call16_v13 : Ref sig .tc := ⟨.hbm, 446, rfl⟩
abbrev main_call16_v14 : Ref sig .tc := ⟨.hbm, 447, rfl⟩
abbrev main_call16_cst : Ref sig .tc := ⟨.hbm, 448, rfl⟩
abbrev main_call16_v15 : Ref sig .tc := ⟨.hbm, 449, rfl⟩
abbrev main_v367 : Ref sig .tc := ⟨.hbm, 450, rfl⟩
abbrev main_v368 : Ref sig .tc := ⟨.hbm, 451, rfl⟩
abbrev main_v369 : Ref sig .tc := ⟨.hbm, 452, rfl⟩
abbrev main_v370 : Ref sig .tc := ⟨.hbm, 453, rfl⟩
abbrev main_cst_8 : Ref sig .tc := ⟨.hbm, 454, rfl⟩
abbrev main_v371 : Ref sig .tc := ⟨.hbm, 455, rfl⟩
abbrev main_cst_9 : Ref sig .tc := ⟨.hbm, 456, rfl⟩
abbrev main_v372 : Ref sig .tc := ⟨.hbm, 457, rfl⟩
abbrev main_v373 : Ref sig .tc := ⟨.hbm, 458, rfl⟩
abbrev main_v374 : Ref sig .tc := ⟨.hbm, 459, rfl⟩
abbrev main_cst_10 : Ref sig .tc := ⟨.hbm, 460, rfl⟩
abbrev main_v375 : Ref sig .tc := ⟨.hbm, 461, rfl⟩
abbrev main_cst_11 : Ref sig .tc := ⟨.hbm, 462, rfl⟩
abbrev main_v376 : Ref sig .tc := ⟨.hbm, 463, rfl⟩
abbrev main_cst_12 : Ref sig .tc := ⟨.hbm, 464, rfl⟩
abbrev main_v377 : Ref sig .tc := ⟨.hbm, 465, rfl⟩
abbrev main_v378 : Ref sig .tc := ⟨.hbm, 466, rfl⟩
abbrev main_v379 : Ref sig .tc := ⟨.hbm, 467, rfl⟩
abbrev main_v380 : Ref sig .tc := ⟨.hbm, 468, rfl⟩
abbrev main_c_13 : Ref sig .tc := ⟨.hbm, 469, rfl⟩
abbrev main_call17_v0 : Ref sig .tc := ⟨.hbm, 470, rfl⟩
abbrev main_v381 : Ref sig .tc := ⟨.hbm, 471, rfl⟩
abbrev main_v382 : Ref sig .tc := ⟨.hbm, 472, rfl⟩
abbrev main_v383 : Ref sig .tc := ⟨.hbm, 473, rfl⟩
abbrev main_v384 : Ref sig .tc := ⟨.hbm, 474, rfl⟩
abbrev main_v385 : Ref sig .tc := ⟨.hbm, 475, rfl⟩
abbrev main_v386 : Ref sig .tc := ⟨.hbm, 476, rfl⟩
abbrev main_v387 : Ref sig .tc := ⟨.hbm, 477, rfl⟩
abbrev main_v388 : Ref sig .tc := ⟨.hbm, 478, rfl⟩
abbrev main_v389 : Ref sig .tc := ⟨.hbm, 479, rfl⟩
abbrev main_v390 : Ref sig .tc := ⟨.hbm, 480, rfl⟩
abbrev main_v391 : Ref sig .tc := ⟨.hbm, 481, rfl⟩
abbrev main_v392 : Ref sig .tc := ⟨.hbm, 482, rfl⟩
abbrev main_v393 : Ref sig .tc := ⟨.hbm, 483, rfl⟩
abbrev main_v394 : Ref sig .tc := ⟨.hbm, 484, rfl⟩
abbrev main_v395 : Ref sig .tc := ⟨.hbm, 485, rfl⟩
abbrev main_v396 : Ref sig .tc := ⟨.hbm, 486, rfl⟩
abbrev main_v397 : Ref sig .tc := ⟨.hbm, 487, rfl⟩
abbrev main_v398 : Ref sig .tc := ⟨.hbm, 488, rfl⟩
abbrev main_v399 : Ref sig .tc := ⟨.hbm, 489, rfl⟩
abbrev main_v400 : Ref sig .tc := ⟨.hbm, 490, rfl⟩
abbrev main_v401 : Ref sig .tc := ⟨.hbm, 491, rfl⟩
abbrev main_v402 : Ref sig .tc := ⟨.hbm, 492, rfl⟩
abbrev main_v403 : Ref sig .tc := ⟨.hbm, 493, rfl⟩
abbrev main_v404 : Ref sig .tc := ⟨.hbm, 494, rfl⟩
abbrev main_v405 : Ref sig .tc := ⟨.hbm, 495, rfl⟩
abbrev main_v406 : Ref sig .tc := ⟨.hbm, 496, rfl⟩
abbrev main_v407 : Ref sig .tc := ⟨.hbm, 497, rfl⟩
abbrev main_v408 : Ref sig .tc := ⟨.hbm, 498, rfl⟩
abbrev main_v409 : Ref sig .tc := ⟨.hbm, 499, rfl⟩
abbrev main_v410 : Ref sig .tc := ⟨.hbm, 500, rfl⟩
abbrev main_v411 : Ref sig .tc := ⟨.hbm, 501, rfl⟩
abbrev main_v412 : Ref sig .tc := ⟨.hbm, 502, rfl⟩
abbrev main_v413 : Ref sig .tc := ⟨.hbm, 503, rfl⟩
abbrev main_v414 : Ref sig .tc := ⟨.hbm, 504, rfl⟩
abbrev main_v415 : Ref sig .tc := ⟨.hbm, 505, rfl⟩
abbrev main_v416 : Ref sig .tc := ⟨.hbm, 506, rfl⟩
abbrev main_v417 : Ref sig .tc := ⟨.hbm, 507, rfl⟩
abbrev main_v418 : Ref sig .tc := ⟨.hbm, 508, rfl⟩
abbrev main_v419 : Ref sig .tc := ⟨.hbm, 509, rfl⟩
abbrev main_v420 : Ref sig .tc := ⟨.hbm, 510, rfl⟩
abbrev main_v421 : Ref sig .tc := ⟨.hbm, 511, rfl⟩
abbrev main_v422 : Ref sig .tc := ⟨.hbm, 512, rfl⟩
abbrev main_v423 : Ref sig .tc := ⟨.hbm, 513, rfl⟩
abbrev main_v424 : Ref sig .tc := ⟨.hbm, 514, rfl⟩
abbrev main_v425 : Ref sig .tc := ⟨.hbm, 515, rfl⟩
abbrev main_v426 : Ref sig .tc := ⟨.hbm, 516, rfl⟩
abbrev main_v427 : Ref sig .tc := ⟨.hbm, 517, rfl⟩
abbrev main_v428 : Ref sig .tc := ⟨.hbm, 518, rfl⟩
abbrev main_v429 : Ref sig .tc := ⟨.hbm, 519, rfl⟩
abbrev main_v430 : Ref sig .tc := ⟨.hbm, 520, rfl⟩
abbrev main_v431 : Ref sig .tc := ⟨.hbm, 521, rfl⟩
abbrev main_v432 : Ref sig .tc := ⟨.hbm, 522, rfl⟩
abbrev main_v433 : Ref sig .tc := ⟨.hbm, 523, rfl⟩
abbrev main_v434 : Ref sig .tc := ⟨.hbm, 524, rfl⟩
abbrev main_v435 : Ref sig .tc := ⟨.hbm, 525, rfl⟩
abbrev main_v436 : Ref sig .tc := ⟨.hbm, 526, rfl⟩
abbrev main_v437 : Ref sig .tc := ⟨.hbm, 527, rfl⟩
abbrev main_call18_cst : Ref sig .tc := ⟨.hbm, 528, rfl⟩
abbrev main_call18_v0 : Ref sig .tc := ⟨.hbm, 529, rfl⟩
abbrev main_v438 : Ref sig .tc := ⟨.hbm, 530, rfl⟩
abbrev main_c_14 : Ref sig .tc := ⟨.hbm, 531, rfl⟩
abbrev main_call19_v0 : Ref sig .tc := ⟨.hbm, 532, rfl⟩
abbrev main_v439 : Ref sig .tc := ⟨.hbm, 533, rfl⟩
abbrev main_v440 : Ref sig .tc := ⟨.hbm, 534, rfl⟩
abbrev main_v441 : Ref sig .tc := ⟨.hbm, 535, rfl⟩
abbrev main_v442 : Ref sig .tc := ⟨.hbm, 536, rfl⟩
abbrev main_v443 : Ref sig .tc := ⟨.hbm, 537, rfl⟩
abbrev main_v444 : Ref sig .tc := ⟨.hbm, 538, rfl⟩
abbrev main_v445 : Ref sig .tc := ⟨.hbm, 539, rfl⟩
abbrev main_v446 : Ref sig .tc := ⟨.hbm, 540, rfl⟩
abbrev main_v447 : Ref sig .tc := ⟨.hbm, 541, rfl⟩
abbrev main_v448 : Ref sig .tc := ⟨.hbm, 542, rfl⟩
abbrev main_v449 : Ref sig .tc := ⟨.hbm, 543, rfl⟩
abbrev main_v450 : Ref sig .tc := ⟨.hbm, 544, rfl⟩
abbrev main_v451 : Ref sig .tc := ⟨.hbm, 545, rfl⟩
abbrev main_v452 : Ref sig .tc := ⟨.hbm, 546, rfl⟩
abbrev main_v453 : Ref sig .tc := ⟨.hbm, 547, rfl⟩
abbrev main_v454 : Ref sig .tc := ⟨.hbm, 548, rfl⟩
abbrev main_v455 : Ref sig .tc := ⟨.hbm, 549, rfl⟩
abbrev main_v456 : Ref sig .tc := ⟨.hbm, 550, rfl⟩
abbrev main_v457 : Ref sig .tc := ⟨.hbm, 551, rfl⟩
abbrev main_v458 : Ref sig .tc := ⟨.hbm, 552, rfl⟩
abbrev main_v459 : Ref sig .tc := ⟨.hbm, 553, rfl⟩
abbrev main_v460 : Ref sig .tc := ⟨.hbm, 554, rfl⟩
abbrev main_v461 : Ref sig .tc := ⟨.hbm, 555, rfl⟩
abbrev main_v462 : Ref sig .tc := ⟨.hbm, 556, rfl⟩
abbrev main_v463 : Ref sig .tc := ⟨.hbm, 557, rfl⟩
abbrev main_v464 : Ref sig .tc := ⟨.hbm, 558, rfl⟩
abbrev main_v465 : Ref sig .tc := ⟨.hbm, 559, rfl⟩
abbrev main_v466 : Ref sig .tc := ⟨.hbm, 560, rfl⟩
abbrev main_v467 : Ref sig .tc := ⟨.hbm, 561, rfl⟩
abbrev main_v468 : Ref sig .tc := ⟨.hbm, 562, rfl⟩
abbrev main_v469 : Ref sig .tc := ⟨.hbm, 563, rfl⟩
abbrev main_v470 : Ref sig .tc := ⟨.hbm, 564, rfl⟩
abbrev main_v471 : Ref sig .tc := ⟨.hbm, 565, rfl⟩
abbrev main_v472 : Ref sig .tc := ⟨.hbm, 566, rfl⟩
abbrev main_v473 : Ref sig .tc := ⟨.hbm, 567, rfl⟩
abbrev main_v474 : Ref sig .tc := ⟨.hbm, 568, rfl⟩
abbrev main_v475 : Ref sig .tc := ⟨.hbm, 569, rfl⟩
abbrev main_v476 : Ref sig .tc := ⟨.hbm, 570, rfl⟩
abbrev main_v477 : Ref sig .tc := ⟨.hbm, 571, rfl⟩
abbrev main_v478 : Ref sig .tc := ⟨.hbm, 572, rfl⟩
abbrev main_v479 : Ref sig .tc := ⟨.hbm, 573, rfl⟩
abbrev main_v480 : Ref sig .tc := ⟨.hbm, 574, rfl⟩
abbrev main_v481 : Ref sig .tc := ⟨.hbm, 575, rfl⟩
abbrev main_v482 : Ref sig .tc := ⟨.hbm, 576, rfl⟩
abbrev main_v483 : Ref sig .tc := ⟨.hbm, 577, rfl⟩
abbrev main_v484 : Ref sig .tc := ⟨.hbm, 578, rfl⟩
abbrev main_v485 : Ref sig .tc := ⟨.hbm, 579, rfl⟩
abbrev main_v486 : Ref sig .tc := ⟨.hbm, 580, rfl⟩
abbrev main_v487 : Ref sig .tc := ⟨.hbm, 581, rfl⟩
abbrev main_v488 : Ref sig .tc := ⟨.hbm, 582, rfl⟩
abbrev main_v489 : Ref sig .tc := ⟨.hbm, 583, rfl⟩
abbrev main_v490 : Ref sig .tc := ⟨.hbm, 584, rfl⟩
abbrev main_v491 : Ref sig .tc := ⟨.hbm, 585, rfl⟩
abbrev main_v492 : Ref sig .tc := ⟨.hbm, 586, rfl⟩
abbrev main_v493 : Ref sig .tc := ⟨.hbm, 587, rfl⟩
abbrev main_v494 : Ref sig .tc := ⟨.hbm, 588, rfl⟩
abbrev main_v495 : Ref sig .tc := ⟨.hbm, 589, rfl⟩
abbrev main_call20_cst : Ref sig .tc := ⟨.hbm, 590, rfl⟩
abbrev main_call20_v0 : Ref sig .tc := ⟨.hbm, 591, rfl⟩
abbrev main_v496 : Ref sig .tc := ⟨.hbm, 592, rfl⟩
abbrev main_c_15 : Ref sig .tc := ⟨.hbm, 593, rfl⟩
abbrev main_call21_v0 : Ref sig .tc := ⟨.hbm, 594, rfl⟩
abbrev main_v497 : Ref sig .tc := ⟨.hbm, 595, rfl⟩
abbrev main_v498 : Ref sig .tc := ⟨.hbm, 596, rfl⟩
abbrev main_v499 : Ref sig .tc := ⟨.hbm, 597, rfl⟩
abbrev main_v500 : Ref sig .tc := ⟨.hbm, 598, rfl⟩
abbrev main_v501 : Ref sig .tc := ⟨.hbm, 599, rfl⟩
abbrev main_v502 : Ref sig .tc := ⟨.hbm, 600, rfl⟩
abbrev main_v503 : Ref sig .tc := ⟨.hbm, 601, rfl⟩
abbrev main_v504 : Ref sig .tc := ⟨.hbm, 602, rfl⟩
abbrev main_v505 : Ref sig .tc := ⟨.hbm, 603, rfl⟩
abbrev main_call22_cst : Ref sig .tc := ⟨.hbm, 604, rfl⟩
abbrev main_call22_v0 : Ref sig .tc := ⟨.hbm, 605, rfl⟩
abbrev main_v506 : Ref sig .tc := ⟨.hbm, 606, rfl⟩
abbrev main_c_16 : Ref sig .tc := ⟨.hbm, 607, rfl⟩
abbrev main_call23_v0 : Ref sig .tc := ⟨.hbm, 608, rfl⟩
abbrev main_v507 : Ref sig .tc := ⟨.hbm, 609, rfl⟩
abbrev main_v508 : Ref sig .tc := ⟨.hbm, 610, rfl⟩
abbrev main_v509 : Ref sig .tc := ⟨.hbm, 611, rfl⟩
abbrev main_v510 : Ref sig .tc := ⟨.hbm, 612, rfl⟩
abbrev main_v511 : Ref sig .tc := ⟨.hbm, 613, rfl⟩
abbrev main_v512 : Ref sig .tc := ⟨.hbm, 614, rfl⟩
abbrev main_v513 : Ref sig .tc := ⟨.hbm, 615, rfl⟩
abbrev main_v514 : Ref sig .tc := ⟨.hbm, 616, rfl⟩
abbrev main_v515 : Ref sig .tc := ⟨.hbm, 617, rfl⟩
abbrev main_v516 : Ref sig .tc := ⟨.hbm, 618, rfl⟩
abbrev main_v517 : Ref sig .tc := ⟨.hbm, 619, rfl⟩
abbrev main_v518 : Ref sig .tc := ⟨.hbm, 620, rfl⟩
abbrev main_v519 : Ref sig .tc := ⟨.hbm, 621, rfl⟩
abbrev main_v520 : Ref sig .tc := ⟨.hbm, 622, rfl⟩
abbrev main_v521 : Ref sig .tc := ⟨.hbm, 623, rfl⟩
abbrev main_v522 : Ref sig .tc := ⟨.hbm, 624, rfl⟩
abbrev main_v523 : Ref sig .tc := ⟨.hbm, 625, rfl⟩
abbrev main_v524 : Ref sig .tc := ⟨.hbm, 626, rfl⟩
abbrev main_v525 : Ref sig .tc := ⟨.hbm, 627, rfl⟩
abbrev main_v526 : Ref sig .tc := ⟨.hbm, 628, rfl⟩
abbrev main_v527 : Ref sig .tc := ⟨.hbm, 629, rfl⟩
abbrev main_v528 : Ref sig .tc := ⟨.hbm, 630, rfl⟩
abbrev main_v529 : Ref sig .tc := ⟨.hbm, 631, rfl⟩
abbrev main_v530 : Ref sig .tc := ⟨.hbm, 632, rfl⟩
abbrev main_v531 : Ref sig .tc := ⟨.hbm, 633, rfl⟩
abbrev main_v532 : Ref sig .tc := ⟨.hbm, 634, rfl⟩
abbrev main_v533 : Ref sig .tc := ⟨.hbm, 635, rfl⟩
abbrev main_v534 : Ref sig .tc := ⟨.hbm, 636, rfl⟩
abbrev main_v535 : Ref sig .tc := ⟨.hbm, 637, rfl⟩
abbrev main_v536 : Ref sig .tc := ⟨.hbm, 638, rfl⟩
abbrev main_v537 : Ref sig .tc := ⟨.hbm, 639, rfl⟩
abbrev main_v538 : Ref sig .tc := ⟨.hbm, 640, rfl⟩
abbrev main_v539 : Ref sig .tc := ⟨.hbm, 641, rfl⟩
abbrev main_v540 : Ref sig .tc := ⟨.hbm, 642, rfl⟩
abbrev main_v541 : Ref sig .tc := ⟨.hbm, 643, rfl⟩
abbrev main_v542 : Ref sig .tc := ⟨.hbm, 644, rfl⟩
abbrev main_v543 : Ref sig .tc := ⟨.hbm, 645, rfl⟩
abbrev main_v544 : Ref sig .tc := ⟨.hbm, 646, rfl⟩
abbrev main_v545 : Ref sig .tc := ⟨.hbm, 647, rfl⟩
abbrev main_v546 : Ref sig .tc := ⟨.hbm, 648, rfl⟩
abbrev main_v547 : Ref sig .tc := ⟨.hbm, 649, rfl⟩
abbrev main_v548 : Ref sig .tc := ⟨.hbm, 650, rfl⟩
abbrev main_v549 : Ref sig .tc := ⟨.hbm, 651, rfl⟩
abbrev main_v550 : Ref sig .tc := ⟨.hbm, 652, rfl⟩
abbrev main_v551 : Ref sig .tc := ⟨.hbm, 653, rfl⟩
abbrev main_v552 : Ref sig .tc := ⟨.hbm, 654, rfl⟩
abbrev main_v553 : Ref sig .tc := ⟨.hbm, 655, rfl⟩
abbrev main_v554 : Ref sig .tc := ⟨.hbm, 656, rfl⟩
abbrev main_v555 : Ref sig .tc := ⟨.hbm, 657, rfl⟩
abbrev main_v556 : Ref sig .tc := ⟨.hbm, 658, rfl⟩
abbrev main_v557 : Ref sig .tc := ⟨.hbm, 659, rfl⟩
abbrev main_v558 : Ref sig .tc := ⟨.hbm, 660, rfl⟩
abbrev main_v559 : Ref sig .tc := ⟨.hbm, 661, rfl⟩
abbrev main_v560 : Ref sig .tc := ⟨.hbm, 662, rfl⟩
abbrev main_v561 : Ref sig .tc := ⟨.hbm, 663, rfl⟩
abbrev main_v562 : Ref sig .tc := ⟨.hbm, 664, rfl⟩
abbrev main_v563 : Ref sig .tc := ⟨.hbm, 665, rfl⟩
abbrev main_call24_cst : Ref sig .tc := ⟨.hbm, 666, rfl⟩
abbrev main_call24_v0 : Ref sig .tc := ⟨.hbm, 667, rfl⟩
abbrev main_v564 : Ref sig .tc := ⟨.hbm, 668, rfl⟩
abbrev main_c_17 : Ref sig .tc := ⟨.hbm, 669, rfl⟩
abbrev main_call25_v0 : Ref sig .tc := ⟨.hbm, 670, rfl⟩
abbrev main_v565 : Ref sig .tc := ⟨.hbm, 671, rfl⟩
abbrev main_v566 : Ref sig .tc := ⟨.hbm, 672, rfl⟩
abbrev main_v567 : Ref sig .tc := ⟨.hbm, 673, rfl⟩
abbrev main_v568 : Ref sig .tc := ⟨.hbm, 674, rfl⟩
abbrev main_v569 : Ref sig .tc := ⟨.hbm, 675, rfl⟩
abbrev main_v570 : Ref sig .tc := ⟨.hbm, 676, rfl⟩
abbrev main_v571 : Ref sig .tc := ⟨.hbm, 677, rfl⟩
abbrev main_v572 : Ref sig .tc := ⟨.hbm, 678, rfl⟩
abbrev main_v573 : Ref sig .tc := ⟨.hbm, 679, rfl⟩
abbrev main_cst_18 : Ref sig .tc := ⟨.hbm, 680, rfl⟩
abbrev main_v574 : Ref sig .tc := ⟨.hbm, 681, rfl⟩
abbrev main_c_19 : Ref sig .tc := ⟨.hbm, 682, rfl⟩
abbrev main_call26_v0 : Ref sig .tc := ⟨.hbm, 683, rfl⟩
abbrev main_v575 : Ref sig .tc := ⟨.hbm, 684, rfl⟩
abbrev main_v576 : Ref sig .tc := ⟨.hbm, 685, rfl⟩
abbrev main_v577 : Ref sig .tc := ⟨.hbm, 686, rfl⟩
abbrev main_v578 : Ref sig .tc := ⟨.hbm, 687, rfl⟩
abbrev main_v579 : Ref sig .tc := ⟨.hbm, 688, rfl⟩
abbrev main_v580 : Ref sig .tc := ⟨.hbm, 689, rfl⟩
abbrev main_v581 : Ref sig .tc := ⟨.hbm, 690, rfl⟩
abbrev main_v582 : Ref sig .tc := ⟨.hbm, 691, rfl⟩
abbrev main_v583 : Ref sig .tc := ⟨.hbm, 692, rfl⟩
abbrev main_v584 : Ref sig .tc := ⟨.hbm, 693, rfl⟩
abbrev main_v585 : Ref sig .tc := ⟨.hbm, 694, rfl⟩
abbrev main_v586 : Ref sig .tc := ⟨.hbm, 695, rfl⟩
abbrev main_v587 : Ref sig .tc := ⟨.hbm, 696, rfl⟩
abbrev main_v588 : Ref sig .tc := ⟨.hbm, 697, rfl⟩
abbrev main_v589 : Ref sig .tc := ⟨.hbm, 698, rfl⟩
abbrev main_v590 : Ref sig .tc := ⟨.hbm, 699, rfl⟩
abbrev main_v591 : Ref sig .tc := ⟨.hbm, 700, rfl⟩
abbrev main_v592 : Ref sig .tc := ⟨.hbm, 701, rfl⟩
abbrev main_v593 : Ref sig .tc := ⟨.hbm, 702, rfl⟩
abbrev main_v594 : Ref sig .tc := ⟨.hbm, 703, rfl⟩
abbrev main_v595 : Ref sig .tc := ⟨.hbm, 704, rfl⟩
abbrev main_v596 : Ref sig .tc := ⟨.hbm, 705, rfl⟩
abbrev main_v597 : Ref sig .tc := ⟨.hbm, 706, rfl⟩
abbrev main_v598 : Ref sig .tc := ⟨.hbm, 707, rfl⟩
abbrev main_v599 : Ref sig .tc := ⟨.hbm, 708, rfl⟩
abbrev main_v600 : Ref sig .tc := ⟨.hbm, 709, rfl⟩
abbrev main_v601 : Ref sig .tc := ⟨.hbm, 710, rfl⟩
abbrev main_v602 : Ref sig .tc := ⟨.hbm, 711, rfl⟩
abbrev main_v603 : Ref sig .tc := ⟨.hbm, 712, rfl⟩
abbrev main_v604 : Ref sig .tc := ⟨.hbm, 713, rfl⟩
abbrev main_v605 : Ref sig .tc := ⟨.hbm, 714, rfl⟩
abbrev main_v606 : Ref sig .tc := ⟨.hbm, 715, rfl⟩
abbrev main_v607 : Ref sig .tc := ⟨.hbm, 716, rfl⟩
abbrev main_v608 : Ref sig .tc := ⟨.hbm, 717, rfl⟩
abbrev main_v609 : Ref sig .tc := ⟨.hbm, 718, rfl⟩
abbrev main_v610 : Ref sig .tc := ⟨.hbm, 719, rfl⟩
abbrev main_v611 : Ref sig .tc := ⟨.hbm, 720, rfl⟩
abbrev main_v612 : Ref sig .tc := ⟨.hbm, 721, rfl⟩
abbrev main_v613 : Ref sig .tc := ⟨.hbm, 722, rfl⟩
abbrev main_v614 : Ref sig .tc := ⟨.hbm, 723, rfl⟩
abbrev main_v615 : Ref sig .tc := ⟨.hbm, 724, rfl⟩
abbrev main_v616 : Ref sig .tc := ⟨.hbm, 725, rfl⟩
abbrev main_v617 : Ref sig .tc := ⟨.hbm, 726, rfl⟩
abbrev main_v618 : Ref sig .tc := ⟨.hbm, 727, rfl⟩
abbrev main_v619 : Ref sig .tc := ⟨.hbm, 728, rfl⟩
abbrev main_v620 : Ref sig .tc := ⟨.hbm, 729, rfl⟩
abbrev main_v621 : Ref sig .tc := ⟨.hbm, 730, rfl⟩
abbrev main_v622 : Ref sig .tc := ⟨.hbm, 731, rfl⟩
abbrev main_v623 : Ref sig .tc := ⟨.hbm, 732, rfl⟩
abbrev main_v624 : Ref sig .tc := ⟨.hbm, 733, rfl⟩
abbrev main_v625 : Ref sig .tc := ⟨.hbm, 734, rfl⟩
abbrev main_v626 : Ref sig .tc := ⟨.hbm, 735, rfl⟩
abbrev main_v627 : Ref sig .tc := ⟨.hbm, 736, rfl⟩
abbrev main_v628 : Ref sig .tc := ⟨.hbm, 737, rfl⟩
abbrev main_v629 : Ref sig .tc := ⟨.hbm, 738, rfl⟩
abbrev main_v630 : Ref sig .tc := ⟨.hbm, 739, rfl⟩
abbrev main_v631 : Ref sig .tc := ⟨.hbm, 740, rfl⟩
abbrev main_v632 : Ref sig .tc := ⟨.hbm, 741, rfl⟩
abbrev main_v633 : Ref sig .tc := ⟨.hbm, 742, rfl⟩
abbrev main_v634 : Ref sig .tc := ⟨.hbm, 743, rfl⟩
abbrev main_v635 : Ref sig .tc := ⟨.hbm, 744, rfl⟩
abbrev main_v636 : Ref sig .tc := ⟨.hbm, 745, rfl⟩
abbrev main_v637 : Ref sig .tc := ⟨.hbm, 746, rfl⟩
abbrev main_v638 : Ref sig .tc := ⟨.hbm, 747, rfl⟩
abbrev main_v639 : Ref sig .tc := ⟨.hbm, 748, rfl⟩
abbrev main_v640 : Ref sig .tc := ⟨.hbm, 749, rfl⟩
abbrev main_v641 : Ref sig .tc := ⟨.hbm, 750, rfl⟩
abbrev main_v642 : Ref sig .tc := ⟨.hbm, 751, rfl⟩
abbrev main_v643 : Ref sig .tc := ⟨.hbm, 752, rfl⟩
abbrev main_v644 : Ref sig .tc := ⟨.hbm, 753, rfl⟩
abbrev main_v645 : Ref sig .tc := ⟨.hbm, 754, rfl⟩
abbrev main_v646 : Ref sig .tc := ⟨.hbm, 755, rfl⟩
abbrev main_v647 : Ref sig .tc := ⟨.hbm, 756, rfl⟩
abbrev main_v648 : Ref sig .tc := ⟨.hbm, 757, rfl⟩
abbrev main_v649 : Ref sig .tc := ⟨.hbm, 758, rfl⟩
abbrev main_v650 : Ref sig .tc := ⟨.hbm, 759, rfl⟩
abbrev main_v651 : Ref sig .tc := ⟨.hbm, 760, rfl⟩
abbrev main_v652 : Ref sig .tc := ⟨.hbm, 761, rfl⟩
abbrev main_v653 : Ref sig .tc := ⟨.hbm, 762, rfl⟩
abbrev main_v654 : Ref sig .tc := ⟨.hbm, 763, rfl⟩
abbrev main_v655 : Ref sig .tc := ⟨.hbm, 764, rfl⟩
abbrev main_v656 : Ref sig .tc := ⟨.hbm, 765, rfl⟩
abbrev main_v657 : Ref sig .tc := ⟨.hbm, 766, rfl⟩
abbrev main_v658 : Ref sig .tc := ⟨.hbm, 767, rfl⟩
abbrev main_v659 : Ref sig .tc := ⟨.hbm, 768, rfl⟩
abbrev main_v660 : Ref sig .tc := ⟨.hbm, 769, rfl⟩
abbrev main_v661 : Ref sig .tc := ⟨.hbm, 770, rfl⟩
abbrev main_v662 : Ref sig .tc := ⟨.hbm, 771, rfl⟩
abbrev main_v663 : Ref sig .tc := ⟨.hbm, 772, rfl⟩
abbrev main_v664 : Ref sig .tc := ⟨.hbm, 773, rfl⟩
abbrev main_v665 : Ref sig .tc := ⟨.hbm, 774, rfl⟩
abbrev main_v666 : Ref sig .tc := ⟨.hbm, 775, rfl⟩
abbrev main_v667 : Ref sig .tc := ⟨.hbm, 776, rfl⟩
abbrev main_v668 : Ref sig .tc := ⟨.hbm, 777, rfl⟩
abbrev main_v669 : Ref sig .tc := ⟨.hbm, 778, rfl⟩
abbrev main_v670 : Ref sig .tc := ⟨.hbm, 779, rfl⟩
abbrev main_v671 : Ref sig .tc := ⟨.hbm, 780, rfl⟩
abbrev main_v672 : Ref sig .tc := ⟨.hbm, 781, rfl⟩
abbrev main_v673 : Ref sig .tc := ⟨.hbm, 782, rfl⟩
abbrev main_call27_cst : Ref sig .tc := ⟨.hbm, 783, rfl⟩
abbrev main_call27_v0 : Ref sig .tc := ⟨.hbm, 784, rfl⟩
abbrev main_v674 : Ref sig .tc := ⟨.hbm, 785, rfl⟩
abbrev main_cst_20 : Ref sig .tc := ⟨.hbm, 786, rfl⟩
abbrev main_v675 : Ref sig .tc := ⟨.hbm, 787, rfl⟩
abbrev main_c_21 : Ref sig .tc := ⟨.hbm, 788, rfl⟩
abbrev main_call28_v0 : Ref sig .tc := ⟨.hbm, 789, rfl⟩
abbrev main_v676 : Ref sig .tc := ⟨.hbm, 790, rfl⟩
abbrev main_v677 : Ref sig .tc := ⟨.hbm, 791, rfl⟩
abbrev main_v678 : Ref sig .tc := ⟨.hbm, 792, rfl⟩
abbrev main_v679 : Ref sig .tc := ⟨.hbm, 793, rfl⟩
abbrev main_v680 : Ref sig .tc := ⟨.hbm, 794, rfl⟩
abbrev main_v681 : Ref sig .tc := ⟨.hbm, 795, rfl⟩
abbrev main_v682 : Ref sig .tc := ⟨.hbm, 796, rfl⟩
abbrev main_v683 : Ref sig .tc := ⟨.hbm, 797, rfl⟩
abbrev main_v684 : Ref sig .tc := ⟨.hbm, 798, rfl⟩
abbrev main_v685 : Ref sig .tc := ⟨.hbm, 799, rfl⟩
abbrev main_v686 : Ref sig .tc := ⟨.hbm, 800, rfl⟩
abbrev main_v687 : Ref sig .tc := ⟨.hbm, 801, rfl⟩
abbrev main_v688 : Ref sig .tc := ⟨.hbm, 802, rfl⟩
abbrev main_v689 : Ref sig .tc := ⟨.hbm, 803, rfl⟩
abbrev main_v690 : Ref sig .tc := ⟨.hbm, 804, rfl⟩
abbrev main_v691 : Ref sig .tc := ⟨.hbm, 805, rfl⟩
abbrev main_v692 : Ref sig .tc := ⟨.hbm, 806, rfl⟩
abbrev main_v693 : Ref sig .tc := ⟨.hbm, 807, rfl⟩
abbrev main_v694 : Ref sig .tc := ⟨.hbm, 808, rfl⟩
abbrev main_v695 : Ref sig .tc := ⟨.hbm, 809, rfl⟩
abbrev main_v696 : Ref sig .tc := ⟨.hbm, 810, rfl⟩
abbrev main_v697 : Ref sig .tc := ⟨.hbm, 811, rfl⟩
abbrev main_v698 : Ref sig .tc := ⟨.hbm, 812, rfl⟩
abbrev main_v699 : Ref sig .tc := ⟨.hbm, 813, rfl⟩
abbrev main_v700 : Ref sig .tc := ⟨.hbm, 814, rfl⟩
abbrev main_v701 : Ref sig .tc := ⟨.hbm, 815, rfl⟩
abbrev main_v702 : Ref sig .tc := ⟨.hbm, 816, rfl⟩
abbrev main_v703 : Ref sig .tc := ⟨.hbm, 817, rfl⟩
abbrev main_v704 : Ref sig .tc := ⟨.hbm, 818, rfl⟩
abbrev main_v705 : Ref sig .tc := ⟨.hbm, 819, rfl⟩
abbrev main_v706 : Ref sig .tc := ⟨.hbm, 820, rfl⟩
abbrev main_v707 : Ref sig .tc := ⟨.hbm, 821, rfl⟩
abbrev main_v708 : Ref sig .tc := ⟨.hbm, 822, rfl⟩
abbrev main_v709 : Ref sig .tc := ⟨.hbm, 823, rfl⟩
abbrev main_v710 : Ref sig .tc := ⟨.hbm, 824, rfl⟩
abbrev main_v711 : Ref sig .tc := ⟨.hbm, 825, rfl⟩
abbrev main_v712 : Ref sig .tc := ⟨.hbm, 826, rfl⟩
abbrev main_v713 : Ref sig .tc := ⟨.hbm, 827, rfl⟩
abbrev main_v714 : Ref sig .tc := ⟨.hbm, 828, rfl⟩
abbrev main_v715 : Ref sig .tc := ⟨.hbm, 829, rfl⟩
abbrev main_v716 : Ref sig .tc := ⟨.hbm, 830, rfl⟩
abbrev main_v717 : Ref sig .tc := ⟨.hbm, 831, rfl⟩
abbrev main_v718 : Ref sig .tc := ⟨.hbm, 832, rfl⟩
abbrev main_v719 : Ref sig .tc := ⟨.hbm, 833, rfl⟩
abbrev main_v720 : Ref sig .tc := ⟨.hbm, 834, rfl⟩
abbrev main_v721 : Ref sig .tc := ⟨.hbm, 835, rfl⟩
abbrev main_v722 : Ref sig .tc := ⟨.hbm, 836, rfl⟩
abbrev main_v723 : Ref sig .tc := ⟨.hbm, 837, rfl⟩
abbrev main_v724 : Ref sig .tc := ⟨.hbm, 838, rfl⟩
abbrev main_v725 : Ref sig .tc := ⟨.hbm, 839, rfl⟩
abbrev main_v726 : Ref sig .tc := ⟨.hbm, 840, rfl⟩
abbrev main_v727 : Ref sig .tc := ⟨.hbm, 841, rfl⟩
abbrev main_v728 : Ref sig .tc := ⟨.hbm, 842, rfl⟩
abbrev main_v729 : Ref sig .tc := ⟨.hbm, 843, rfl⟩
abbrev main_v730 : Ref sig .tc := ⟨.hbm, 844, rfl⟩
abbrev main_v731 : Ref sig .tc := ⟨.hbm, 845, rfl⟩
abbrev main_v732 : Ref sig .tc := ⟨.hbm, 846, rfl⟩
abbrev main_v733 : Ref sig .tc := ⟨.hbm, 847, rfl⟩
abbrev main_v734 : Ref sig .tc := ⟨.hbm, 848, rfl⟩
abbrev main_v735 : Ref sig .tc := ⟨.hbm, 849, rfl⟩
abbrev main_v736 : Ref sig .tc := ⟨.hbm, 850, rfl⟩
abbrev main_v737 : Ref sig .tc := ⟨.hbm, 851, rfl⟩
abbrev main_v738 : Ref sig .tc := ⟨.hbm, 852, rfl⟩
abbrev main_v739 : Ref sig .tc := ⟨.hbm, 853, rfl⟩
abbrev main_v740 : Ref sig .tc := ⟨.hbm, 854, rfl⟩
abbrev main_v741 : Ref sig .tc := ⟨.hbm, 855, rfl⟩
abbrev main_v742 : Ref sig .tc := ⟨.hbm, 856, rfl⟩
abbrev main_v743 : Ref sig .tc := ⟨.hbm, 857, rfl⟩
abbrev main_v744 : Ref sig .tc := ⟨.hbm, 858, rfl⟩
abbrev main_v745 : Ref sig .tc := ⟨.hbm, 859, rfl⟩
abbrev main_v746 : Ref sig .tc := ⟨.hbm, 860, rfl⟩
abbrev main_v747 : Ref sig .tc := ⟨.hbm, 861, rfl⟩
abbrev main_v748 : Ref sig .tc := ⟨.hbm, 862, rfl⟩
abbrev main_v749 : Ref sig .tc := ⟨.hbm, 863, rfl⟩
abbrev main_v750 : Ref sig .tc := ⟨.hbm, 864, rfl⟩
abbrev main_v751 : Ref sig .tc := ⟨.hbm, 865, rfl⟩
abbrev main_v752 : Ref sig .tc := ⟨.hbm, 866, rfl⟩
abbrev main_v753 : Ref sig .tc := ⟨.hbm, 867, rfl⟩
abbrev main_v754 : Ref sig .tc := ⟨.hbm, 868, rfl⟩
abbrev main_v755 : Ref sig .tc := ⟨.hbm, 869, rfl⟩
abbrev main_v756 : Ref sig .tc := ⟨.hbm, 870, rfl⟩
abbrev main_v757 : Ref sig .tc := ⟨.hbm, 871, rfl⟩
abbrev main_v758 : Ref sig .tc := ⟨.hbm, 872, rfl⟩
abbrev main_v759 : Ref sig .tc := ⟨.hbm, 873, rfl⟩
abbrev main_v760 : Ref sig .tc := ⟨.hbm, 874, rfl⟩
abbrev main_v761 : Ref sig .tc := ⟨.hbm, 875, rfl⟩
abbrev main_v762 : Ref sig .tc := ⟨.hbm, 876, rfl⟩
abbrev main_v763 : Ref sig .tc := ⟨.hbm, 877, rfl⟩
abbrev main_v764 : Ref sig .tc := ⟨.hbm, 878, rfl⟩
abbrev main_v765 : Ref sig .tc := ⟨.hbm, 879, rfl⟩
abbrev main_v766 : Ref sig .tc := ⟨.hbm, 880, rfl⟩
abbrev main_v767 : Ref sig .tc := ⟨.hbm, 881, rfl⟩
abbrev main_v768 : Ref sig .tc := ⟨.hbm, 882, rfl⟩
abbrev main_v769 : Ref sig .tc := ⟨.hbm, 883, rfl⟩
abbrev main_v770 : Ref sig .tc := ⟨.hbm, 884, rfl⟩
abbrev main_v771 : Ref sig .tc := ⟨.hbm, 885, rfl⟩
abbrev main_v772 : Ref sig .tc := ⟨.hbm, 886, rfl⟩
abbrev main_v773 : Ref sig .tc := ⟨.hbm, 887, rfl⟩
abbrev main_v774 : Ref sig .tc := ⟨.hbm, 888, rfl⟩
abbrev main_v775 : Ref sig .tc := ⟨.hbm, 889, rfl⟩
abbrev main_v776 : Ref sig .tc := ⟨.hbm, 890, rfl⟩

abbrev nD : Nat := 1
abbrev τ : Topo := Topo.v7x

variable {F : FTy → Type} [FloatOps F]
-- ==== Proof.Spec.lean ====
module
public import Mathlib.Data.EReal.Operations
public import Mathlib.Algebra.BigOperators.Fin

/-! # The network on images of extended reals

The layers of the network written on plain functions: an image of one batch item is a function of a
channel, a row and a column. Both programs are read as these functions. -/

@[expose] public section
noncomputable section
namespace Vq

/-- An image surrounded by one ring of zeros, read at natural coordinates: `(1, 1)` is the image's first
pixel, and every coordinate off the image reads zero. -/
def pad1 {H W : ℕ} (f : Fin H → Fin W → EReal) (u v : ℕ) : EReal :=
  if h : (1 ≤ u ∧ u - 1 < H) ∧ (1 ≤ v ∧ v - 1 < W) then f ⟨u - 1, h.1.2⟩ ⟨v - 1, h.2.2⟩ else 0

/-- The rectifier. -/
def relu (x : EReal) : EReal := max x 0

/-- Nine terms added in row-major order. -/
def taps3 (t : Fin 3 → Fin 3 → EReal) : EReal :=
  t 0 0 + t 0 1 + t 0 2 + t 1 0 + t 1 1 + t 1 2 + t 2 0 + t 2 1 + t 2 2

/-- Sixteen terms added in row-major order. -/
def taps4 (t : Fin 4 → Fin 4 → EReal) : EReal :=
  t 0 0 + t 0 1 + t 0 2 + t 0 3 + t 1 0 + t 1 1 + t 1 2 + t 1 3 +
  t 2 0 + t 2 1 + t 2 2 + t 2 3 + t 3 0 + t 3 1 + t 3 2 + t 3 3

variable {C O H W : ℕ}

/-- A 3 by 3 convolution with zero padding 1 and stride 1. -/
def conv3 (f : Fin C → Fin H → Fin W → EReal) (w : Fin O → Fin C → Fin 3 → Fin 3 → EReal)
    (b : Fin O → EReal) (o : Fin O) (i : Fin H) (j : Fin W) : EReal :=
  taps3 (fun ky kx => ∑ c, pad1 (f c) (i + ky) (j + kx) * w o c ky kx) + b o

/-- A 1 by 1 convolution. -/
def conv1 (f : Fin C → Fin H → Fin W → EReal) (w : Fin O → Fin C → EReal)
    (b : Fin O → EReal) (o : Fin O) (i : Fin H) (j : Fin W) : EReal :=
  (∑ c, f c i j * w o c) + b o

/-- A residual block: the image plus a 1 by 1 convolution of the rectified 3 by 3 convolution of the
rectified image. -/
def res (f : Fin C → Fin H → Fin W → EReal) (w3 : Fin C → Fin C → Fin 3 → Fin 3 → EReal)
    (b3 : Fin C → EReal) (w1 : Fin C → Fin C → EReal) (b1 : Fin C → EReal)
    (o : Fin C) (i : Fin H) (j : Fin W) : EReal :=
  f o i j + conv1 (fun k i j => relu (conv3 (fun c i j => relu (f c i j)) w3 b3 k i j)) w1 b1 o i j

/-- A 4 by 4 convolution with zero padding 1 and stride 2, rectified. -/
def conv4 {H' W' : ℕ} (f : Fin C → Fin H → Fin W → EReal) (w : Fin O → Fin C → Fin 4 → Fin 4 → EReal)
    (b : Fin O → EReal) (o : Fin O) (i : Fin H') (j : Fin W') : EReal :=
  relu (taps4 (fun ky kx => ∑ c, pad1 (f c) (2 * i + ky) (2 * j + kx) * w o c ky kx) + b o)

/-- An image spread out by 2 with zeros in between and a ring of two zeros around it. -/
def dil (f : Fin H → Fin W → EReal) (u v : ℕ) : EReal :=
  if u % 2 = 0 ∧ v % 2 = 0 then pad1 f (u / 2) (v / 2) else 0

/-- A transposed 4 by 4 convolution with stride 2 and padding 1: the flipped kernel over the spread image. -/
def convT {H' W' : ℕ} (f : Fin C → Fin H → Fin W → EReal) (w : Fin C → Fin O → Fin 4 → Fin 4 → EReal)
    (b : Fin O → EReal) (o : Fin O) (i : Fin H') (j : Fin W') : EReal :=
  taps4 (fun ky kx => ∑ c, dil (f c) (i + ky) (j + kx) * w c o (Fin.rev ky) (Fin.rev kx)) + b o

theorem pad1_relu (f : Fin H → Fin W → EReal) (u v : ℕ) :
    relu (pad1 f u v) = pad1 (fun i j => relu (f i j)) u v := by
  unfold pad1
  split
  · rfl
  · simp [relu]

/-- Inside the ring the padded image is the image. -/
theorem pad1_succ (f : Fin H → Fin W → EReal) (i : Fin H) (j : Fin W) : pad1 f (1 + i) (1 + j) = f i j := by
  unfold pad1
  rw [dif_pos ⟨⟨by omega, by omega⟩, by omega, by omega⟩]
  congr 1 <;> apply Fin.ext <;> simp

end Vq
end
-- ==== Proof.Blocks.lean ====
module
public import proofs.«01_k».proof.Proof.Spec
public import Idealize.ShloMosaic.Lib.Pointwise
public import Idealize.ShloMosaic.Lib.ValueIdx
public import Idealize.ShloMosaic.Lib.Pipeline.Value
public import Idealize.ShloMosaic.Lib.Pipeline.ValueKit

/-! # Reading a block of an array at an index -/

@[expose] public section
noncomputable section
namespace Vq
open Idealize.ShloMosaic

/-- A load of a window of rows and columns of a one-item block, where the block reads as a padded image. -/
theorem ld_pad {n1 n2 C m1 m2 b c : Nat} {x : Vec Ideal ⟨4, ![1, n1, n2, C]⟩ .f32} {P : Fin C → ℕ → ℕ → EReal}
    (h : ∀ (u : Fin n1) (v : Fin n2) k, x (ix4 0 u v k) = P k u v)
    (inb : ∀ a : Fin 4, (![0, b, c, 0] : Fin 4 → Nat) a + (![1, m1, m2, C] : Fin 4 → Nat) a ≤ (![1, n1, n2, C] : Fin 4 → Nat) a)
    (i : Fin m1) (j : Fin m2) (k : Fin C) :
    View.ld x (Rect.unit (s := ⟨4, ![1, n1, n2, C]⟩) ![0, b, c, 0] ![1, m1, m2, C] inb) (ix4 0 i j k)
      = P k (i + b) (j + c) := by
  have e := h ⟨i + b, (Nat.add_comm _ _).trans_lt ((Nat.add_lt_add_left i.isLt b).trans_le (inb 1))⟩
    ⟨j + c, (Nat.add_comm _ _).trans_lt ((Nat.add_lt_add_left j.isLt c).trans_le (inb 2))⟩ k
  rw [View.ld_unit, ← e]
  show x _ = x _
  congr 1
  funext q
  match q with
  | ⟨0, _⟩ => rfl
  | ⟨1, _⟩ => exact Fin.ext (Nat.add_comm _ _)
  | ⟨2, _⟩ => exact Fin.ext (Nat.add_comm _ _)
  | ⟨3, _⟩ => exact Fin.ext (Nat.zero_add _)

/-- The same of a block with two one-item axes. -/
theorem ld_pad5 {n1 n2 C m1 m2 b c : Nat} {x : Vec Ideal ⟨5, ![1, 1, n1, n2, C]⟩ .f32} {P : Fin C → ℕ → ℕ → EReal}
    (h : ∀ (u : Fin n1) (v : Fin n2) k, x (ix5 0 0 u v k) = P k u v)
    (inb : ∀ a : Fin 5, (![0, 0, b, c, 0] : Fin 5 → Nat) a + (![1, 1, m1, m2, C] : Fin 5 → Nat) a ≤ (![1, 1, n1, n2, C] : Fin 5 → Nat) a)
    (i : Fin m1) (j : Fin m2) (k : Fin C) :
    View.ld x (Rect.unit (s := ⟨5, ![1, 1, n1, n2, C]⟩) ![0, 0, b, c, 0] ![1, 1, m1, m2, C] inb) (ix5 0 0 i j k)
      = P k (i + b) (j + c) := by
  have e := h ⟨i + b, (Nat.add_comm _ _).trans_lt ((Nat.add_lt_add_left i.isLt b).trans_le (inb 2))⟩
    ⟨j + c, (Nat.add_comm _ _).trans_lt ((Nat.add_lt_add_left j.isLt c).trans_le (inb 3))⟩ k
  rw [View.ld_unit, ← e]
  show x _ = x _
  congr 1
  funext q
  match q with
  | ⟨0, _⟩ => rfl
  | ⟨1, _⟩ => rfl
  | ⟨2, _⟩ => exact Fin.ext (Nat.add_comm _ _)
  | ⟨3, _⟩ => exact Fin.ext (Nat.add_comm _ _)
  | ⟨4, _⟩ => exact Fin.ext (Nat.zero_add _)

/-- A load of one tap's matrix. -/
theorem ld_mat {n1 n2 C O b c : Nat} (x : Vec Ideal ⟨4, ![n1, n2, C, O]⟩ .f32)
    (inb : ∀ a : Fin 4, (![b, c, 0, 0] : Fin 4 → Nat) a + (![1, 1, C, O] : Fin 4 → Nat) a ≤ (![n1, n2, C, O] : Fin 4 → Nat) a)
    (k : Fin C) (o : Fin O) :
    View.ld x (Rect.unit (s := ⟨4, ![n1, n2, C, O]⟩) ![b, c, 0, 0] ![1, 1, C, O] inb) (ix4 0 0 k o)
      = x (ix4 ⟨b, inb 0⟩ ⟨c, inb 1⟩ k o) := by
  rw [View.ld_unit]
  show x _ = x _
  congr 1
  funext q
  match q with
  | ⟨0, _⟩ => rfl
  | ⟨1, _⟩ => rfl
  | ⟨2, _⟩ => exact Fin.ext (Nat.zero_add _)
  | ⟨3, _⟩ => exact Fin.ext (Nat.zero_add _)

theorem hz4 : (![0, 0, 0, 0] : Fin 4 → Nat) = fun _ => 0 := funext fun a => by fin_cases a <;> rfl
theorem hz2 : (![0, 0] : Fin 2 → Nat) = fun _ => 0 := funext fun a => by fin_cases a <;> rfl
theorem zero4 (a : Fin 4) : (![0, 0, 0, 0] : Fin 4 → ℕ) a = 0 := by fin_cases a <;> rfl
theorem zero2 (a : Fin 2) : (![0, 0] : Fin 2 → ℕ) a = 0 := by fin_cases a <;> rfl

end Vq
end
-- ==== Proof.Sums.lean ====
module
public import proofs.«01_k».proof.Proof.Spec
public import Mathlib.Logic.Equiv.Fin.Basic
public import Mathlib.Algebra.BigOperators.Ring.Finset
public import Mathlib.Tactic.Abel

/-! # The sums of the strided and the transposed convolution, regrouped

A stride-2 convolution of 4 by 4 taps is computed over 2 by 2 taps of four times as many channels; a
transposed one over 3 by 3 taps of a sparse kernel. -/

@[expose] public section
noncomputable section
namespace Vq

/-- A sum over four groups of `C` entries each, the group and the place in it read off the index. -/
theorem sum_quad {C n : ℕ} (hn : n = 4 * C) (hC : 0 < C) (G : Fin 4 → Fin C → EReal) :
    (∑ k : Fin n, G ⟨k.val / C, by have := k.isLt; exact (Nat.div_lt_iff_lt_mul hC).2 (by omega)⟩ ⟨k.val % C, Nat.mod_lt _ hC⟩)
      = ∑ q, ∑ c, G q c := by
  subst hn
  rw [← Fintype.sum_prod_type']
  exact (Equiv.sum_comp (finProdFinEquiv.symm : Fin (4 * C) ≃ Fin 4 × Fin C) fun p => G p.1 p.2)

variable {C O H W : ℕ}

/-- The four 2 by 2 taps over the grouped channels are the sixteen taps. -/
theorem conv4_core {H' W' n : ℕ} (hn : n = 4 * C) (hC : 0 < C)
    {f : Fin C → Fin H → Fin W → EReal} {w : Fin O → Fin C → Fin 4 → Fin 4 → EReal} {b : Fin O → EReal}
    (p q : Fin 2 → Fin 2 → Fin n → EReal) (o : Fin O) (i : Fin H') (j : Fin W')
    (hp : ∀ da db k, p da db k = pad1 (f ⟨k.val % C, Nat.mod_lt _ hC⟩) (2 * (i + da) + k.val / C / 2) (2 * (j + db) + k.val / C % 2))
    (hq : ∀ (da db : Fin 2) (k : Fin n), q da db k = w o ⟨k.val % C, Nat.mod_lt _ hC⟩
      ⟨2 * da + k.val / C / 2, by have := k.isLt; have := (Nat.div_lt_iff_lt_mul (x := k.val) (y := 4) hC).2 (by omega); omega⟩
      ⟨2 * db + k.val / C % 2, by omega⟩) :
    relu ((∑ k, p 0 0 k * q 0 0 k) + (∑ k, p 0 1 k * q 0 1 k) + (∑ k, p 1 0 k * q 1 0 k) + (∑ k, p 1 1 k * q 1 1 k) + b o)
      = conv4 f w b o i j := by
  have key : ∀ da db : Fin 2, (∑ k, p da db k * q da db k) = ∑ g : Fin 4, ∑ c,
      pad1 (f c) (2 * i + (2 * da + g.val / 2)) (2 * j + (2 * db + g.val % 2)) * w o c ⟨2 * da + g.val / 2, by omega⟩ ⟨2 * db + g.val % 2, by omega⟩ := by
    intro da db
    rw [← sum_quad hn hC]
    refine Finset.sum_congr rfl fun k _ => ?_
    rw [hp, hq, Nat.mul_add, Nat.mul_add, Nat.add_assoc, Nat.add_assoc]
  unfold conv4 taps4
  generalize hT : (fun (ky kx : Fin 4) => ∑ c, pad1 (f c) (2 * i + ky) (2 * j + kx) * w o c ky kx) = T
  have hT' : ∀ ky kx, T ky kx = ∑ c, pad1 (f c) (2 * i + ky) (2 * j + kx) * w o c ky kx := fun ky kx => by rw [← hT]
  have key' : ∀ da db : Fin 2, (∑ k, p da db k * q da db k) = ∑ g : Fin 4, T ⟨2 * da + g.val / 2, by omega⟩ ⟨2 * db + g.val % 2, by omega⟩ :=
    fun da db => (key da db).trans (Finset.sum_congr rfl fun g _ => (hT' ⟨2 * da + g.val / 2, by omega⟩ ⟨2 * db + g.val % 2, by omega⟩).symm)
  rw [key', key', key', key']
  simp only [Fin.sum_univ_four]
  show relu ((T 0 0 + T 0 1 + T 1 0 + T 1 1) + (T 0 2 + T 0 3 + T 1 2 + T 1 3) + (T 2 0 + T 2 1 + T 3 0 + T 3 1) + (T 2 2 + T 2 3 + T 3 2 + T 3 3) + b o) = _
  congr 2
  abel

/-- The sparse kernel of a transposed convolution at the output parity `(r, s)`. -/
def wsel (w : Fin 4 → Fin 4 → EReal) (r s a b : ℕ) : EReal :=
  if h : (2 * a ≤ r + 3 ∧ r + 3 - 2 * a < 4) ∧ (2 * b ≤ s + 3 ∧ s + 3 - 2 * b < 4) then w ⟨r + 3 - 2 * a, h.1.2⟩ ⟨s + 3 - 2 * b, h.2.2⟩ else 0

/-- The nine taps of the sparse kernel are the sixteen taps over the spread image. -/
theorem convT_core {f : Fin C → Fin H → Fin W → EReal} {w : Fin C → Fin O → Fin 4 → Fin 4 → EReal} (o : Fin O) (i j : ℕ) (r s : ℕ)
    (hr : r < 2) (hs : s < 2) :
    taps3 (fun ay ax => ∑ c, pad1 (f c) (i + ay) (j + ax) * wsel (w c o) r s ay ax)
      = taps4 (fun ky kx => ∑ c, dil (f c) (2 * i + r + ky) (2 * j + s + kx) * w c o (Fin.rev ky) (Fin.rev kx)) := by
  have e1 : ∀ i n : ℕ, (2 * i + n) % 2 = n % 2 := fun i n => by omega
  have e2 : ∀ i n : ℕ, (2 * i + n) / 2 = i + n / 2 := fun i n => by omega
  have hr' : r = 0 ∨ r = 1 := by omega
  have hs' : s = 0 ∨ s = 1 := by omega
  unfold taps3 taps4 dil wsel
  simp only [Nat.add_assoc, e1, e2]
  rcases hr' with rfl | rfl <;> rcases hs' with rfl | rfl <;>
    simp [show ((3 : Fin 4) : ℕ) = 3 from rfl, show Fin.rev (0 : Fin 4) = 3 from rfl, show Fin.rev (1 : Fin 4) = 2 from rfl,
      show Fin.rev (2 : Fin 4) = 1 from rfl, show Fin.rev (3 : Fin 4) = 0 from rfl]

end Vq
end
-- ==== Proof.Argmin.lean ====
module
public import proofs.«01_k».proof.Proof.Spec
public import Idealize.ShloMosaic.Lib.SortNet.Extract
public import Idealize.ShloMosaic.Lib.Pointwise

/-! # The first smallest entry of a row -/

@[expose] public section
noncomputable section
namespace Vq
open Idealize.ShloMosaic

/-- Entry `i` is smallest in the row, and no earlier entry is as small. -/
def IsFirst {n : ℕ} (d : Fin n → EReal) (i : Fin n) : Prop := (∀ j, d i ≤ d j) ∧ ∀ j, j < i → d i < d j

theorem IsFirst.unique {n : ℕ} {d : Fin n → EReal} {i j : Fin n} (hi : IsFirst d i) (hj : IsFirst d j) : i = j := by
  rcases lt_trichotomy i j with h | h | h
  · exact absurd (hj.2 i h) (not_lt.2 (hi.1 j))
  · exact h
  · exact absurd (hi.2 j h) (not_lt.2 (hj.1 i))

theorem exists_isFirst {n : ℕ} (hn : 0 < n) (d : Fin n → EReal) : ∃ i, IsFirst d i := by
  classical
  obtain ⟨m, -, hm⟩ := Finset.exists_min_image Finset.univ d ⟨⟨0, hn⟩, Finset.mem_univ _⟩
  obtain ⟨i, hi, hmin⟩ := Finset.exists_min_image (Finset.univ.filter fun i => d i = d m) id ⟨m, by simp⟩
  have him : d i = d m := (Finset.mem_filter.1 hi).2
  refine ⟨i, fun j => him ▸ hm j (Finset.mem_univ _), fun j hj => ?_⟩
  refine lt_of_le_of_ne (him ▸ hm j (Finset.mem_univ _)) fun he => ?_
  exact absurd (hmin j (Finset.mem_filter.2 ⟨Finset.mem_univ _, he.symm.trans him⟩)) (not_le.2 hj)

/-- The index of the first smallest of 512 entries. -/
def firstMin (d : Fin 512 → EReal) : Fin 512 := (exists_isFirst (by decide) d).choose

theorem isFirst_firstMin (d : Fin 512 → EReal) : IsFirst d (firstMin d) := (exists_isFirst (by decide) d).choose_spec

theorem fold_min (d : Fin 512 → EReal) : Finset.fold min ⊤ d Finset.univ = d (firstMin d) :=
  le_antisymm (Finset.fold_min_le _ |>.2 (.inr ⟨firstMin d, Finset.mem_univ _, le_rfl⟩))
    (Finset.le_fold_min _ |>.2 ⟨le_top, fun j _ => (isFirst_firstMin d).1 j⟩)

theorem toInt_small (k : ℕ) (hk : k ≤ 512) : (BitVec.ofNat 32 k).toInt = k := by
  rw [BitVec.toInt_eq_toNat_of_lt] <;> rw [BitVec.toNat_ofNat, Nat.mod_eq_of_lt (by omega)]
  omega

/-- The smallest index among those at which the smallest entry stands is the first of them. -/
theorem fold_minsi (d : Fin 512 → EReal) :
    Finset.fold IntOp.minsi 2147483647#32
      (fun k : Fin 512 => if d k = Finset.fold min ⊤ d Finset.univ then BitVec.ofNat 32 k.val else 512#32) Finset.univ
      = BitVec.ofNat 32 (firstMin d).val := by
  apply BitVec.eq_of_toInt_eq
  rw [fold_min, ← Finset.fold_hom (op' := min) (m := BitVec.toInt) (fun a b => SortNet.toInt_minsi a b)]
  have hv : ∀ k : Fin 512, (if d k = d (firstMin d) then BitVec.ofNat 32 k.val else 512#32).toInt
      = if d k = d (firstMin d) then (k.val : ℤ) else 512 := fun k => by
    split
    · exact toInt_small _ k.isLt.le
    · rfl
  simp only [hv]
  rw [toInt_small _ (firstMin d).isLt.le]
  refine le_antisymm (Finset.fold_min_le _ |>.2 (.inr ⟨firstMin d, Finset.mem_univ _, by simp⟩))
    (Finset.le_fold_min _ |>.2 ⟨?_, fun j _ => ?_⟩)
  · have := (firstMin d).isLt
    show ((firstMin d).val : ℤ) ≤ 2147483647
    omega
  · split
    · rename_i h
      have : ¬ j < firstMin d := fun hj => absurd h (ne_of_gt ((isFirst_firstMin d).2 j hj))
      have : (firstMin d).val ≤ j.val := not_lt.1 this
      omega
    · have := (firstMin d).isLt
      omega

/-- The squared distance of a row `z` to codebook row `n`, as both programs compute it. -/
def dist (z : Fin 64 → EReal) (emb : Fin 512 → Fin 64 → EReal) (n : Fin 512) : EReal :=
  ((∑ e, z e * z e) + ∑ e, emb n e * emb n e) - Ideal.ofBits .f32 0x40000000#32 * ∑ e, z e * emb n e

/-- The codebook row nearest to `z`. -/
def code (emb : Fin 512 → Fin 64 → EReal) (z : Fin 64 → EReal) : Fin 512 := firstMin (dist z emb)

theorem ofBits_inf : Ideal.ofBits .f32 0x7F800000#32 = ⊤ := by simp [Ideal.ofBits, Ideal.ieee]

/-- The row of ones and zeros of an index picks that row of the codebook. -/
theorem oneHot_sum (x : Fin 512 → EReal) (i : Fin 512) :
    (∑ k : Fin 512, FloatOps.sitofp (F := Ideal) FTy.f32 (BitVec.setWidth 32 (IntOp.cmpi CmpIPredicate.eq (BitVec.ofNat 32 k.val) (BitVec.ofNat 32 i.val))) * x k)
      = x i := by
  rw [Finset.sum_eq_single i]
  · have : IntOp.cmpi CmpIPredicate.eq (BitVec.ofNat 32 i.val) (BitVec.ofNat 32 i.val) = 1#1 := by simp [IntOp.cmpi]
    rw [this]
    show ((((BitVec.setWidth 32 1#1).toInt : ℝ)) : EReal) * x i = x i
    simp
  · intro k _ hk
    have : IntOp.cmpi CmpIPredicate.eq (BitVec.ofNat 32 k.val) (BitVec.ofNat 32 i.val) = 0#1 := by
      have : BitVec.ofNat 32 k.val ≠ BitVec.ofNat 32 i.val := fun h => hk (Fin.ext (by
        have := congrArg BitVec.toInt h
        rw [toInt_small _ k.isLt.le, toInt_small _ i.isLt.le] at this
        omega))
      show BitVec.ofBool (BitVec.ofNat 32 k.val == BitVec.ofNat 32 i.val) = 0#1
      rw [beq_eq_false_iff_ne.2 this]; rfl
    rw [this]
    show ((((BitVec.setWidth 32 0#1).toInt : ℝ)) : EReal) * x k = 0
    simp
  · exact fun h => absurd (Finset.mem_univ _) h

end Vq
end
-- ==== Proof.KVq.lean ====
module
public import proofs.«01_k».proof.Proof.Gen.KernelIdeal.Frame
public import proofs.«01_k».proof.Proof.Blocks
public import proofs.«01_k».proof.Proof.Sums
public import proofs.«01_k».proof.Proof.Argmin

/-! # The codebook region -/

@[expose] public section
set_option maxRecDepth 16384
set_option maxHeartbeats 2000000
noncomputable section
namespace Cert.KernelIdeal.Gen
open Idealize.ShloMosaic Idealize.ShloMosaic.TcCoe
open Idealize.ShloMosaic.Pipeline (Dat Cfg Window)
open Vq

theorem hz3 : (![0, 0, 0] : Fin 3 → Nat) = fun _ => 0 := funext fun a => by fin_cases a <;> rfl

variable {f : Fin 128 → Fin 64 → Fin 64 → EReal} {w : Fin 64 → Fin 128 → EReal} {b : Fin 64 → EReal} {emb : Fin 512 → Fin 64 → EReal}

/-- The rows of the encoder's output: row `p` is the pixel `(p / 64, p % 64)`. -/
def zrow (f : Fin 64 → Fin 64 → Fin 64 → EReal) (p : Fin 4096) (e : Fin 64) : EReal :=
  f e ⟨p / 64, by omega⟩ ⟨p % 64, by omega⟩

theorem k4_pay4_val (x0 : Vec Ideal S1x64x64x128 .f32) (x1 : Vec Ideal S128x64 .f32) (x2 : Vec Ideal S1x64 .f32)
    (h0 : ∀ i j c, x0 (ix4 0 i j c) = f c i j) (h1 : ∀ c e, x1 (ix2 c e) = w e c) (h2 : ∀ e, x2 (ix2 0 e) = b e)
    (p : Fin 4096) (e : Fin 64) : k4_pay4 x0 x1 x2 (ix2 p e) = zrow (conv1 f w b) p e := by
  simp only [k4_pay4, pointwise]
  simp only [h0, h1, h2, zero_add, dite_true, ↓reduceDIte, OfNat.ofNat_ne_one]
  rfl

/-- The index the body finds for a row is that of the nearest codebook row. -/
theorem k4_pay5_val (x0 : Vec Ideal S1x64x64x128 .f32) (x1 : Vec Ideal S128x64 .f32) (x2 : Vec Ideal S1x64 .f32)
    (x3 : Vec Ideal S512x64 .f32) (x4 : Vec Ideal S1x512 .f32)
    (h0 : ∀ i j c, x0 (ix4 0 i j c) = f c i j) (h1 : ∀ c e, x1 (ix2 c e) = w e c) (h2 : ∀ e, x2 (ix2 0 e) = b e)
    (h3 : ∀ n e, x3 (ix2 n e) = emb n e) (h4 : ∀ n, x4 (ix2 0 n) = ∑ e, emb n e * emb n e) (p : Fin 4096) :
    k4_pay5 x0 x1 x2 x3 x4 (ix2 p 0) = BitVec.ofNat 32 (code emb (zrow (conv1 f w b) p)).val := by
  have hz := k4_pay4_val x0 x1 x2 h0 h1 h2
  unfold k4_pay5
  generalize k4_pay4 x0 x1 x2 = z at hz
  simp only [pointwise]
  simp only [hz, h3, h4, zero_add, dite_true, ↓reduceDIte, OfNat.ofNat_ne_one, ofBits_inf, List.foldl, Nat.zero_mul]
  exact fold_minsi (dist (zrow (conv1 f w b) p) emb)

theorem out4_5_val (x0 : Vec Ideal S1x64x64x128 .f32) (x1 : Vec Ideal S128x64 .f32) (x2 : Vec Ideal S1x64 .f32)
    (x3 : Vec Ideal S512x64 .f32) (x4 : Vec Ideal S1x512 .f32)
    (h0 : ∀ i j c, x0 (ix4 0 i j c) = f c i j) (h1 : ∀ c e, x1 (ix2 c e) = w e c) (h2 : ∀ e, x2 (ix2 0 e) = b e) (i j e : Fin 64) :
    out4_5 x0 x1 x2 x3 x4 (ix4 0 i j e) = conv1 f w b e i j := by
  have hz := k4_pay4_val x0 x1 x2 h0 h1 h2
  unfold out4_5
  rw [View.canon_unit_zero hz4]
  simp only [View.ld_unit_zero (S := S1x64x64x128) hz4, View.ld_unit_zero (S := S128x64) hz2, View.ld_unit_zero (S := S1x64) hz2]
  generalize k4_pay4 x0 x1 x2 = z at hz
  simp only [k4_pay1, pointwise]
  refine (hz _ _).trans ?_
  unfold zrow
  congr 1 <;> apply Fin.ext <;> simp only [] <;> omega

theorem out4_7_val (x0 : Vec Ideal S1x64x64x128 .f32) (x1 : Vec Ideal S128x64 .f32) (x2 : Vec Ideal S1x64 .f32)
    (x3 : Vec Ideal S512x64 .f32) (x4 : Vec Ideal S1x512 .f32)
    (h0 : ∀ i j c, x0 (ix4 0 i j c) = f c i j) (h1 : ∀ c e, x1 (ix2 c e) = w e c) (h2 : ∀ e, x2 (ix2 0 e) = b e)
    (h3 : ∀ n e, x3 (ix2 n e) = emb n e) (h4 : ∀ n, x4 (ix2 0 n) = ∑ e, emb n e * emb n e) (p : Fin 4096) (l : Fin 128) :
    out4_7 x0 x1 x2 x3 x4 (ix3 0 p l) = BitVec.ofNat 32 (code emb (zrow (conv1 f w b) p)).val := by
  have hz := k4_pay5_val x0 x1 x2 x3 x4 h0 h1 h2 h3 h4
  unfold out4_7
  rw [View.canon_unit_zero hz3]
  simp only [View.ld_unit_zero (S := S1x64x64x128) hz4, View.ld_unit_zero (S := S128x64) hz2, View.ld_unit_zero (S := S1x64) hz2,
    View.ld_unit_zero (S := S512x64) hz2, View.ld_unit_zero (S := S1x512) hz2]
  generalize k4_pay5 x0 x1 x2 x3 x4 = z at hz
  simp only [k4_pay3, pointwise]
  simp only [dite_true, ↓reduceDIte, OfNat.ofNat_ne_one]
  exact hz p

theorem out4_6_val (x0 : Vec Ideal S1x64x64x128 .f32) (x1 : Vec Ideal S128x64 .f32) (x2 : Vec Ideal S1x64 .f32)
    (x3 : Vec Ideal S512x64 .f32) (x4 : Vec Ideal S1x512 .f32)
    (h0 : ∀ i j c, x0 (ix4 0 i j c) = f c i j) (h1 : ∀ c e, x1 (ix2 c e) = w e c) (h2 : ∀ e, x2 (ix2 0 e) = b e)
    (h3 : ∀ n e, x3 (ix2 n e) = emb n e) (h4 : ∀ n, x4 (ix2 0 n) = ∑ e, emb n e * emb n e) (p : Fin 4096) (e : Fin 64) :
    out4_6 x0 x1 x2 x3 x4 (ix3 0 p e) = emb (code emb (zrow (conv1 f w b) p)) e := by
  have hz := k4_pay5_val x0 x1 x2 x3 x4 h0 h1 h2 h3 h4 p
  unfold out4_6
  rw [View.canon_unit_zero hz3]
  simp only [View.ld_unit_zero (S := S1x64x64x128) hz4, View.ld_unit_zero (S := S128x64) hz2, View.ld_unit_zero (S := S1x64) hz2,
    View.ld_unit_zero (S := S512x64) hz2, View.ld_unit_zero (S := S1x512) hz2]
  unfold k4_pay6
  generalize k4_pay5 x0 x1 x2 x3 x4 = z at hz
  simp only [k4_pay2, pointwise]
  simp only [zero_add, dite_true, ↓reduceDIte, OfNat.ofNat_ne_one, hz, h3, List.foldl, Nat.zero_mul]
  exact oneHot_sum (fun k => emb k e) _

end Cert.KernelIdeal.Gen
end
-- ==== Proof.KD0.lean ====
module
public import proofs.«01_k».proof.Proof.Gen.KernelIdeal.Frame
public import proofs.«01_k».proof.Proof.Blocks
public import proofs.«01_k».proof.Proof.Sums
public import proofs.«01_k».proof.Proof.KVq

/-! # The first decoder convolution and the loss -/

@[expose] public section
set_option maxRecDepth 16384
set_option maxHeartbeats 2000000
noncomputable section
namespace Cert.KernelIdeal.Gen
open Idealize.ShloMosaic Idealize.ShloMosaic.TcCoe
open Idealize.ShloMosaic.Pipeline (Dat Cfg Window)
open Vq

variable {f : Fin 64 → Fin 64 → Fin 64 → EReal} {z : Fin 64 → Fin 64 → Fin 64 → EReal} {w : Fin 128 → Fin 64 → Fin 3 → Fin 3 → EReal} {b : Fin 128 → EReal}

/-- The sum of the squared differences of two images. -/
def sqdist (f z : Fin 64 → Fin 64 → Fin 64 → EReal) : EReal :=
  ∑ i, ∑ j, ∑ e, (f e i j - z e i j) * (f e i j - z e i j)

theorem k5_pay_val (p : Fin 3 → Fin 3 → Vec Ideal S1x64x64x64 .f32) (q : Fin 3 → Fin 3 → Vec Ideal S1x1x64x128 .f32)
   (x2 : Vec Ideal S1x128 .f32)
   (hp : ∀ ky kx (i j : Fin 64) k, p ky kx (ix4 0 i j k) = pad1 (f k) (i + ky) (j + kx))
   (hq : ∀ ky kx k (o : Fin 128), q ky kx (ix4 0 0 k o) = w o k ky kx)
   (h2 : ∀ k, x2 (ix2 0 k) = b k) (i j : Fin 64) (o : Fin 128) :
   k5_pay5 (k5_pay3 (k5_pay1 (p 0 0) (q 0 0) (p 0 1) (q 0 1) (p 0 2) (q 0 2)) (k5_pay2 (p 1 0)) (q 1 0) (p 1 1) (q 1 1) (p 1 2) (q 1 2) (p 2 0) (q 2 0))
     (k5_pay4 (p 2 1)) (q 2 1) (p 2 2) (q 2 2) x2 (ix4 0 i j o) = conv3 f w b o i j := by
  simp only [k5_pay1, k5_pay2, k5_pay3, k5_pay4, k5_pay5, pointwise]
  simp only [hp, hq, h2, zero_add, dite_true, ↓reduceDIte, OfNat.ofNat_ne_one]
  rfl

theorem out5_4_val (x0 : Vec Ideal S1x66x66x64 .f32) (x1 : Vec Ideal S1x64x64x64 .f32) (x2 : Vec Ideal S3x3x64x128 .f32) (x3 : Vec Ideal S1x128 .f32)
    (h0 : ∀ (u v : Fin 66) k, x0 (ix4 0 u v k) = pad1 (f k) u v)
    (h1 : ∀ ky kx k o, x2 (ix4 ky kx k o) = w o k ky kx)
    (h2 : ∀ k, x3 (ix2 0 k) = b k) (i j : Fin 64) (o : Fin 128) :
    out5_4 x0 x1 x2 x3 (ix4 0 i j o) = conv3 f w b o i j := by
  unfold out5_4
  rw [View.canon_unit_zero hz4]
  simp only [View.ld_unit_zero (S := S1x128) hz2]
  refine k5_pay_val ![![View.ld x0 r5_0, View.ld x0 r5_2, View.ld x0 r5_4], ![View.ld x0 r5_6, View.ld x0 r5_8, View.ld x0 r5_10],
      ![View.ld x0 r5_12, View.ld x0 r5_14, View.ld x0 r5_16]]
    ![![View.ld x2 r5_1, View.ld x2 r5_3, View.ld x2 r5_5], ![View.ld x2 r5_7, View.ld x2 r5_9, View.ld x2 r5_11],
      ![View.ld x2 r5_13, View.ld x2 r5_15, View.ld x2 r5_17]] x3 ?_ ?_ h2 i j o
  · intro ky kx i j k
    fin_cases ky <;> fin_cases kx <;> exact ld_pad h0 _ i j k
  · intro ky kx k o
    fin_cases ky <;> fin_cases kx <;> exact (ld_mat x2 _ k o).trans (h1 _ _ _ _)

theorem out5_5_val (x0 : Vec Ideal S1x66x66x64 .f32) (x1 : Vec Ideal S1x64x64x64 .f32) (x2 : Vec Ideal S3x3x64x128 .f32) (x3 : Vec Ideal S1x128 .f32)
    (h0 : ∀ (u v : Fin 66) k, x0 (ix4 0 u v k) = pad1 (f k) u v)
    (h1 : ∀ i j e, x1 (ix4 0 i j e) = z e i j) (l : Fin 128) :
    out5_5 x0 x1 x2 x3 (ix3 0 0 l) = sqdist f z := by
  have hp : ∀ i j k, View.ld x0 r5_8 (ix4 0 i j k) = f k i j := fun i j k =>
    (ld_pad h0 _ i j k).trans (by rw [← pad1_succ (f k) i j, Nat.add_comm 1, Nat.add_comm 1])
  unfold out5_5
  rw [View.canon_unit_zero hz3]
  simp only [View.ld_unit_zero (S := S1x64x64x64) hz4]
  generalize View.ld x0 r5_8 = y at hp
  simp only [k5_pay6, pointwise]
  rw [Ideal.reduceAdd_total _ (by intro b; fin_cases b; rfl), sum_idx4]
  simp only [pointwise]
  simp only [hp, h1, Fin.sum_univ_one]
  rfl

end Cert.KernelIdeal.Gen
end
-- ==== Proof.Net.lean ====
module
public import proofs.«01_k».proof.Proof.KVq
public import proofs.«01_k».proof.Proof.KD0

/-! # The whole network on plain functions -/

@[expose] public section
noncomputable section
namespace Vq
open Idealize.ShloMosaic Cert.KernelIdeal.Gen

/-- A bank of 128 filters over 128 channels. -/
abbrev Bank (k : ℕ) : Type := Fin 128 → Fin 128 → Fin k → Fin k → EReal

/-- The arguments of both programs, read at plain coordinates. -/
structure Args where
  x : Fin 32 → Fin 3 → Fin 256 → Fin 256 → EReal
  ew1 : Fin 128 → Fin 3 → Fin 4 → Fin 4 → EReal
  eb1 : Fin 128 → EReal
  ew2 : Bank 4
  eb2 : Fin 128 → EReal
  er1w3 : Bank 3
  er1b3 : Fin 128 → EReal
  er1w1 : Fin 128 → Fin 128 → EReal
  er1b1 : Fin 128 → EReal
  er2w3 : Bank 3
  er2b3 : Fin 128 → EReal
  er2w1 : Fin 128 → Fin 128 → EReal
  er2b1 : Fin 128 → EReal
  eow : Fin 64 → Fin 128 → EReal
  eob : Fin 64 → EReal
  emb : Fin 512 → Fin 64 → EReal
  dw0 : Fin 128 → Fin 64 → Fin 3 → Fin 3 → EReal
  db0 : Fin 128 → EReal
  dr1w3 : Bank 3
  dr1b3 : Fin 128 → EReal
  dr1w1 : Fin 128 → Fin 128 → EReal
  dr1b1 : Fin 128 → EReal
  dr2w3 : Bank 3
  dr2b3 : Fin 128 → EReal
  dr2w1 : Fin 128 → Fin 128 → EReal
  dr2b1 : Fin 128 → EReal
  dt1w : Bank 4
  dt1b : Fin 128 → EReal
  dt2w : Fin 128 → Fin 3 → Fin 4 → Fin 4 → EReal
  dt2b : Fin 3 → EReal

/-- An image of 128 channels. -/
abbrev Img (n : ℕ) : Type := Fin 128 → Fin n → Fin n → EReal

variable (A : Args) (b : Fin 32)

/-- The first strided convolution of item `b`. -/
def h1 : Img 128 := conv4 (A.x b) A.ew1 A.eb1
/-- The second strided convolution. -/
def h2 : Img 64 := conv4 (h1 A b) A.ew2 A.eb2
/-- The encoder's first residual block. -/
def h3 : Img 64 := res (h2 A b) A.er1w3 A.er1b3 A.er1w1 A.er1b1
/-- The encoder's second residual block. -/
def h4 : Img 64 := res (h3 A b) A.er2w3 A.er2b3 A.er2w1 A.er2b1
/-- The encoder's output. -/
def zz : Fin 64 → Fin 64 → Fin 64 → EReal := conv1 (h4 A b) A.eow A.eob
/-- The code of each row of the encoder's output. -/
def ids (p : Fin 4096) : Fin 512 := code A.emb (zrow (zz A b) p)
/-- The chosen codebook rows, laid out again as an image with the rows' flat order. -/
def zq (e i j : Fin 64) : EReal := A.emb (ids A b ⟨e * 64 + i, by omega⟩) j
/-- The sum of all squared differences. -/
def total : EReal := ∑ b, sqdist (zq A b) (zz A b)
/-- The decoder's first convolution. -/
def g0 : Img 64 := conv3 (zq A b) A.dw0 A.db0
/-- The decoder's first residual block. -/
def g1 : Img 64 := res (g0 A b) A.dr1w3 A.dr1b3 A.dr1w1 A.dr1b1
/-- The decoder's second residual block. -/
def g2 : Img 64 := res (g1 A b) A.dr2w3 A.dr2b3 A.dr2w1 A.dr2b1
/-- The first transposed convolution, rectified. -/
def g3 : Img 128 := fun o i j => relu (convT (g2 A b) A.dt1w A.dt1b o i j)
/-- The reconstruction. -/
def xr : Fin 3 → Fin 256 → Fin 256 → EReal := fun o i j => Ideal.tanh (convT (g3 A b) A.dt2w A.dt2b o i j)

end Vq
-- ==== Proof.RefSpec.lean ====
module
public import proofs.«01_k».proof.Proof.Gen.ReferenceIdeal.Run
public import proofs.«01_k».proof.Proof.Net
public import Idealize.ShloMosaic.Lib.StableHlo.ReadAt

/-! # Reading the reference's layers

The layers with the weights as left factors, as the reference's contractions have them, and the
reference's arguments as plain functions. -/

@[expose] public section
noncomputable section
namespace Vq

/-- The first nine of sixteen terms added in row-major order. -/
def first9 (t : Fin 4 → Fin 4 → EReal) : EReal :=
  t 0 0 + t 0 1 + t 0 2 + t 0 3 + t 1 0 + t 1 1 + t 1 2 + t 1 3 + t 2 0

/-- The first ten of sixteen terms added in row-major order. -/
def first10 (t : Fin 4 → Fin 4 → EReal) : EReal := first9 t + t 2 1

variable {C O H W : ℕ}

theorem conv4_eq {H' W' : ℕ} (f : Fin C → Fin H → Fin W → EReal) (w : Fin O → Fin C → Fin 4 → Fin 4 → EReal)
    (b : Fin O → EReal) (o : Fin O) (i : Fin H') (j : Fin W') :
    conv4 f w b o i j = relu (taps4 (fun ky kx => ∑ c, w o c ky kx * pad1 (f c) (2 * i + ky) (2 * j + kx)) + b o) := by
  unfold conv4
  congr 3
  funext ky kx
  exact Finset.sum_congr rfl fun c _ => mul_comm _ _

theorem conv3_eq (f : Fin C → Fin H → Fin W → EReal) (w : Fin O → Fin C → Fin 3 → Fin 3 → EReal)
    (b : Fin O → EReal) (o : Fin O) (i : Fin H) (j : Fin W) :
    conv3 f w b o i j = taps3 (fun ky kx => ∑ c, w o c ky kx * pad1 (f c) (i + ky) (j + kx)) + b o := by
  unfold conv3
  congr 2
  funext ky kx
  exact Finset.sum_congr rfl fun c _ => mul_comm _ _

theorem conv1_eq (f : Fin C → Fin H → Fin W → EReal) (w : Fin O → Fin C → EReal)
    (b : Fin O → EReal) (o : Fin O) (i : Fin H) (j : Fin W) :
    conv1 f w b o i j = (∑ c, w o c * f c i j) + b o := by
  unfold conv1
  congr 1
  exact Finset.sum_congr rfl fun c _ => mul_comm _ _

theorem convT_eq {H' W' : ℕ} (f : Fin C → Fin H → Fin W → EReal) (w : Fin C → Fin O → Fin 4 → Fin 4 → EReal)
    (b : Fin O → EReal) (o : Fin O) (i : Fin H') (j : Fin W') :
    convT f w b o i j
      = taps4 (fun ky kx => ∑ c, w c o (Fin.rev ky) (Fin.rev kx) * dil (f c) (i + ky) (j + kx)) + b o := by
  unfold convT
  congr 2
  funext ky kx
  exact Finset.sum_congr rfl fun c _ => mul_comm _ _

end Vq

namespace Cert.ReferenceIdeal.Value
open Idealize.ShloMosaic Idealize.ShloMosaic.TcCoe
open Cert.ReferenceIdeal
open Vq

/-- A value padded by one pixel on both image axes reads as the ringed image. -/
theorem ref_pad {n0 n1 H W m0 m1 m2 m3 : ℕ} (b : Fin m0) (k : Fin m1) (u : Fin m2) (v : Fin m3) (hb : b.val < n0) (hk : k.val < n1)
    [inst : Decidable (∀ a : Fin 4, (![0, 0, 1, 1] : Fin 4 → ℕ) a ≤ (ix4 b k u v a).val ∧
      ((ix4 b k u v a).val - (![0, 0, 1, 1] : Fin 4 → ℕ) a) % ((![0, 0, 0, 0] : Fin 4 → ℕ) a + 1) = 0 ∧
      ((ix4 b k u v a).val - (![0, 0, 1, 1] : Fin 4 → ℕ) a) / ((![0, 0, 0, 0] : Fin 4 → ℕ) a + 1) < (![n0, n1, H, W] : Fin 4 → ℕ) a)]
    (f : Fin H → Fin W → EReal) (g : _ → EReal) (z : EReal) (hz : z = 0)
    (hg : ∀ h (h1 : u.val - 1 < H) (h2 : v.val - 1 < W), 1 ≤ u.val → 1 ≤ v.val → g h = f ⟨u - 1, h1⟩ ⟨v - 1, h2⟩) :
    @dite _ (∀ a : Fin 4, (![0, 0, 1, 1] : Fin 4 → ℕ) a ≤ (ix4 b k u v a).val ∧
      ((ix4 b k u v a).val - (![0, 0, 1, 1] : Fin 4 → ℕ) a) % ((![0, 0, 0, 0] : Fin 4 → ℕ) a + 1) = 0 ∧
      ((ix4 b k u v a).val - (![0, 0, 1, 1] : Fin 4 → ℕ) a) / ((![0, 0, 0, 0] : Fin 4 → ℕ) a + 1) < (![n0, n1, H, W] : Fin 4 → ℕ) a) inst
      g (fun _ => z) = pad1 f u v := by
  unfold pad1
  split
  next h =>
    have h2 := h 2
    have h3 := h 3
    have e2 : 1 ≤ u.val ∧ (u.val - 1) % 1 = 0 ∧ (u.val - 1) / 1 < H := h2
    have e3 : 1 ≤ v.val ∧ (v.val - 1) % 1 = 0 ∧ (v.val - 1) / 1 < W := h3
    rw [Nat.div_one] at e2 e3
    rw [dif_pos ⟨⟨e2.1, e2.2.2⟩, e3.1, e3.2.2⟩]
    exact hg h _ _ e2.1 e3.1
  next h =>
    rw [dif_neg, hz]
    rintro ⟨⟨a1, a2⟩, a3, a4⟩
    refine h fun a => ?_
    fin_cases a
    · exact ⟨Nat.zero_le _, Nat.mod_one _, (Nat.div_one _).trans_lt hb⟩
    · exact ⟨Nat.zero_le _, Nat.mod_one _, (Nat.div_one _).trans_lt hk⟩
    · exact ⟨a1, Nat.mod_one _, (Nat.div_one _).trans_lt a2⟩
    · exact ⟨a3, Nat.mod_one _, (Nat.div_one _).trans_lt a4⟩

/-- A pad of no pixels keeps every index. -/
theorem pad0_in {n0 n1 n2 n3 m0 m1 m2 m3 : ℕ} (b : Fin m0) (k : Fin m1) (u : Fin m2) (v : Fin m3)
    (h0 : b.val < n0) (h1 : k.val < n1) (h2 : u.val < n2) (h3 : v.val < n3) (a : Fin 4) :
    (![0, 0, 0, 0] : Fin 4 → ℕ) a ≤ (ix4 b k u v a).val ∧
      ((ix4 b k u v a).val - (![0, 0, 0, 0] : Fin 4 → ℕ) a) % ((![0, 0, 0, 0] : Fin 4 → ℕ) a + 1) = 0 ∧
      ((ix4 b k u v a).val - (![0, 0, 0, 0] : Fin 4 → ℕ) a) / ((![0, 0, 0, 0] : Fin 4 → ℕ) a + 1)
        < (![n0, n1, n2, n3] : Fin 4 → ℕ) a := by
  fin_cases a
  · exact ⟨Nat.zero_le _, Nat.mod_one _, (Nat.div_one _).trans_lt h0⟩
  · exact ⟨Nat.zero_le _, Nat.mod_one _, (Nat.div_one _).trans_lt h1⟩
  · exact ⟨Nat.zero_le _, Nat.mod_one _, (Nat.div_one _).trans_lt h2⟩
  · exact ⟨Nat.zero_le _, Nat.mod_one _, (Nat.div_one _).trans_lt h3⟩

/-- A value spread out by 2 with a margin of two pixels on both image axes reads as the spread image. -/
theorem ref_dil {n0 n1 H W m0 m1 m2 m3 : ℕ} (b : Fin m0) (k : Fin m1) (u : Fin m2) (v : Fin m3) (hb : b.val < n0) (hk : k.val < n1)
    [inst : Decidable (∀ a : Fin 4, (![0, 0, 2, 2] : Fin 4 → ℕ) a ≤ (ix4 b k u v a).val ∧
      ((ix4 b k u v a).val - (![0, 0, 2, 2] : Fin 4 → ℕ) a) % ((![0, 0, 1, 1] : Fin 4 → ℕ) a + 1) = 0 ∧
      ((ix4 b k u v a).val - (![0, 0, 2, 2] : Fin 4 → ℕ) a) / ((![0, 0, 1, 1] : Fin 4 → ℕ) a + 1) < (![n0, n1, H, W] : Fin 4 → ℕ) a)]
    (f : Fin H → Fin W → EReal) (g : _ → EReal) (z : EReal) (hz : z = 0)
    (hg : ∀ h (h1 : (u.val - 2) / 2 < H) (h2 : (v.val - 2) / 2 < W), g h = f ⟨(u - 2) / 2, h1⟩ ⟨(v - 2) / 2, h2⟩) :
    @dite _ (∀ a : Fin 4, (![0, 0, 2, 2] : Fin 4 → ℕ) a ≤ (ix4 b k u v a).val ∧
      ((ix4 b k u v a).val - (![0, 0, 2, 2] : Fin 4 → ℕ) a) % ((![0, 0, 1, 1] : Fin 4 → ℕ) a + 1) = 0 ∧
      ((ix4 b k u v a).val - (![0, 0, 2, 2] : Fin 4 → ℕ) a) / ((![0, 0, 1, 1] : Fin 4 → ℕ) a + 1) < (![n0, n1, H, W] : Fin 4 → ℕ) a) inst
      g (fun _ => z) = dil f u v := by
  unfold dil pad1
  split
  next h =>
    have h2 := h 2
    have h3 := h 3
    have e2 : 2 ≤ u.val ∧ (u.val - 2) % 2 = 0 ∧ (u.val - 2) / 2 < H := h2
    have e3 : 2 ≤ v.val ∧ (v.val - 2) % 2 = 0 ∧ (v.val - 2) / 2 < W := h3
    have eu : (u.val - 2) / 2 = u.val / 2 - 1 := by omega
    have ev : (v.val - 2) / 2 = v.val / 2 - 1 := by omega
    rw [if_pos (by omega), dif_pos ⟨⟨by omega, by omega⟩, by omega, by omega⟩, hg h e2.2.2 e3.2.2]
    exact congrArg₂ f (Fin.ext eu) (Fin.ext ev)
  next h =>
    rw [hz]
    split
    next hp =>
      rw [dif_neg]
      rintro ⟨⟨a1, a2⟩, a3, a4⟩
      refine h fun a => ?_
      fin_cases a
      · exact ⟨Nat.zero_le _, Nat.mod_one _, (Nat.div_one _).trans_lt hb⟩
      · exact ⟨Nat.zero_le _, Nat.mod_one _, (Nat.div_one _).trans_lt hk⟩
      · show 2 ≤ u.val ∧ (u.val - 2) % 2 = 0 ∧ (u.val - 2) / 2 < H
        omega
      · show 2 ≤ v.val ∧ (v.val - 2) % 2 = 0 ∧ (v.val - 2) / 2 < W
        omega
    next => rfl

theorem pad_zero : (FloatOps.sitofp FTy.f32 0#32 : Ideal .f32) = (0 : EReal) := by
  show ((((0#32 : BitVec 32).toInt : ℝ)) : EReal) = 0
  simp

/-- The reference's arguments as plain functions. -/
def rArgs (V : Valuation τ sig (Elt Ideal)) : Args where
  x := fun o k i j => (V main_arg0 : Vec Ideal S32x3x256x256 .f32) (ix4 o k i j)
  ew1 := fun o k i j => (V main_arg1 : Vec Ideal S128x3x4x4 .f32) (ix4 o k i j)
  eb1 := fun k => (V main_arg2 : Vec Ideal S128 .f32) (ix1 k)
  ew2 := fun o k i j => (V main_arg3 : Vec Ideal S128x128x4x4 .f32) (ix4 o k i j)
  eb2 := fun k => (V main_arg4 : Vec Ideal S128 .f32) (ix1 k)
  er1w3 := fun o k i j => (V main_arg5 : Vec Ideal S128x128x3x3 .f32) (ix4 o k i j)
  er1b3 := fun k => (V main_arg6 : Vec Ideal S128 .f32) (ix1 k)
  er1w1 := fun o k => (V main_arg7 : Vec Ideal S128x128x1x1 .f32) (ix4 o k 0 0)
  er1b1 := fun k => (V main_arg8 : Vec Ideal S128 .f32) (ix1 k)
  er2w3 := fun o k i j => (V main_arg9 : Vec Ideal S128x128x3x3 .f32) (ix4 o k i j)
  er2b3 := fun k => (V main_arg10 : Vec Ideal S128 .f32) (ix1 k)
  er2w1 := fun o k => (V main_arg11 : Vec Ideal S128x128x1x1 .f32) (ix4 o k 0 0)
  er2b1 := fun k => (V main_arg12 : Vec Ideal S128 .f32) (ix1 k)
  eow := fun o k => (V main_arg13 : Vec Ideal S64x128x1x1 .f32) (ix4 o k 0 0)
  eob := fun k => (V main_arg14 : Vec Ideal S64 .f32) (ix1 k)
  emb := fun n e => (V main_arg15 : Vec Ideal S512x64 .f32) (ix2 n e)
  dw0 := fun o k i j => (V main_arg16 : Vec Ideal S128x64x3x3 .f32) (ix4 o k i j)
  db0 := fun k => (V main_arg17 : Vec Ideal S128 .f32) (ix1 k)
  dr1w3 := fun o k i j => (V main_arg18 : Vec Ideal S128x128x3x3 .f32) (ix4 o k i j)
  dr1b3 := fun k => (V main_arg19 : Vec Ideal S128 .f32) (ix1 k)
  dr1w1 := fun o k => (V main_arg20 : Vec Ideal S128x128x1x1 .f32) (ix4 o k 0 0)
  dr1b1 := fun k => (V main_arg21 : Vec Ideal S128 .f32) (ix1 k)
  dr2w3 := fun o k i j => (V main_arg22 : Vec Ideal S128x128x3x3 .f32) (ix4 o k i j)
  dr2b3 := fun k => (V main_arg23 : Vec Ideal S128 .f32) (ix1 k)
  dr2w1 := fun o k => (V main_arg24 : Vec Ideal S128x128x1x1 .f32) (ix4 o k 0 0)
  dr2b1 := fun k => (V main_arg25 : Vec Ideal S128 .f32) (ix1 k)
  dt1w := fun o k i j => (V main_arg26 : Vec Ideal S128x128x4x4 .f32) (ix4 o k i j)
  dt1b := fun k => (V main_arg27 : Vec Ideal S128 .f32) (ix1 k)
  dt2w := fun o k i j => (V main_arg28 : Vec Ideal S128x3x4x4 .f32) (ix4 o k i j)
  dt2b := fun k => (V main_arg29 : Vec Ideal S3 .f32) (ix1 k)
end Cert.ReferenceIdeal.Value
-- ==== Proof.RefEnc.lean ====
module
public import proofs.«01_k».proof.Proof.RefSpec

/-! # The reference's encoder -/

@[expose] public section
set_option maxRecDepth 16384
set_option maxHeartbeats 2000000
noncomputable section
namespace Cert.ReferenceIdeal.Value
open Idealize.ShloMosaic Idealize.ShloMosaic.TcCoe
open Cert.ReferenceIdeal
open Vq

variable (V : Valuation τ sig (Elt Ideal)) (b : Fin 32)

/-- The padded input. -/
theorem v4_at (k : Fin 3) (u v : Fin 258) :
    (res_main_v4 V : Vec Ideal S32x3x258x258 .f32) (ix4 b k u v) = pad1 ((rArgs V).x b k) u v := by
  unfold res_main_v4
  pointwise
  exact ref_pad (n0 := 32) (n1 := 3) b k u v b.2 k.2 _ _ _ pad_zero fun _ _ _ _ _ => rfl

/-- The first nine taps of the first convolution. -/
theorem v57_at (k u v : Fin 128) :
    (res_main_v57 V : Vec Ideal S32x128x128x128 .f32) (ix4 b k u v)
     = first9 fun ky kx => ∑ c, (rArgs V).ew1 k c ky kx * pad1 ((rArgs V).x b c) (2 * u + ky) (2 * v + kx) := by
  unfold res_main_v57
  pointwise
  simp only [v4_at, Nat.add_comm 1, Nat.add_comm 2, Nat.add_comm 3]
  rfl

/-- The first convolution, padded. -/
theorem v104_at (k : Fin 128) (u v : Fin 130) :
    (res_main_v104 V : Vec Ideal S32x128x130x130 .f32) (ix4 b k u v) = pad1 (h1 (rArgs V) b k) u v := by
  unfold res_main_v104
  pointwise
  refine ref_pad (n0 := 32) (n1 := 128) b k u v b.2 k.2 _ _ _ pad_zero fun _ a2 a3 _ _ => ?_
  rw [h1, conv4_eq]
  simp only [v57_at, v4_at, Nat.add_comm 1, Nat.add_comm 2, Nat.add_comm 3]
  rfl

/-- The first nine taps of the second convolution. -/
theorem v157_at (k : Fin 128) (u v : Fin 64) :
    (res_main_v157 V : Vec Ideal S32x128x64x64 .f32) (ix4 b k u v)
     = first9 fun ky kx => ∑ c, (rArgs V).ew2 k c ky kx * pad1 (h1 (rArgs V) b c) (2 * u + ky) (2 * v + kx) := by
  unfold res_main_v157
  pointwise
  simp only [v104_at, Nat.add_comm 1, Nat.add_comm 2, Nat.add_comm 3]
  rfl

/-- The second convolution. -/
theorem v203_at (k : Fin 128) (u v : Fin 64) :
    (res_main_v203 V : Vec Ideal S32x128x64x64 .f32) (ix4 b k u v) = h2 (rArgs V) b k u v := by
  unfold res_main_v203
  pointwise
  rw [h2, conv4_eq]
  simp only [v157_at, v104_at, Nat.add_comm 1, Nat.add_comm 2, Nat.add_comm 3]
  rfl

/-- The second convolution, rectified and padded. -/
theorem v206_at (k : Fin 128) (u v : Fin 66) :
    (res_main_v206 V : Vec Ideal S32x128x66x66 .f32) (ix4 b k u v)
     = pad1 (fun i j => relu (h2 (rArgs V) b k i j)) u v := by
  unfold res_main_v206
  pointwise
  refine ref_pad (n0 := 32) (n1 := 128) b k u v b.2 k.2 _ _ _ pad_zero fun _ a2 a3 _ _ => ?_
  simp only [v203_at]
  rfl

/-- The first residual block's 3 by 3 contraction. -/
theorem v259_at (k : Fin 128) (u v : Fin 64) :
    (res_main_v259 V : Vec Ideal S32x128x64x64 .f32) (ix4 b k u v)
     = taps3 fun ky kx => ∑ c, (rArgs V).er1w3 k c ky kx
        * pad1 (fun i j => relu (h2 (rArgs V) b c i j)) (u + ky) (v + kx) := by
  unfold res_main_v259
  pointwise
  simp only [v206_at, Nat.add_comm 1, Nat.add_comm 2]
  rfl

/-- The first residual block. -/
theorem v272_at (k : Fin 128) (u v : Fin 64) :
    (res_main_v272 V : Vec Ideal S32x128x64x64 .f32) (ix4 b k u v) = h3 (rArgs V) b k u v := by
  unfold res_main_v272
  pointwise
  simp only [h3, res, conv1_eq, conv3_eq, v203_at, v259_at]
  refine congrArg (fun s : EReal => h2 (rArgs V) b k u v + (s + (rArgs V).er1b1 k))
    (Finset.sum_congr rfl fun x _ => congrArg (fun s : EReal => (rArgs V).er1w1 k x * s) ?_)
  exact dif_pos (pad0_in (n0 := 32) (n1 := 128) (n2 := 64) (n3 := 64) b x u v b.2 x.2 u.2 v.2)

/-- The first residual block, rectified and padded. -/
theorem v276_at (k : Fin 128) (u v : Fin 66) :
    (res_main_v276 V : Vec Ideal S32x128x66x66 .f32) (ix4 b k u v)
     = pad1 (fun i j => relu (h3 (rArgs V) b k i j)) u v := by
  unfold res_main_v276
  pointwise
  refine ref_pad (n0 := 32) (n1 := 128) b k u v b.2 k.2 _ _ _ pad_zero fun _ a2 a3 _ _ => ?_
  simp only [v272_at]
  rfl

/-- The second residual block's 3 by 3 contraction. -/
theorem v329_at (k : Fin 128) (u v : Fin 64) :
    (res_main_v329 V : Vec Ideal S32x128x64x64 .f32) (ix4 b k u v)
     = taps3 fun ky kx => ∑ c, (rArgs V).er2w3 k c ky kx
        * pad1 (fun i j => relu (h3 (rArgs V) b c i j)) (u + ky) (v + kx) := by
  unfold res_main_v329
  pointwise
  simp only [v276_at, Nat.add_comm 1, Nat.add_comm 2]
  rfl

/-- The encoder's output. -/
theorem v350_at (k : Fin 64) (u v : Fin 64) :
    (res_main_v350 V : Vec Ideal S32x64x64x64 .f32) (ix4 b k u v) = zz (rArgs V) b k u v := by
  unfold res_main_v350
  pointwise
  simp only [zz, h4, res, conv1_eq, conv3_eq, v272_at, v329_at]
  refine congrArg (fun s : EReal => s + (rArgs V).eob k)
    (Finset.sum_congr rfl fun x _ => congrArg (fun s : EReal => (rArgs V).eow k x * s) ?_)
  refine (dif_pos (pad0_in (n0 := 32) (n1 := 128) (n2 := 64) (n3 := 64) b x u v b.2 x.2 u.2 v.2)).trans ?_
  refine congrArg (fun s : EReal => h3 (rArgs V) b x u v + (s + (rArgs V).er2b1 x))
    (Finset.sum_congr rfl fun y _ => congrArg (fun s : EReal => (rArgs V).er2w1 x y * s) ?_)
  exact dif_pos (pad0_in (n0 := 32) (n1 := 128) (n2 := 64) (n3 := 64) b y u v b.2 y.2 u.2 v.2)

end Cert.ReferenceIdeal.Value
-- ==== Proof.RefSort.lean ====
module
public import proofs.«01_k».proof.Proof.RefSpec
public import proofs.«01_k».proof.Proof.Argmin
public import Idealize.ShloMosaic.Lib.SortFacts

/-! # The first position of a stable sort is the first smallest entry -/

@[expose] public section
set_option maxRecDepth 16384
set_option maxHeartbeats 2000000
noncomputable section
namespace Vq
open Idealize.ShloMosaic

/-- The first entry of the stable sort of an ascending list of positions: it is smallest, and no earlier
position of the list is as small. -/
theorem head_stableSort {n : ℕ} (d : Fin n → EReal) (l : List (Fin n)) (hl : l.Pairwise (· < ·)) (h : Fin n)
    (t : List (Fin n)) (he : stableSort (fun a b => decide (d a < d b)) l = h :: t) :
    ∀ j ∈ l, d h ≤ d j ∧ (j < h → d h < d j) := by
  induction l generalizing h t with
  | nil => intro j hj; exact absurd hj List.not_mem_nil
  | cons a l ih =>
    rw [List.pairwise_cons] at hl
    unfold stableSort at he
    cases hs : stableSort (fun a b => decide (d a < d b)) l with
    | nil =>
      rw [hs] at he
      have h1 : a = h := (List.cons.inj he).1
      have h2 : l = [] := List.length_eq_zero_iff.1 (by rw [← length_stableSort (fun a b => decide (d a < d b)) l, hs]; rfl)
      subst h1 h2
      intro j hj
      rw [List.mem_singleton] at hj
      subst hj
      exact ⟨le_rfl, fun hh => absurd hh (lt_irrefl _)⟩
    | cons b r =>
      have hb := ih hl.2 b r hs
      have hbl : b ∈ l := (perm_stableSort (fun a b => decide (d a < d b)) l).mem_iff.1 (by rw [hs]; exact List.mem_cons_self)
      rw [hs] at he
      unfold insertBefore at he
      by_cases hc : d b < d a
      · rw [if_pos (decide_eq_true hc)] at he
        have h1 : b = h := (List.cons.inj he).1
        subst h1
        intro j hj
        rcases List.mem_cons.1 hj with e | e
        · subst e; exact ⟨hc.le, fun _ => hc⟩
        · exact hb j e
      · rw [if_neg (by simpa using hc)] at he
        have h1 : a = h := (List.cons.inj he).1
        subst h1
        intro j hj
        rcases List.mem_cons.1 hj with e | e
        · subst e; exact ⟨le_rfl, fun hh => absurd hh (lt_irrefl _)⟩
        · exact ⟨(not_lt.1 hc).trans (hb j e).1, fun hh => absurd (hl.1 j e) (lt_asymm hh)⟩

/-- Place 0 of the stable sort of 512 entries comes from the first smallest. -/
theorem sortedFrom_zero (d : Fin 512 → EReal) : sortedFrom (fun a b => decide (d a < d b)) 0 = firstMin d := by
  refine IsFirst.unique (d := d) ?_ (isFirst_firstMin d)
  have hlen := length_sortPositions 512 (fun a b => decide (d a < d b))
  cases hs : sortPositions 512 (fun a b => decide (d a < d b)) with
  | nil => rw [hs] at hlen; exact absurd hlen (by simp)
  | cons h t =>
    have e : sortedFrom (fun a b => decide (d a < d b)) 0 = h := by
      unfold sortedFrom
      rw [List.get_of_eq hs]
      rfl
    rw [e]
    have := head_stableSort d (List.finRange 512) (List.pairwise_lt_finRange 512) h t hs
    exact ⟨fun j => (this j (List.mem_finRange j)).1, fun j => (this j (List.mem_finRange j)).2⟩

end Vq

namespace Cert.ReferenceIdeal.Value
open Idealize.ShloMosaic Idealize.ShloMosaic.TcCoe
open Cert.ReferenceIdeal
open Vq

/-- The sort's comparator puts the lesser extended real first. -/
theorem comparator_eq (l r : Ideal .f32 × BitVec 32) :
    (comparator_f32_i32_d1 (F := Ideal) l r == 1#1) = decide ((l.1 : EReal) < r.1) := by
  have e (x : EReal) : Scalar.select (Ideal.cmp .une x x) (Ideal.ofBits .f32 0x7FC00000#32)
      (Scalar.select (Ideal.cmp .oeq x (Ideal.ofBits .f32 0#32)) (Ideal.ofBits .f32 0#32) x) = x := by
    have z : Ideal.ofBits .f32 0#32 = 0 := by simp
    rw [z]
    by_cases h : x = 0
    · simp [Scalar.select, Ideal.cmp, h]
    · have h1 : decide (x = 0) = false := decide_eq_false h
      simp [Scalar.select, Ideal.cmp, h1]
  show (Ideal.cmp .olt (Scalar.select (Ideal.cmp .une l.1 l.1) (Ideal.ofBits .f32 0x7FC00000#32)
      (Scalar.select (Ideal.cmp .oeq l.1 (Ideal.ofBits .f32 0#32)) (Ideal.ofBits .f32 0#32) l.1))
    (Scalar.select (Ideal.cmp .une r.1 r.1) (Ideal.ofBits .f32 0x7FC00000#32)
      (Scalar.select (Ideal.cmp .oeq r.1 (Ideal.ofBits .f32 0#32)) (Ideal.ofBits .f32 0#32) r.1)) == 1#1) = _
  rw [e, e]
  show (BitVec.ofBool (decide ((l.1 : EReal) < r.1)) == 1#1) = _
  cases decide ((l.1 : EReal) < r.1) <;> rfl

/-- Column 0 of the positions sorted along each row by the entries is the position of the row's first smallest entry. -/
theorem sort2_row {n : ℕ} (x : Vec Ideal ⟨2, ![n, 512]⟩ .f32) (y : IVec ⟨2, ![n, 512]⟩ 32) (r : Fin n) (d : Fin 512 → EReal)
    (hx : ∀ k, x (ix2 r k) = d k) :
    (Host.sort2 ⟨2, ![n, 512]⟩ 1 (comparator_f32_i32_d1 (F := Ideal)) x y).2 (ix2 r (0 : Fin 512)) = y (ix2 r (firstMin d)) := by
  have hd : 1 < (⟨2, ![n, 512]⟩ : Shape).rank := Nat.one_lt_two
  have ha (k : Fin 512) : (ix2 r (0 : Fin 512) : (⟨2, ![n, 512]⟩ : Shape).Idx).along (⟨1, hd⟩ : Fin (⟨2, ![n, 512]⟩ : Shape).rank) k = ix2 r k := by
    funext a
    match a with
    | ⟨0, _⟩ => rfl
    | ⟨1, _⟩ => rfl
  have hb : (fun k k' : Fin 512 => comparator_f32_i32_d1 (F := Ideal)
        (x ((ix2 r (0 : Fin 512) : (⟨2, ![n, 512]⟩ : Shape).Idx).along ⟨1, hd⟩ k), y ((ix2 r (0 : Fin 512) : (⟨2, ![n, 512]⟩ : Shape).Idx).along ⟨1, hd⟩ k))
        (x ((ix2 r (0 : Fin 512) : (⟨2, ![n, 512]⟩ : Shape).Idx).along ⟨1, hd⟩ k'), y ((ix2 r (0 : Fin 512) : (⟨2, ![n, 512]⟩ : Shape).Idx).along ⟨1, hd⟩ k')) == 1#1)
      = fun k k' => decide (d k < d k') := by
    funext k k'
    rw [comparator_eq]
    show decide ((x _ : EReal) < x _) = _
    rw [ha k, ha k', hx, hx]
  have hs := (congrArg (fun B => sortedFrom B (0 : Fin 512)) hb).trans (sortedFrom_zero d)
  unfold Host.sort2
  rw [dif_pos hd]
  exact (congrArg (fun c : Fin 512 => y ((ix2 r (0 : Fin 512) : (⟨2, ![n, 512]⟩ : Shape).Idx).along ⟨1, hd⟩ c)) hs).trans (congrArg y (ha _))

/-- A code is not negative, so it is not shifted. -/
theorem code_select : ∀ k : Fin 512, Scalar.select (IntOp.cmpi .slt (BitVec.ofNat 32 k.val) 0#32)
    (IntOp.addi (BitVec.ofNat 32 k.val) 512#32) (BitVec.ofNat 32 k.val) = BitVec.ofNat 32 k.val := by decide

/-- A code is in the codebook's range. -/
theorem code_range : ∀ k : Fin 512, IntOp.andi (IntOp.cmpi .sge (BitVec.ofNat 32 k.val) 0#32)
    (IntOp.cmpi .sle (BitVec.ofNat 32 k.val) 511#32) = 1#1 := by decide

theorem fold_andi_one {ι : Type} (s : Finset ι) : Finset.fold IntOp.andi 1#1 (fun _ => 1#1) s = 1#1 := by
  classical
  induction s using Finset.induction_on with
  | empty => rfl
  | insert a s h ih => rw [Finset.fold_insert h, ih]; rfl

theorem select_fold {ι : Type} (f : ι → BitVec 1) (s : Finset ι) (h : f = fun _ => 1#1) (a b : EReal) :
    Scalar.select (Finset.fold IntOp.andi 1#1 f s) a b = a := by
  rw [h, fold_andi_one]
  rfl

end Cert.ReferenceIdeal.Value
end
-- ==== Proof.RefVq.lean ====
module
public import proofs.«01_k».proof.Proof.RefEnc
public import proofs.«01_k».proof.Proof.RefSort
public import Idealize.ShloMosaic.Lib.Routing.Ops

/-! # The reference's quantiser -/

@[expose] public section
set_option maxRecDepth 16384
set_option maxHeartbeats 2000000
noncomputable section
namespace Cert.ReferenceIdeal.Value
open Idealize.ShloMosaic Idealize.ShloMosaic.TcCoe
open Cert.ReferenceIdeal
open Cert.KernelIdeal.Gen (zrow)
open Vq

variable (V : Valuation τ sig (Elt Ideal))

/-- The encoder's output as rows of 64 channels. -/
theorem v352_at (n : Fin 131072) (e : Fin 64) :
    (res_main_v352 V : Vec Ideal S131072x64 .f32) (ix2 n e)
      = zrow (zz (rArgs V) ⟨n / 4096, by omega⟩) (⟨n % 4096, by omega⟩ : Fin 4096) e := by
  unfold res_main_v352
  pointwise
  rw [v350_at]
  unfold zrow
  have h1 : (⟨n.val / 64 % 64, by omega⟩ : Fin 64) = ⟨n.val % 4096 / 64, by omega⟩ := Fin.ext (by show n.val / 64 % 64 = n.val % 4096 / 64; omega)
  have h2 : (⟨n.val % 64, by omega⟩ : Fin 64) = ⟨n.val % 4096 % 64, by omega⟩ := Fin.ext (by show n.val % 64 = n.val % 4096 % 64; omega)
  exact congrArg₂ (fun i j : Fin 64 => zz (rArgs V) ⟨n / 4096, by omega⟩ e i j) h1 h2

/-- The squared distances to the codebook's rows. -/
theorem v363_at (n : Fin 131072) (k : Fin 512) :
    (res_main_v363 V : Vec Ideal S131072x512 .f32) (ix2 n k)
      = dist (zrow (zz (rArgs V) ⟨n / 4096, by omega⟩) (⟨n % 4096, by omega⟩ : Fin 4096)) (rArgs V).emb k := by
  unfold res_main_v363
  pointwise
  simp only [v352_at]
  rfl

/-- The positions carried through the sort. -/
theorem iota_at (n : Fin 131072) (k : Fin 512) :
    (res_main_call15_v0 V : IVec S131072x512 32) (ix2 n k) = BitVec.ofNat 32 k.val := by
  unfold res_main_call15_v0
  pointwise

/-- The code of a row. -/
theorem v366_at (n : Fin 131072) :
    (res_main_v366 V : IVec S131072 32) (ix1 n)
      = BitVec.ofNat 32 (ids (rArgs V) ⟨n / 4096, by omega⟩ ⟨n % 4096, by omega⟩).val := by
  unfold res_main_v366
  pointwise
  exact (sort2_row (n := 131072) (res_main_v363 V) (res_main_call15_v0 V) n _ (v363_at V n)).trans (iota_at V n _)

/-- The row number taken from the codebook. -/
theorem v18_at (n : Fin 131072) :
    (res_main_call16_v5 V : IVec S131072x1 32) (ix2 n 0)
      = BitVec.ofNat 32 (ids (rArgs V) ⟨n / 4096, by omega⟩ ⟨n % 4096, by omega⟩).val := by
  unfold res_main_call16_v5
  pointwise
  rw [v366_at]
  exact code_select _

/-- The chosen rows, laid out as images. -/
theorem v368_at (b : Fin 32) (e i j : Fin 64) :
    (res_main_v368 V : Vec Ideal S32x64x64x64 .f32) (ix4 b e i j) = zq (rArgs V) b e i j := by
  unfold res_main_v368
  pointwise
  have hr : (fun x : S131072x1.Idx => IntOp.andi (IntOp.cmpi CmpIPredicate.sge ((res_main_call16_v5 V : IVec S131072x1 32) x) 0#32)
            (IntOp.cmpi CmpIPredicate.sle ((res_main_call16_v5 V : IVec S131072x1 32) x) 511#32)) = fun _ => 1#1 := by
    funext x
    have hx : x = ix2 (⟨(x 0).val, (x 0).2⟩ : Fin 131072) (0 : Fin 1) := by
      funext a
      match a with
      | ⟨0, _⟩ => rfl
      | ⟨1, _⟩ => exact Fin.ext (Nat.lt_one_iff.1 (x 1).2)
    rw [hx, v18_at]
    exact code_range _
  have h1 : (⟨(b.val * 4096 + e.val * 64 + i.val) / 4096, by omega⟩ : Fin 32) = b := Fin.ext (by show (b.val * 4096 + e.val * 64 + i.val) / 4096 = b.val; omega)
  have h2 : (⟨(b.val * 4096 + e.val * 64 + i.val) % 4096, by omega⟩ : Fin 4096) = ⟨e.val * 64 + i.val, by omega⟩ :=
    Fin.ext (by show (b.val * 4096 + e.val * 64 + i.val) % 4096 = e.val * 64 + i.val; omega)
  have h3 := v18_at V ⟨b.val * 4096 + e.val * 64 + i.val, by omega⟩
  have h4 : ids (rArgs V) ⟨(b.val * 4096 + e.val * 64 + i.val) / 4096, by omega⟩ ⟨(b.val * 4096 + e.val * 64 + i.val) % 4096, by omega⟩
      = ids (rArgs V) b ⟨e.val * 64 + i.val, by omega⟩ := congrArg₂ (ids (rArgs V)) h1 h2
  have h5 := Routing.gather_row (nb := 512) (B := 64) (n := 131072) gather_S512x64_S131072x1_S131072x64_1_0_n_n_0_1_164 rfl rfl rfl rfl rfl
    (V main_arg15 : Vec Ideal S512x64 .f32) (res_main_call16_v5 V) ⟨b.val * 4096 + e.val * 64 + i.val, by omega⟩ j _ h3 (by norm_num)
  refine Eq.trans ?_ (h5.trans ?_)
  · exact select_fold _ _ hr _ _
  · unfold zq
    rw [← h4]
    rfl

end Cert.ReferenceIdeal.Value
end
-- ==== Proof.RefDec.lean ====
module
public import proofs.«01_k».proof.Proof.RefVq

/-! # The reference's decoder

Read where the encoder's outputs are finite, so that what the decoder is given is the chosen row itself. -/

@[expose] public section
set_option maxRecDepth 16384
set_option maxHeartbeats 2000000
noncomputable section
namespace Cert.ReferenceIdeal.Value
open Idealize.ShloMosaic Idealize.ShloMosaic.TcCoe
open Cert.ReferenceIdeal
open Vq

/-- Every output of the encoder is a real number. -/
def FiniteZ (A : Args) : Prop := ∀ b e i j, ∃ r : ℝ, zz A b e i j = (r : EReal)

/-- Adding to a finite number the difference from it gives the other number. -/
theorem add_sub_finite (r : ℝ) (q : EReal) : (r : EReal) + (q - (r : EReal)) = q := by
  induction q with
  | bot => rfl
  | top => rfl
  | coe x =>
    rw [← EReal.coe_sub, ← EReal.coe_add]
    congr 1
    ring

variable (V : Valuation τ sig (Elt Ideal)) (hz : FiniteZ (rArgs V)) (b : Fin 32)
include hz

/-- What the decoder is given, padded. -/
theorem v381_at (k : Fin 64) (u v : Fin 66) :
    (res_main_v381 V : Vec Ideal S32x64x66x66 .f32) (ix4 b k u v) = pad1 (zq (rArgs V) b k) u v := by
  unfold res_main_v381
  pointwise
  refine ref_pad (n0 := 32) (n1 := 64) b k u v b.2 k.2 _ _ _ pad_zero fun _ a2 a3 _ _ => ?_
  simp only [v350_at, v368_at]
  obtain ⟨r, hr⟩ := hz b k ⟨u - 1, a2⟩ ⟨v - 1, a3⟩
  simp only [hr]
  exact add_sub_finite r _

/-- The decoder's first convolution. -/
theorem v437_at (k : Fin 128) (u v : Fin 64) :
    (res_main_v437 V : Vec Ideal S32x128x64x64 .f32) (ix4 b k u v) = g0 (rArgs V) b k u v := by
  unfold res_main_v437
  pointwise
  rw [g0, conv3_eq]
  simp only [v381_at V hz, Nat.add_comm 1, Nat.add_comm 2]
  rfl

/-- The block's input, rectified and padded. -/
theorem v439_at (k : Fin 128) (u v : Fin 66) :
    (res_main_v439 V : Vec Ideal S32x128x66x66 .f32) (ix4 b k u v)
     = pad1 (fun i j => relu (g0 (rArgs V) b k i j)) u v := by
  unfold res_main_v439
  pointwise
  refine ref_pad (n0 := 32) (n1 := 128) b k u v b.2 k.2 _ _ _ pad_zero fun _ a2 a3 _ _ => ?_
  simp only [v437_at V hz]
  rfl

/-- The block's 3 by 3 contraction. -/
theorem v492_at (k : Fin 128) (u v : Fin 64) :
    (res_main_v492 V : Vec Ideal S32x128x64x64 .f32) (ix4 b k u v)
     = taps3 fun ky kx => ∑ c, (rArgs V).dr1w3 k c ky kx
        * pad1 (fun i j => relu (g0 (rArgs V) b c i j)) (u + ky) (v + kx) := by
  unfold res_main_v492
  pointwise
  simp only [v439_at V hz, Nat.add_comm 1, Nat.add_comm 2]
  rfl

/-- The decoder's first residual block. -/
theorem v505_at (k : Fin 128) (u v : Fin 64) :
    (res_main_v505 V : Vec Ideal S32x128x64x64 .f32) (ix4 b k u v) = g1 (rArgs V) b k u v := by
  unfold res_main_v505
  pointwise
  simp only [g1, res, conv1_eq, conv3_eq, v437_at V hz, v492_at V hz]
  refine congrArg (fun s : EReal => g0 (rArgs V) b k u v + (s + (rArgs V).dr1b1 k))
    (Finset.sum_congr rfl fun x _ => congrArg (fun s : EReal => (rArgs V).dr1w1 k x * s) ?_)
  exact dif_pos (pad0_in (n0 := 32) (n1 := 128) (n2 := 64) (n3 := 64) b x u v b.2 x.2 u.2 v.2)

/-- The block's input, rectified and padded. -/
theorem v507_at (k : Fin 128) (u v : Fin 66) :
    (res_main_v507 V : Vec Ideal S32x128x66x66 .f32) (ix4 b k u v)
     = pad1 (fun i j => relu (g1 (rArgs V) b k i j)) u v := by
  unfold res_main_v507
  pointwise
  refine ref_pad (n0 := 32) (n1 := 128) b k u v b.2 k.2 _ _ _ pad_zero fun _ a2 a3 _ _ => ?_
  simp only [v505_at V hz]
  rfl

/-- The block's 3 by 3 contraction. -/
theorem v560_at (k : Fin 128) (u v : Fin 64) :
    (res_main_v560 V : Vec Ideal S32x128x64x64 .f32) (ix4 b k u v)
     = taps3 fun ky kx => ∑ c, (rArgs V).dr2w3 k c ky kx
        * pad1 (fun i j => relu (g1 (rArgs V) b c i j)) (u + ky) (v + kx) := by
  unfold res_main_v560
  pointwise
  simp only [v507_at V hz, Nat.add_comm 1, Nat.add_comm 2]
  rfl

omit hz in
/-- The first transposed convolution's kernel, flipped. -/
theorem v274_at (o k : Fin 128) (ky kx : Fin 4) :
    (res_main_v274 V : Vec Ideal S128x128x4x4 .f32) (ix4 o k ky kx) = (rArgs V).dt1w k o (Fin.rev ky) (Fin.rev kx) := by
  unfold res_main_v274
  pointwise
  rfl

/-- The second residual block, spread out. -/
theorem v575_at (k : Fin 128) (u v : Fin 131) :
    (res_main_v575 V : Vec Ideal S32x128x131x131 .f32) (ix4 b k u v) = dil (g2 (rArgs V) b k) u v := by
  unfold res_main_v575
  pointwise
  refine ref_dil (n0 := 32) (n1 := 128) b k u v b.2 k.2 _ _ _ rfl fun _ a2 a3 => ?_
  simp only [g2, res, conv1_eq, conv3_eq, v505_at V hz, v560_at V hz]
  refine congrArg (fun s : EReal => g1 (rArgs V) b k ⟨(u - 2) / 2, a2⟩ ⟨(v - 2) / 2, a3⟩ + (s + (rArgs V).dr2b1 k))
    (Finset.sum_congr rfl fun x _ => congrArg (fun s : EReal => (rArgs V).dr2w1 k x * s) ?_)
  exact dif_pos (pad0_in (n0 := 32) (n1 := 128) (n2 := 64) (n3 := 64) b x (⟨(u - 2) / 2, a2⟩ : Fin 64) (⟨(v - 2) / 2, a3⟩ : Fin 64)
    b.2 x.2 a2 a3)

omit hz in
/-- The second transposed convolution's kernel, flipped. -/
theorem v3_at (o : Fin 3) (k : Fin 128) (ky kx : Fin 4) :
    (res_main_v3 V : Vec Ideal S3x128x4x4 .f32) (ix4 o k ky kx) = (rArgs V).dt2w k o (Fin.rev ky) (Fin.rev kx) := by
  unfold res_main_v3
  pointwise
  rfl

/-- The first nine taps of the first transposed convolution. -/
theorem v628_at (k : Fin 128) (u v : Fin 128) :
    (res_main_v628 V : Vec Ideal S32x128x128x128 .f32) (ix4 b k u v)
     = first9 fun ky kx => ∑ c, (rArgs V).dt1w c k (Fin.rev ky) (Fin.rev kx) * dil (g2 (rArgs V) b c) (u + ky) (v + kx) := by
  unfold res_main_v628
  pointwise
  simp only [v274_at, v575_at V hz, Nat.add_comm 1, Nat.add_comm 2, Nat.add_comm 3]
  rfl

/-- The first transposed convolution, rectified and spread out. -/
theorem v676_at (k : Fin 128) (u v : Fin 259) :
    (res_main_v676 V : Vec Ideal S32x128x259x259 .f32) (ix4 b k u v) = dil (g3 (rArgs V) b k) u v := by
  unfold res_main_v676
  pointwise
  refine ref_dil (n0 := 32) (n1 := 128) b k u v b.2 k.2 _ _ _ rfl fun _ a2 a3 => ?_
  rw [g3, convT_eq]
  simp only [v628_at V hz, v274_at, v575_at V hz, Nat.add_comm 1, Nat.add_comm 2, Nat.add_comm 3]
  rfl

/-- The first ten taps of the second transposed convolution. -/
theorem v735_at (k : Fin 3) (u v : Fin 256) :
    (res_main_v735 V : Vec Ideal S32x3x256x256 .f32) (ix4 b k u v)
     = first10 fun ky kx => ∑ c, (rArgs V).dt2w c k (Fin.rev ky) (Fin.rev kx) * dil (g3 (rArgs V) b c) (u + ky) (v + kx) := by
  unfold res_main_v735
  pointwise
  simp only [v3_at, v676_at V hz, Nat.add_comm 1, Nat.add_comm 2, Nat.add_comm 3]
  rfl

end Cert.ReferenceIdeal.Value
end
-- ==== Proof.KHosts.lean ====
module
public import proofs.«01_k».proof.Proof.Gen.KernelIdeal.Frame
public import proofs.«01_k».proof.Proof.Spec
public import Idealize.ShloMosaic.Lib.Pointwise
public import Idealize.ShloMosaic.Lib.ValueIdx
public import Idealize.ShloMosaic.Lib.StableHlo.ReadAt

/-! # What the host operations between the regions leave

Each region's entry arrays, read at plain coordinates from the buffers before the stretch. -/

@[expose] public section
set_option maxRecDepth 16384
set_option maxHeartbeats 2000000
noncomputable section
namespace Cert.KernelIdeal.Gen
open Idealize.ShloMosaic Idealize.ShloMosaic.TcCoe
open Idealize.ShloMosaic.StableHlo
open Vq

/-- A padded image as the programs write it is the image with its ring of zeros. -/
theorem pad_read {H W : ℕ} (g : Fin H → Fin W → EReal) {u v u' v' : ℕ} {z : EReal} (hu : u = u') (hv : v = v') (hz : z = 0) :
    (if h : (1 ≤ u ∧ u - 1 < H) ∧ 1 ≤ v ∧ v - 1 < W then g ⟨u - 1, h.1.2⟩ ⟨v - 1, h.2.2⟩ else z) = pad1 g u' v' := by
  subst hu hv hz
  rfl

/-- The padding value: the integer zero as a float. -/
theorem sitofp_zero : (FloatOps.sitofp FTy.f32 0#32 : Ideal .f32) = (0 : EReal) := by
  show (((0#32 : BitVec 32).toInt : ℝ) : EReal) = 0
  rw [show (0#32 : BitVec 32).toInt = 0 from rfl]
  simp

variable (V : Valuation τ sig (Elt Ideal))

/-! ## The strided convolutions -/

theorem e0_0 (b : Fin 32) (u v : Fin 129) (k : Fin 12) :
    (after hostOps0_2 (after hostOps0_1 (after hostOps0 V)) main_v5 : Vec Ideal S32x129x129x12 .f32) (ix4 b u v k)
      = pad1 (fun i j => (V main_arg0 : Vec Ideal S32x3x256x256 .f32) (ix4 b ⟨k.val % 3, Nat.mod_lt _ (by decide)⟩ i j)) (2 * u + k.val / 3 / 2) (2 * v + k.val / 3 % 2) := by
  after_reads_at
  exact pad_read (fun i j => (V main_arg0 : Vec Ideal S32x3x256x256 .f32) (ix4 b ⟨k.val % 3, Nat.mod_lt _ (by decide)⟩ i j)) (by omega) (by omega) sitofp_zero
theorem e0_1 (da db : Fin 2) (k : Fin 12) (o : Fin 128) :
    (after hostOps0_2 (after hostOps0_1 (after hostOps0 V)) main_v8 : Vec Ideal S2x2x12x128 .f32) (ix4 da db k o)
      = (V main_arg1 : Vec Ideal S128x3x4x4 .f32) (ix4 o ⟨k.val % 3, Nat.mod_lt _ (by decide)⟩ ⟨2 * da + k.val / 3 / 2, by omega⟩ ⟨2 * db + k.val / 3 % 2, by omega⟩) := by
  after_reads_at
  refine congrArg₂ (fun p q => (V main_arg1 : Vec Ideal S128x3x4x4 .f32) (ix4 o ⟨k.val % 3, Nat.mod_lt _ (by decide)⟩ p q)) (Fin.ext ?_) (Fin.ext ?_)
  · show da.val * 2 + k.val / 6 = 2 * da.val + k.val / 3 / 2
    omega
  · show db.val * 2 + k.val / 3 % 2 = 2 * db.val + k.val / 3 % 2
    omega
theorem e0_2 (k : Fin 128) :
    (after hostOps0_2 (after hostOps0_1 (after hostOps0 V)) main_v9 : Vec Ideal S1x128 .f32) (ix2 0 k) = (V main_arg2 : Vec Ideal S128 .f32) (ix1 k) := by
  after_reads_at

theorem e1_0 (b : Fin 32) (u v : Fin 65) (k : Fin 512) :
    (after hostOps1_2 (after hostOps1_1 (after hostOps1 V)) main_v15 : Vec Ideal S32x65x65x512 .f32) (ix4 b u v k)
      = pad1 (fun i j => (V main_v10 : Vec Ideal S32x128x128x128 .f32) (ix4 b i j ⟨k.val % 128, Nat.mod_lt _ (by decide)⟩)) (2 * u + k.val / 128 / 2) (2 * v + k.val / 128 % 2) := by
  after_reads_at
  exact pad_read (fun i j => (V main_v10 : Vec Ideal S32x128x128x128 .f32) (ix4 b i j ⟨k.val % 128, Nat.mod_lt _ (by decide)⟩)) (by omega) (by omega) sitofp_zero
theorem e1_1 (da db : Fin 2) (k : Fin 512) (o : Fin 128) :
    (after hostOps1_2 (after hostOps1_1 (after hostOps1 V)) main_v18 : Vec Ideal S2x2x512x128 .f32) (ix4 da db k o)
      = (V main_arg3 : Vec Ideal S128x128x4x4 .f32) (ix4 o ⟨k.val % 128, Nat.mod_lt _ (by decide)⟩ ⟨2 * da + k.val / 128 / 2, by omega⟩ ⟨2 * db + k.val / 128 % 2, by omega⟩) := by
  after_reads_at
  refine congrArg₂ (fun p q => (V main_arg3 : Vec Ideal S128x128x4x4 .f32) (ix4 o ⟨k.val % 128, Nat.mod_lt _ (by decide)⟩ p q)) (Fin.ext ?_) (Fin.ext ?_)
  · show da.val * 2 + k.val / 256 = 2 * da.val + k.val / 128 / 2
    omega
  · show db.val * 2 + k.val / 128 % 2 = 2 * db.val + k.val / 128 % 2
    omega
theorem e1_2 (k : Fin 128) :
    (after hostOps1_2 (after hostOps1_1 (after hostOps1 V)) main_v19 : Vec Ideal S1x128 .f32) (ix2 0 k) = (V main_arg4 : Vec Ideal S128 .f32) (ix1 k) := by
  after_reads_at

/-! ## The encoder's first residual block -/

theorem e2_0 (b : Fin 32) (u v : Fin 66) (k : Fin 128) :
    (after hostOps2_2 (after hostOps2_1 (after hostOps2 V)) main_v24 : Vec Ideal S32x66x66x128 .f32) (ix4 b u v k)
      = pad1 (fun i j : Fin 64 => (V main_v20 : Vec Ideal S32x64x64x128 .f32) (ix4 b i j k)) u v := by
  after_reads_at
  exact pad_read (fun i j : Fin 64 => (V main_v20 : Vec Ideal S32x64x64x128 .f32) (ix4 b i j k)) rfl rfl sitofp_zero
theorem e2_1 (ky kx : Fin 3) (k o : Fin 128) :
    (after hostOps2_2 (after hostOps2_1 (after hostOps2 V)) main_v21 : Vec Ideal S3x3x128x128 .f32) (ix4 ky kx k o)
      = (V main_arg5 : Vec Ideal S128x128x3x3 .f32) (ix4 o k ky kx) := by
  after_reads_at
theorem e2_2 (k : Fin 128) :
    (after hostOps2_2 (after hostOps2_1 (after hostOps2 V)) main_v25 : Vec Ideal S1x128 .f32) (ix2 0 k) = (V main_arg6 : Vec Ideal S128 .f32) (ix1 k) := by
  after_reads_at
theorem e2_3 (k o : Fin 128) :
    (after hostOps2_2 (after hostOps2_1 (after hostOps2 V)) main_v23 : Vec Ideal S128x128 .f32) (ix2 k o)
      = (V main_arg7 : Vec Ideal S128x128x1x1 .f32) (ix4 o k 0 0) := by
  after_reads_at
theorem e2_4 (k : Fin 128) :
    (after hostOps2_2 (after hostOps2_1 (after hostOps2 V)) main_v26 : Vec Ideal S1x128 .f32) (ix2 0 k) = (V main_arg8 : Vec Ideal S128 .f32) (ix1 k) := by
  after_reads_at

/-! ## The encoder's second residual block -/

theorem e3_0 (b : Fin 32) (u v : Fin 66) (k : Fin 128) :
    (after hostOps3_2 (after hostOps3_1 (after hostOps3 V)) main_v31 : Vec Ideal S32x66x66x128 .f32) (ix4 b u v k)
      = pad1 (fun i j : Fin 64 => (V main_v27 : Vec Ideal S32x64x64x128 .f32) (ix4 b i j k)) u v := by
  after_reads_at
  exact pad_read (fun i j : Fin 64 => (V main_v27 : Vec Ideal S32x64x64x128 .f32) (ix4 b i j k)) rfl rfl sitofp_zero
theorem e3_1 (ky kx : Fin 3) (k o : Fin 128) :
    (after hostOps3_2 (after hostOps3_1 (after hostOps3 V)) main_v28 : Vec Ideal S3x3x128x128 .f32) (ix4 ky kx k o)
      = (V main_arg9 : Vec Ideal S128x128x3x3 .f32) (ix4 o k ky kx) := by
  after_reads_at
theorem e3_2 (k : Fin 128) :
    (after hostOps3_2 (after hostOps3_1 (after hostOps3 V)) main_v32 : Vec Ideal S1x128 .f32) (ix2 0 k) = (V main_arg10 : Vec Ideal S128 .f32) (ix1 k) := by
  after_reads_at
theorem e3_3 (k o : Fin 128) :
    (after hostOps3_2 (after hostOps3_1 (after hostOps3 V)) main_v30 : Vec Ideal S128x128 .f32) (ix2 k o)
      = (V main_arg11 : Vec Ideal S128x128x1x1 .f32) (ix4 o k 0 0) := by
  after_reads_at
theorem e3_4 (k : Fin 128) :
    (after hostOps3_2 (after hostOps3_1 (after hostOps3 V)) main_v33 : Vec Ideal S1x128 .f32) (ix2 0 k) = (V main_arg12 : Vec Ideal S128 .f32) (ix1 k) := by
  after_reads_at

/-! ## The decoder's first residual block -/

theorem e6_0 (b : Fin 32) (u v : Fin 66) (k : Fin 128) :
    (after hostOps6_2 (after hostOps6_1 (after hostOps6 V)) main_v56 : Vec Ideal S32x66x66x128 .f32) (ix4 b u v k)
      = pad1 (fun i j : Fin 64 => (V main_v47_0 : Vec Ideal S32x64x64x128 .f32) (ix4 b i j k)) u v := by
  after_reads_at
  exact pad_read (fun i j : Fin 64 => (V main_v47_0 : Vec Ideal S32x64x64x128 .f32) (ix4 b i j k)) rfl rfl sitofp_zero
theorem e6_1 (ky kx : Fin 3) (k o : Fin 128) :
    (after hostOps6_2 (after hostOps6_1 (after hostOps6 V)) main_v53 : Vec Ideal S3x3x128x128 .f32) (ix4 ky kx k o)
      = (V main_arg18 : Vec Ideal S128x128x3x3 .f32) (ix4 o k ky kx) := by
  after_reads_at
theorem e6_2 (k : Fin 128) :
    (after hostOps6_2 (after hostOps6_1 (after hostOps6 V)) main_v57 : Vec Ideal S1x128 .f32) (ix2 0 k) = (V main_arg19 : Vec Ideal S128 .f32) (ix1 k) := by
  after_reads_at
theorem e6_3 (k o : Fin 128) :
    (after hostOps6_2 (after hostOps6_1 (after hostOps6 V)) main_v55 : Vec Ideal S128x128 .f32) (ix2 k o)
      = (V main_arg20 : Vec Ideal S128x128x1x1 .f32) (ix4 o k 0 0) := by
  after_reads_at
theorem e6_4 (k : Fin 128) :
    (after hostOps6_2 (after hostOps6_1 (after hostOps6 V)) main_v58 : Vec Ideal S1x128 .f32) (ix2 0 k) = (V main_arg21 : Vec Ideal S128 .f32) (ix1 k) := by
  after_reads_at

/-! ## The decoder's second residual block -/

theorem e7_0 (b : Fin 32) (u v : Fin 66) (k : Fin 128) :
    (after hostOps7_2 (after hostOps7_1 (after hostOps7 V)) main_v63 : Vec Ideal S32x66x66x128 .f32) (ix4 b u v k)
      = pad1 (fun i j : Fin 64 => (V main_v59 : Vec Ideal S32x64x64x128 .f32) (ix4 b i j k)) u v := by
  after_reads_at
  exact pad_read (fun i j : Fin 64 => (V main_v59 : Vec Ideal S32x64x64x128 .f32) (ix4 b i j k)) rfl rfl sitofp_zero
theorem e7_1 (ky kx : Fin 3) (k o : Fin 128) :
    (after hostOps7_2 (after hostOps7_1 (after hostOps7 V)) main_v60 : Vec Ideal S3x3x128x128 .f32) (ix4 ky kx k o)
      = (V main_arg22 : Vec Ideal S128x128x3x3 .f32) (ix4 o k ky kx) := by
  after_reads_at
theorem e7_2 (k : Fin 128) :
    (after hostOps7_2 (after hostOps7_1 (after hostOps7 V)) main_v64 : Vec Ideal S1x128 .f32) (ix2 0 k) = (V main_arg23 : Vec Ideal S128 .f32) (ix1 k) := by
  after_reads_at
theorem e7_3 (k o : Fin 128) :
    (after hostOps7_2 (after hostOps7_1 (after hostOps7 V)) main_v62 : Vec Ideal S128x128 .f32) (ix2 k o)
      = (V main_arg24 : Vec Ideal S128x128x1x1 .f32) (ix4 o k 0 0) := by
  after_reads_at
theorem e7_4 (k : Fin 128) :
    (after hostOps7_2 (after hostOps7_1 (after hostOps7 V)) main_v65 : Vec Ideal S1x128 .f32) (ix2 0 k) = (V main_arg25 : Vec Ideal S128 .f32) (ix1 k) := by
  after_reads_at

/-! ## The quantizer -/

theorem e4_1 (k : Fin 128) (e : Fin 64) :
    (after hostOps4 V main_v36 : Vec Ideal S128x64 .f32) (ix2 k e) = (V main_arg13 : Vec Ideal S64x128x1x1 .f32) (ix4 e k 0 0) := by
  after_reads_at
theorem e4_2 (e : Fin 64) :
    (after hostOps4 V main_v40 : Vec Ideal S1x64 .f32) (ix2 0 e) = (V main_arg14 : Vec Ideal S64 .f32) (ix1 e) := by
  after_reads_at
theorem e4_4 (g : Fin 512 → Fin 64 → EReal) (hg : ∀ n e, (V main_arg15 : Vec Ideal S512x64 .f32) (ix2 n e) = g n e) (n : Fin 512) :
    (after hostOps4 V main_v39 : Vec Ideal S1x512 .f32) (ix2 0 n) = ∑ e, g n e * g n e := by
  after_reads_at
  exact Finset.sum_congr rfl fun e _ => congrArg₂ (· * ·) (hg n e) (hg n e)

/-! ## The decoder's first convolution -/

theorem e5_0 (b : Fin 32) (u v : Fin 66) (k : Fin 64) :
    (after hostOps5_2 (after hostOps5_1 (after hostOps5 V)) main_v45 : Vec Ideal S32x66x66x64 .f32) (ix4 b u v k)
      = pad1 (fun i j : Fin 64 => (V main_v41_1 : Vec Ideal S32x4096x64 .f32) (ix3 b ⟨k.val * 64 + i, by omega⟩ j)) u v := by
  after_reads_at
  exact pad_read (fun i j : Fin 64 => (V main_v41_1 : Vec Ideal S32x4096x64 .f32) (ix3 b ⟨k.val * 64 + i, by omega⟩ j)) rfl rfl sitofp_zero
theorem e5_2 (ky kx : Fin 3) (k : Fin 64) (o : Fin 128) :
    (after hostOps5_2 (after hostOps5_1 (after hostOps5 V)) main_v44 : Vec Ideal S3x3x64x128 .f32) (ix4 ky kx k o)
      = (V main_arg16 : Vec Ideal S128x64x3x3 .f32) (ix4 o k ky kx) := by
  after_reads_at
theorem e5_3 (k : Fin 128) :
    (after hostOps5_2 (after hostOps5_1 (after hostOps5 V)) main_v46 : Vec Ideal S1x128 .f32) (ix2 0 k) = (V main_arg17 : Vec Ideal S128 .f32) (ix1 k) := by
  after_reads_at

/-! ## The transposed convolutions -/

theorem e8_0 (b : Fin 32) (r : Fin 1) (u v : Fin 66) (k : Fin 128) :
    (after hostOps8_2 (after hostOps8_1 (after hostOps8 V)) main_v69 : Vec Ideal S32x1x66x66x128 .f32) (ix5 b r u v k)
      = pad1 (fun i j : Fin 64 => (V main_v66 : Vec Ideal S32x64x64x128 .f32) (ix4 b i j k)) (64 * r + u) v := by
  obtain rfl : r = 0 := Subsingleton.elim _ _
  after_reads_at
  exact pad_read (fun i j : Fin 64 => (V main_v66 : Vec Ideal S32x64x64x128 .f32) (ix4 b i j k)) (by simp) rfl sitofp_zero
theorem e8_2 (k : Fin 512) :
    (after hostOps8_2 (after hostOps8_1 (after hostOps8 V)) main_v203 : Vec Ideal S1x512 .f32) (ix2 0 k)
      = (V main_arg27 : Vec Ideal S128 .f32) (ix1 ⟨k.val % 128, Nat.mod_lt _ (by decide)⟩) := by
  after_reads_at

theorem e9_0 (b : Fin 32) (r : Fin 4) (u : Fin 34) (v : Fin 130) (k : Fin 128) :
    (after hostOps9_2 (after hostOps9_1 (after hostOps9 V)) main_v218 : Vec Ideal S32x4x34x130x128 .f32) (ix5 b r u v k)
      = pad1 (fun i j : Fin 128 => (V main_v204 : Vec Ideal S32x64x64x512 .f32) (ix4 b ⟨i / 2, by omega⟩ ⟨j / 2, by omega⟩ ⟨i % 2 * 256 + j % 2 * 128 + k, by omega⟩)) (32 * r + u) v := by
  fin_cases r
  all_goals
    after_reads_at
    after_reads_at
    exact pad_read (fun i j : Fin 128 => (V main_v204 : Vec Ideal S32x64x64x512 .f32) (ix4 b ⟨i / 2, by omega⟩ ⟨j / 2, by omega⟩ ⟨i % 2 * 256 + j % 2 * 128 + k, by omega⟩)) (by simp) rfl sitofp_zero
theorem e9_2 (k : Fin 12) :
    (after hostOps9_2 (after hostOps9_1 (after hostOps9 V)) main_v352 : Vec Ideal S1x12 .f32) (ix2 0 k)
      = (V main_arg29 : Vec Ideal S3 .f32) (ix1 ⟨k.val % 3, Nat.mod_lt _ (by decide)⟩) := by
  after_reads_at

/-! ## The results -/

theorem loss_read (g : Fin 32 → EReal) (hg : ∀ b, (V main_v47_1 : Vec Ideal S32x1x128 .f32) (ix3 b 0 0) = g b) :
    (after hostOps6_2 (after hostOps6_1 (after hostOps6 V)) main_v52 : Vec Ideal S_ .f32) ix0
      = Ideal.div (Ideal.ofBits FTy.f32 0x3FA00000#32 * ∑ b, g b) (Ideal.ofBits FTy.f32 0x4B000000#32) := by
  after_reads_at
  exact congrArg (fun q => Ideal.div (Ideal.ofBits FTy.f32 0x3FA00000#32 * q) (Ideal.ofBits FTy.f32 0x4B000000#32)) (Finset.sum_congr rfl fun b _ => hg b)
theorem recon_read (b : Fin 32) (o : Fin 3) (i j : Fin 256) :
    (after hostOps10 V main_v357 : Vec Ideal S32x3x256x256 .f32) (ix4 b o i j)
      = (V main_v353 : Vec Ideal S32x128x128x12 .f32) (ix4 b ⟨i / 2, by omega⟩ ⟨j / 2, by omega⟩ ⟨(i % 2 * 2 + j % 2) * 3 + o, by omega⟩) := by
  after_reads_at
  refine congrArg (fun q => (V main_v353 : Vec Ideal S32x128x128x12 .f32) (ix4 b ⟨i / 2, by omega⟩ ⟨j / 2, by omega⟩ q)) (Fin.ext ?_)
  show i.val % 2 * 6 + j.val % 2 * 3 + o.val = (i.val % 2 * 2 + j.val % 2) * 3 + o.val
  omega
theorem idx_read (n : Fin 131072) :
    (after hostOps10 V main_v361 : IVec S131072x1 32) (ix2 n 0)
      = (V main_v41_2 : IVec S32x4096x128 32) (ix3 ⟨n / 4096, by omega⟩ ⟨n % 4096, by omega⟩ 0) := by
  after_reads_at

end Cert.KernelIdeal.Gen
end
-- ==== Proof.Scatter.lean ====
module
public import proofs.«01_k».proof.Proof.Sums
public import Idealize.ShloMosaic.Lib.Pointwise
public import Idealize.ShloMosaic.Lib.ValueIdx
public import Idealize.ShloMosaic.Lib.Routing.OpsOne

/-! # Writing one tap into a table of taps -/

@[expose] public section
noncomputable section
namespace Vq
open Idealize.ShloMosaic Idealize.ShloMosaic.Routing

variable {K Co w : Nat} (d : ScatterDims ⟨6, ![3, 3, K, 2, 2, Co]⟩ ⟨1, ![4]⟩ ⟨2, ![K, Co]⟩)
  (huw : d.updateWindowDims = [0, 1]) (hiw : d.insertedWindowDims = [0, 1, 3, 4])
  (hsd : d.scatterDimsToOperandDims = [0, 1, 3, 4]) (hivd : d.indexVectorDim = 0)

include huw hiw hsd hivd in
/-- The update at `(k, o)` of a tap lands at the cell the four index words name, at `k` and `o`. -/
theorem lands_tap (idx : IVec ⟨1, ![4]⟩ w) (j : Shape.Idx ⟨2, ![K, Co]⟩)
    (ky kx : Fin 3) (k : Fin K) (r s : Fin 2) (o : Fin Co) :
    d.resultIdx? j idx = some (ix6 ky kx k r s o) ↔
      ((idx (ix1 0)).toInt = ky.val ∧ (idx (ix1 1)).toInt = kx.val ∧ (idx (ix1 2)).toInt = r.val ∧ (idx (ix1 3)).toInt = s.val)
        ∧ j 0 = k ∧ j 1 = o := by
  obtain ⟨uw, iw, sd, iv, wf⟩ := d
  subst huw hiw hsd hivd
  rw [resultIdx?_eq_some]
  have hs : ∀ (q : Fin 4) (h), ScatterDims.siIdx (⟨[0, 1], [0, 1, 3, 4], [0, 1, 3, 4], 0, wf⟩ : ScatterDims ⟨6, ![3, 3, K, 2, 2, Co]⟩ ⟨1, ![4]⟩ ⟨2, ![K, Co]⟩) j ⟨q.val, h⟩ = ix1 q := by
    intro q h
    funext b
    match b with
    | ⟨0, _⟩ => rfl
  have h0 := hs 0 (by show 0 < 4; decide)
  have h1 := hs 1 (by show 1 < 4; decide)
  have h2 := hs 2 (by show 2 < 4; decide)
  have h3 := hs 3 (by show 3 < 4; decide)
  constructor
  · intro h
    have e0 := h 0; have e1 := h 1; have e2 := h 2; have e3 := h 3; have e4 := h 4; have e5 := h 5
    refine ⟨⟨?_, ?_, ?_, ?_⟩, ?_, ?_⟩
    · rw [← h0]; exact (Int.add_zero _).symm.trans e0
    · rw [← h1]; exact (Int.add_zero _).symm.trans e1
    · rw [← h2]; exact (Int.add_zero _).symm.trans e3
    · rw [← h3]; exact (Int.add_zero _).symm.trans e4
    · exact Fin.ext (Int.ofNat.inj ((Int.zero_add _).symm.trans e2))
    · exact Fin.ext (Int.ofNat.inj ((Int.zero_add _).symm.trans e5))
  · rintro ⟨⟨e0, e1, e2, e3⟩, rfl, rfl⟩ a
    rw [← h0] at e0; rw [← h1] at e1; rw [← h2] at e2; rw [← h3] at e3
    match a with
    | ⟨0, _⟩ => exact (Int.add_zero _).trans e0
    | ⟨1, _⟩ => exact (Int.add_zero _).trans e1
    | ⟨2, _⟩ => exact Int.zero_add _
    | ⟨3, _⟩ => exact (Int.add_zero _).trans e2
    | ⟨4, _⟩ => exact (Int.add_zero _).trans e3
    | ⟨5, _⟩ => exact Int.zero_add _

include huw hiw hsd hivd in
/-- Writing one tap into the table, read at a cell: the tap where the four index words name the cell. -/
theorem scatter_tap {α : Type} (x0 : Shape.Idx ⟨6, ![3, 3, K, 2, 2, Co]⟩ → α) (idx : IVec ⟨1, ![4]⟩ w)
    (upd : Shape.Idx ⟨2, ![K, Co]⟩ → α) (ky kx : Fin 3) (k : Fin K) (r s : Fin 2) (o : Fin Co) :
    Host.scatter d (fun _ b => b) x0 idx upd (ix6 ky kx k r s o)
      = if (idx (ix1 0)).toInt = ky.val ∧ (idx (ix1 1)).toInt = kx.val ∧ (idx (ix1 2)).toInt = r.val ∧ (idx (ix1 3)).toInt = s.val
        then upd (ix2 k o) else x0 (ix6 ky kx k r s o) := by
  by_cases h : (idx (ix1 0)).toInt = ky.val ∧ (idx (ix1 1)).toInt = kx.val ∧ (idx (ix1 2)).toInt = r.val ∧ (idx (ix1 3)).toInt = s.val
  · rw [if_pos h]
    refine scatter_set_hit d x0 idx upd _ _ (fun j hj => ?_) (ix2 k o) ((lands_tap d huw hiw hsd hivd idx _ ky kx k r s o).2 ⟨h, rfl, rfl⟩)
    have q := ((lands_tap d huw hiw hsd hivd idx j ky kx k r s o).1 hj).2
    rw [← q.1, ← q.2]
    exact congrArg upd (eq_ix2 j)
  · rw [if_neg h]
    exact scatter_set_miss d x0 idx upd _ fun j hj => h ((lands_tap d huw hiw hsd hivd idx j ky kx k r s o).1 hj).1

/-- The four index words name the cell `(a, b, r, s)` of the table. -/
def Names (i : IVec ⟨1, ![4]⟩ w) (a b r s : ℕ) : Prop :=
  (i (ix1 0)).toInt = a ∧ (i (ix1 1)).toInt = b ∧ (i (ix1 2)).toInt = r ∧ (i (ix1 3)).toInt = s

include huw hiw hsd hivd in
/-- Writing one tap at a named cell, read at a cell. -/
theorem scatter_named {α : Type} {x0 : Shape.Idx ⟨6, ![3, 3, K, 2, 2, Co]⟩ → α} {idx : IVec ⟨1, ![4]⟩ w}
    {upd : Shape.Idx ⟨2, ![K, Co]⟩ → α} {a b r' s' : ℕ} (h : Names idx a b r' s') (ky kx : Fin 3) (k : Fin K) (r s : Fin 2) (o : Fin Co) :
    Host.scatter d (fun _ b => b) x0 idx upd (ix6 ky kx k r s o)
      = if a = ky.val ∧ b = kx.val ∧ r' = r.val ∧ s' = s.val then upd (ix2 k o) else x0 (ix6 ky kx k r s o) := by
  rw [scatter_tap d huw hiw hsd hivd, h.1, h.2.1, h.2.2.1, h.2.2.2]
  simp only [Nat.cast_inj]

include huw hiw hsd hivd in
/-- The table of the sixteen taps, each written at its cell over a table of zeros. -/
theorem table (f : Fin K → Fin Co → Fin 4 → Fin 4 → EReal) {x0 : Shape.Idx ⟨6, ![3, 3, K, 2, 2, Co]⟩ → EReal}
    (h0 : ∀ i, x0 i = 0)
    {i1 : IVec ⟨1, ![4]⟩ w} {u1 : Shape.Idx ⟨2, ![K, Co]⟩ → EReal} (hi1 : Names i1 0 0 0 0) (hu1 : ∀ k o, u1 (ix2 k o) = f k o 3 3)
    {i2 : IVec ⟨1, ![4]⟩ w} {u2 : Shape.Idx ⟨2, ![K, Co]⟩ → EReal} (hi2 : Names i2 0 1 0 0) (hu2 : ∀ k o, u2 (ix2 k o) = f k o 3 1)
    {i3 : IVec ⟨1, ![4]⟩ w} {u3 : Shape.Idx ⟨2, ![K, Co]⟩ → EReal} (hi3 : Names i3 0 1 0 1) (hu3 : ∀ k o, u3 (ix2 k o) = f k o 3 2)
    {i4 : IVec ⟨1, ![4]⟩ w} {u4 : Shape.Idx ⟨2, ![K, Co]⟩ → EReal} (hi4 : Names i4 0 2 0 1) (hu4 : ∀ k o, u4 (ix2 k o) = f k o 3 0)
    {i5 : IVec ⟨1, ![4]⟩ w} {u5 : Shape.Idx ⟨2, ![K, Co]⟩ → EReal} (hi5 : Names i5 1 0 0 0) (hu5 : ∀ k o, u5 (ix2 k o) = f k o 1 3)
    {i6 : IVec ⟨1, ![4]⟩ w} {u6 : Shape.Idx ⟨2, ![K, Co]⟩ → EReal} (hi6 : Names i6 1 1 0 0) (hu6 : ∀ k o, u6 (ix2 k o) = f k o 1 1)
    {i7 : IVec ⟨1, ![4]⟩ w} {u7 : Shape.Idx ⟨2, ![K, Co]⟩ → EReal} (hi7 : Names i7 1 1 0 1) (hu7 : ∀ k o, u7 (ix2 k o) = f k o 1 2)
    {i8 : IVec ⟨1, ![4]⟩ w} {u8 : Shape.Idx ⟨2, ![K, Co]⟩ → EReal} (hi8 : Names i8 1 2 0 1) (hu8 : ∀ k o, u8 (ix2 k o) = f k o 1 0)
    {i9 : IVec ⟨1, ![4]⟩ w} {u9 : Shape.Idx ⟨2, ![K, Co]⟩ → EReal} (hi9 : Names i9 1 0 1 0) (hu9 : ∀ k o, u9 (ix2 k o) = f k o 2 3)
    {i10 : IVec ⟨1, ![4]⟩ w} {u10 : Shape.Idx ⟨2, ![K, Co]⟩ → EReal} (hi10 : Names i10 1 1 1 0) (hu10 : ∀ k o, u10 (ix2 k o) = f k o 2 1)
    {i11 : IVec ⟨1, ![4]⟩ w} {u11 : Shape.Idx ⟨2, ![K, Co]⟩ → EReal} (hi11 : Names i11 1 1 1 1) (hu11 : ∀ k o, u11 (ix2 k o) = f k o 2 2)
    {i12 : IVec ⟨1, ![4]⟩ w} {u12 : Shape.Idx ⟨2, ![K, Co]⟩ → EReal} (hi12 : Names i12 1 2 1 1) (hu12 : ∀ k o, u12 (ix2 k o) = f k o 2 0)
    {i13 : IVec ⟨1, ![4]⟩ w} {u13 : Shape.Idx ⟨2, ![K, Co]⟩ → EReal} (hi13 : Names i13 2 0 1 0) (hu13 : ∀ k o, u13 (ix2 k o) = f k o 0 3)
    {i14 : IVec ⟨1, ![4]⟩ w} {u14 : Shape.Idx ⟨2, ![K, Co]⟩ → EReal} (hi14 : Names i14 2 1 1 0) (hu14 : ∀ k o, u14 (ix2 k o) = f k o 0 1)
    {i15 : IVec ⟨1, ![4]⟩ w} {u15 : Shape.Idx ⟨2, ![K, Co]⟩ → EReal} (hi15 : Names i15 2 1 1 1) (hu15 : ∀ k o, u15 (ix2 k o) = f k o 0 2)
    {i16 : IVec ⟨1, ![4]⟩ w} {u16 : Shape.Idx ⟨2, ![K, Co]⟩ → EReal} (hi16 : Names i16 2 2 1 1) (hu16 : ∀ k o, u16 (ix2 k o) = f k o 0 0)
    (ky kx : Fin 3) (k : Fin K) (r s : Fin 2) (o : Fin Co) :
    Host.scatter d (fun _ b => b) (Host.scatter d (fun _ b => b) (Host.scatter d (fun _ b => b) (Host.scatter d (fun _ b => b) (Host.scatter d (fun _ b => b) (Host.scatter d (fun _ b => b) (Host.scatter d (fun _ b => b) (Host.scatter d (fun _ b => b) (Host.scatter d (fun _ b => b) (Host.scatter d (fun _ b => b) (Host.scatter d (fun _ b => b) (Host.scatter d (fun _ b => b) (Host.scatter d (fun _ b => b) (Host.scatter d (fun _ b => b) (Host.scatter d (fun _ b => b) (Host.scatter d (fun _ b => b) x0 i1 u1) i2 u2) i3 u3) i4 u4) i5 u5) i6 u6) i7 u7) i8 u8) i9 u9) i10 u10) i11 u11) i12 u12) i13 u13) i14 u14) i15 u15) i16 u16 (ix6 ky kx k r s o)
      = wsel (f k o) r s ky kx := by
  have e := fun {x0 : Shape.Idx ⟨6, ![3, 3, K, 2, 2, Co]⟩ → EReal} {i : IVec ⟨1, ![4]⟩ w} {u : Shape.Idx ⟨2, ![K, Co]⟩ → EReal} {a b r' s' : ℕ} (h : Names i a b r' s') =>
    scatter_named d huw hiw hsd hivd (x0 := x0) (upd := u) h ky kx k r s o
  rw [e hi16, e hi15, e hi14, e hi13, e hi12, e hi11, e hi10, e hi9, e hi8, e hi7, e hi6, e hi5, e hi4, e hi3, e hi2, e hi1, h0]
  rw [hu1, hu2, hu3, hu4, hu5, hu6, hu7, hu8, hu9, hu10, hu11, hu12, hu13, hu14, hu15, hu16]
  generalize f k o = g
  clear * -
  fin_cases ky <;> fin_cases kx <;> fin_cases r <;> fin_cases s <;> rfl

end Vq
-- ==== Proof.KHostsB.lean ====
module
public import proofs.«01_k».proof.Proof.Gen.KernelIdeal.Frame
public import proofs.«01_k».proof.Proof.Spec
public import proofs.«01_k».proof.Proof.Scatter
public import Idealize.ShloMosaic.Lib.Pointwise
public import Idealize.ShloMosaic.Lib.ValueIdx
public import Idealize.ShloMosaic.Lib.StableHlo.ReadAt

/-! # The tables the transposed convolutions enter with -/

@[expose] public section
set_option maxRecDepth 16384
set_option maxHeartbeats 2000000
noncomputable section
namespace Cert.KernelIdeal.Gen
open Idealize.ShloMosaic Idealize.ShloMosaic.TcCoe
open Idealize.ShloMosaic.StableHlo
open Vq

variable (V : Valuation τ sig (Elt Ideal))

/-- The first transposed convolution's table holds the sixteen taps, each at its cell. -/
theorem e8_1 (w : Fin 128 → Fin 128 → Fin 4 → Fin 4 → EReal)
    (hw : ∀ k o ky kx, (V main_arg26 : Vec Ideal S128x128x4x4 .f32) (ix4 k o ky kx) = w k o ky kx) (ky kx : Fin 3) (k : Fin 128) (o : Fin 512) :
    (after hostOps8_2 (after hostOps8_1 (after hostOps8 V)) main_v199 : Vec Ideal S3x3x128x512 .f32) (ix4 ky kx k o : S3x3x128x512.Idx)
      = wsel (w k ⟨o.val % 128, Nat.mod_lt _ (by decide)⟩) (o.val / 128 / 2) (o.val / 128 % 2) ky kx := by
  after_reads_at
  refine Eq.trans (table scatter_S3x3x128x2x2x128_S4_S128x128_01_0134_0134_0 rfl rfl rfl rfl w (fun _ => Ideal.ofBits_zero .f32)
    ?_ (fun _ _ => hw _ _ _ _) ?_ (fun _ _ => hw _ _ _ _) ?_ (fun _ _ => hw _ _ _ _) ?_ (fun _ _ => hw _ _ _ _)
    ?_ (fun _ _ => hw _ _ _ _) ?_ (fun _ _ => hw _ _ _ _) ?_ (fun _ _ => hw _ _ _ _) ?_ (fun _ _ => hw _ _ _ _)
    ?_ (fun _ _ => hw _ _ _ _) ?_ (fun _ _ => hw _ _ _ _) ?_ (fun _ _ => hw _ _ _ _) ?_ (fun _ _ => hw _ _ _ _)
    ?_ (fun _ _ => hw _ _ _ _) ?_ (fun _ _ => hw _ _ _ _) ?_ (fun _ _ => hw _ _ _ _) ?_ (fun _ _ => hw _ _ _ _) _ _ _ _ _ _) ?_
  on_goal 17 =>
    refine congrArg (fun q => wsel (w k ⟨o.val % 128, Nat.mod_lt _ (by decide)⟩) q (o.val / 128 % 2) ky kx) ?_
    show o.val / 256 = o.val / 128 / 2
    omega
  all_goals
    refine ⟨?_, ?_, ?_, ?_⟩ <;> after_reads_at <;> rfl

/-- The second transposed convolution's table holds the sixteen taps, each at its cell. -/
theorem e9_1 (w : Fin 128 → Fin 3 → Fin 4 → Fin 4 → EReal)
    (hw : ∀ k o ky kx, (V main_arg28 : Vec Ideal S128x3x4x4 .f32) (ix4 k o ky kx) = w k o ky kx) (ky kx : Fin 3) (k : Fin 128) (o : Fin 12) :
    (after hostOps9_2 (after hostOps9_1 (after hostOps9 V)) main_v348 : Vec Ideal S3x3x128x12 .f32) (ix4 ky kx k o : S3x3x128x12.Idx)
      = wsel (w k ⟨o.val % 3, Nat.mod_lt _ (by decide)⟩) (o.val / 3 / 2) (o.val / 3 % 2) ky kx := by
  after_reads_at
  refine Eq.trans (table scatter_S3x3x128x2x2x3_S4_S128x3_01_0134_0134_0 rfl rfl rfl rfl w (fun _ => Ideal.ofBits_zero .f32)
    ?_ (fun _ _ => hw _ _ _ _) ?_ (fun _ _ => hw _ _ _ _) ?_ (fun _ _ => hw _ _ _ _) ?_ (fun _ _ => hw _ _ _ _)
    ?_ (fun _ _ => hw _ _ _ _) ?_ (fun _ _ => hw _ _ _ _) ?_ (fun _ _ => hw _ _ _ _) ?_ (fun _ _ => hw _ _ _ _)
    ?_ (fun _ _ => hw _ _ _ _) ?_ (fun _ _ => hw _ _ _ _) ?_ (fun _ _ => hw _ _ _ _) ?_ (fun _ _ => hw _ _ _ _)
    ?_ (fun _ _ => hw _ _ _ _) ?_ (fun _ _ => hw _ _ _ _) ?_ (fun _ _ => hw _ _ _ _) ?_ (fun _ _ => hw _ _ _ _) _ _ _ _ _ _) ?_
  on_goal 17 =>
    refine congrArg (fun q => wsel (w k ⟨o.val % 3, Nat.mod_lt _ (by decide)⟩) q (o.val / 3 % 2) ky kx) ?_
    show o.val / 6 = o.val / 3 / 2
    omega
  all_goals
    refine ⟨?_, ?_, ?_, ?_⟩ <;> after_reads_at <;> rfl

end Cert.KernelIdeal.Gen
end
-- ==== Proof.KRes.lean ====
module
public import proofs.«01_k».proof.Proof.Gen.KernelIdeal.Frame
public import proofs.«01_k».proof.Proof.Blocks

/-! # The residual regions

What each of the four residual regions leaves in its output array, as the residual block of `Vq.res`. -/

@[expose] public section
set_option maxRecDepth 16384
set_option maxHeartbeats 2000000
noncomputable section
namespace Cert.KernelIdeal.Gen
open Idealize.ShloMosaic Idealize.ShloMosaic.TcCoe
open Idealize.ShloMosaic.Pipeline (Dat Cfg Window)
open Vq

variable {f : Fin 128 → Fin 64 → Fin 64 → EReal} {w3 : Fin 128 → Fin 128 → Fin 3 → Fin 3 → EReal} {b3 : Fin 128 → EReal}
   {w1 : Fin 128 → Fin 128 → EReal} {b1 : Fin 128 → EReal}

theorem k2_pay_val (p : Fin 3 → Fin 3 → Vec Ideal S1x64x64x128 .f32) (q : Fin 3 → Fin 3 → Vec Ideal S1x1x128x128 .f32)
   (x2 : Vec Ideal S1x128 .f32) (x3 : Vec Ideal S128x128 .f32) (x4 : Vec Ideal S1x128 .f32)
   (hp : ∀ ky kx (i j : Fin 64) k, p ky kx (ix4 0 i j k) = pad1 (f k) (i + ky) (j + kx))
   (hq : ∀ ky kx (k o : Fin 128), q ky kx (ix4 0 0 k o) = w3 o k ky kx)
   (h2 : ∀ (k : Fin 128), x2 (ix2 0 k) = b3 k)
   (h3 : ∀ (k o : Fin 128), x3 (ix2 k o) = w1 o k)
   (h4 : ∀ (k : Fin 128), x4 (ix2 0 k) = b1 k) (i j : Fin 64) (o : Fin 128) :
   k2_pay1 (k2_pay5 (k2_pay3 (k2_pay2 (p 0 0) (q 0 0) (p 0 1) (q 0 1) (p 0 2) (q 0 2)) (p 1 0) (q 1 0) (p 1 1) (q 1 1) (p 1 2) (q 1 2))
     (k2_pay4 (p 2 0)) (q 2 0) (p 2 1) (q 2 1) (p 2 2) (q 2 2) x2) x3 x4 (p 1 1) (ix4 0 i j o) = res f w3 b3 w1 b1 o i j := by
  simp only [k2_pay1, k2_pay2, k2_pay3, k2_pay4, k2_pay5, pointwise]
  simp only [hp, hq, h2, h3, h4, zero_add, dite_true, ↓reduceDIte, OfNat.ofNat_ne_one]
  have h11 : pad1 (f o) (i + ((1 : Fin 3) : ℕ)) (j + ((1 : Fin 3) : ℕ)) = f o i j := by
    rw [← pad1_succ (f o) i j]
    congr 1 <;> exact Nat.add_comm _ _
  rw [h11]
  simp only [show ∀ (f : Fin 64 → Fin 64 → EReal) (u v : ℕ), max (pad1 f u v) 0 = pad1 (fun i j => relu (f i j)) u v from pad1_relu]
  rfl

/-- One block of a residual region: what the body leaves in the output block. -/
theorem out2_val (x0 : Vec Ideal S1x66x66x128 .f32) (x1 : Vec Ideal S3x3x128x128 .f32) (x2 : Vec Ideal S1x128 .f32)
    (x3 : Vec Ideal S128x128 .f32) (x4 : Vec Ideal S1x128 .f32)
    (h0 : ∀ (u v : Fin 66) k, x0 (ix4 0 u v k) = pad1 (f k) u v)
    (h1 : ∀ ky kx k o, x1 (ix4 ky kx k o) = w3 o k ky kx)
    (h2 : ∀ k, x2 (ix2 0 k) = b3 k) (h3 : ∀ k o, x3 (ix2 k o) = w1 o k) (h4 : ∀ k, x4 (ix2 0 k) = b1 k)
    (i j : Fin 64) (o : Fin 128) :
    out2_5 x0 x1 x2 x3 x4 (ix4 0 i j o) = res f w3 b3 w1 b1 o i j := by
  unfold out2_5
  rw [View.canon_unit_zero hz4]
  simp only [View.ld_unit_zero (S := S1x128) hz2, View.ld_unit_zero (S := S128x128) hz2]
  refine k2_pay_val ![![View.ld x0 r2_0, View.ld x0 r2_2, View.ld x0 r2_4], ![View.ld x0 r2_6, View.ld x0 r2_8, View.ld x0 r2_10],
      ![View.ld x0 r2_12, View.ld x0 r2_14, View.ld x0 r2_16]]
    ![![View.ld x1 r2_1, View.ld x1 r2_3, View.ld x1 r2_5], ![View.ld x1 r2_7, View.ld x1 r2_9, View.ld x1 r2_11],
      ![View.ld x1 r2_13, View.ld x1 r2_15, View.ld x1 r2_17]] x2 x3 x4 ?_ ?_ h2 h3 h4 i j o
  · intro ky kx i j k
    fin_cases ky <;> fin_cases kx <;> exact ld_pad h0 _ i j k
  · intro ky kx k o
    fin_cases ky <;> fin_cases kx <;> exact (ld_mat x1 _ k o).trans (h1 _ _ _ _)

variable (V : (c : Dev nD) → (b : Ref sig .tc) → Buf (Elt Ideal) ((c : Thread nD τ).loc b))

theorem idx2 : ∀ t : Fin grid2.N, win2_0.index t = ![t.val, 0, 0, 0] ∧ win2_1.index t = ![0, 0, 0, 0] ∧ win2_2.index t = ![0, 0] ∧
    win2_3.index t = ![0, 0] ∧ win2_4.index t = ![0, 0] ∧ win2_5.index t = ![t.val, 0, 0, 0] := by decide +kernel

theorem arr2 (c : Dev nD) (f : Fin 32 → Fin 128 → Fin 64 → Fin 64 → EReal)
    (h0 : ∀ b (u v : Fin 66) k, V c (Pipeline.arrRef spec2 0) (ix4 b u v k : S32x66x66x128.Idx) = pad1 (f b k) u v)
    (h1 : ∀ ky kx k o, V c (Pipeline.arrRef spec2 1) (ix4 ky kx k o : S3x3x128x128.Idx) = w3 o k ky kx)
    (h2 : ∀ k, V c (Pipeline.arrRef spec2 2) (ix2 0 k : S1x128.Idx) = b3 k)
    (h3 : ∀ k o, V c (Pipeline.arrRef spec2 3) (ix2 k o : S128x128.Idx) = w1 o k)
    (h4 : ∀ k, V c (Pipeline.arrRef spec2 4) (ix2 0 k : S1x128.Idx) = b1 k) :
    (dat2 V c).arrAt 5 cfg2.N = fun y : S32x64x64x128.Idx => res (f (y 0)) w3 b3 w1 b1 (y 3) (y 1) (y 2) := by
  refine (dat2 V c).arrAt_eq_of_covers 5 _ (by decide +kernel) fun t hf y => ?_
  blk_simp
  rw [after2_5]
  obtain ⟨e0, e1, e2, e3, e4, e5⟩ := idx2 t
  have hy : (y 0).val < 1 := (y 0).isLt
  have ey : (win2_5.blk t).view.emb y = (ix4 t (y 1) (y 2) (y 3) : S32x64x64x128.Idx) :=
    funext fun a => Fin.ext ((win2_5.rect_emb_val t y a).trans (by
      rw [e5]
      match a with
      | ⟨0, _⟩ => show t.val * 1 + (y 0).val = t.val; omega
      | ⟨1, _⟩ => exact (congrArg (· + (y 1).val) (Nat.zero_mul 64)).trans (Nat.zero_add _)
      | ⟨2, _⟩ => exact (congrArg (· + (y 2).val) (Nat.zero_mul 64)).trans (Nat.zero_add _)
      | ⟨3, _⟩ => exact (congrArg (· + (y 3).val) (Nat.zero_mul 128)).trans (Nat.zero_add _)))
  rw [ey]
  rw [show y = ix4 0 (y 1) (y 2) (y 3) from funext fun a => match a with
    | ⟨0, _⟩ => Fin.ext (by show (y 0).val = 0; omega) | ⟨1, _⟩ => rfl | ⟨2, _⟩ => rfl | ⟨3, _⟩ => rfl]
  refine out2_val _ _ _ _ _ (fun u v k => ?_) (fun u v k o => ?_) (fun k => ?_) (fun k o => ?_) (fun k => ?_) _ _ _
  · refine Eq.trans (congrArg (V c (Pipeline.arrRef spec2 0)) (funext fun a => Fin.ext ((win2_0.rect_emb_val t _ a).trans ?_))) (h0 t u v k)
    rw [e0]
    match a with
    | ⟨0, _⟩ => exact Nat.mul_one _
    | ⟨1, _⟩ => exact (congrArg (· + u.val) (Nat.zero_mul 66)).trans (Nat.zero_add _)
    | ⟨2, _⟩ => exact (congrArg (· + v.val) (Nat.zero_mul 66)).trans (Nat.zero_add _)
    | ⟨3, _⟩ => exact (congrArg (· + k.val) (Nat.zero_mul 128)).trans (Nat.zero_add _)
  · exact (congrArg (V c (Pipeline.arrRef spec2 1)) (funext fun a => Fin.ext (win2_1.rect_emb_val_of_index_zero t a ((congrFun e1 a).trans (zero4 a)) _))).trans (h1 u v k o)
  · exact (congrArg (V c (Pipeline.arrRef spec2 2)) (funext fun a => Fin.ext (win2_2.rect_emb_val_of_index_zero t a ((congrFun e2 a).trans (zero2 a)) _))).trans (h2 k)
  · exact (congrArg (V c (Pipeline.arrRef spec2 3)) (funext fun a => Fin.ext (win2_3.rect_emb_val_of_index_zero t a ((congrFun e3 a).trans (zero2 a)) _))).trans (h3 k o)
  · exact (congrArg (V c (Pipeline.arrRef spec2 4)) (funext fun a => Fin.ext (win2_4.rect_emb_val_of_index_zero t a ((congrFun e4 a).trans (zero2 a)) _))).trans (h4 k)

/-- The same body as the first residual region's. -/
theorem out3_eq (x0 : Vec Ideal S1x66x66x128 .f32) (x1 : Vec Ideal S3x3x128x128 .f32) (x2 : Vec Ideal S1x128 .f32)
    (x3 : Vec Ideal S128x128 .f32) (x4 : Vec Ideal S1x128 .f32) : out3_5 x0 x1 x2 x3 x4 = out2_5 x0 x1 x2 x3 x4 := rfl

theorem idx3 : ∀ t : Fin grid3.N, win3_0.index t = ![t.val, 0, 0, 0] ∧ win3_1.index t = ![0, 0, 0, 0] ∧ win3_2.index t = ![0, 0] ∧
    win3_3.index t = ![0, 0] ∧ win3_4.index t = ![0, 0] ∧ win3_5.index t = ![t.val, 0, 0, 0] := by decide +kernel

theorem arr3 (c : Dev nD) (f : Fin 32 → Fin 128 → Fin 64 → Fin 64 → EReal)
    (h0 : ∀ b (u v : Fin 66) k, V c (Pipeline.arrRef spec3 0) (ix4 b u v k : S32x66x66x128.Idx) = pad1 (f b k) u v)
    (h1 : ∀ ky kx k o, V c (Pipeline.arrRef spec3 1) (ix4 ky kx k o : S3x3x128x128.Idx) = w3 o k ky kx)
    (h2 : ∀ k, V c (Pipeline.arrRef spec3 2) (ix2 0 k : S1x128.Idx) = b3 k)
    (h3 : ∀ k o, V c (Pipeline.arrRef spec3 3) (ix2 k o : S128x128.Idx) = w1 o k)
    (h4 : ∀ k, V c (Pipeline.arrRef spec3 4) (ix2 0 k : S1x128.Idx) = b1 k) :
    (dat3 V c).arrAt 5 cfg3.N = fun y : S32x64x64x128.Idx => res (f (y 0)) w3 b3 w1 b1 (y 3) (y 1) (y 2) := by
  refine (dat3 V c).arrAt_eq_of_covers 5 _ (by decide +kernel) fun t hf y => ?_
  blk_simp
  rw [after3_5]
  obtain ⟨e0, e1, e2, e3, e4, e5⟩ := idx3 t
  have hy : (y 0).val < 1 := (y 0).isLt
  have ey : (win3_5.blk t).view.emb y = (ix4 t (y 1) (y 2) (y 3) : S32x64x64x128.Idx) :=
    funext fun a => Fin.ext ((win3_5.rect_emb_val t y a).trans (by
      rw [e5]
      match a with
      | ⟨0, _⟩ => show t.val * 1 + (y 0).val = t.val; omega
      | ⟨1, _⟩ => exact (congrArg (· + (y 1).val) (Nat.zero_mul 64)).trans (Nat.zero_add _)
      | ⟨2, _⟩ => exact (congrArg (· + (y 2).val) (Nat.zero_mul 64)).trans (Nat.zero_add _)
      | ⟨3, _⟩ => exact (congrArg (· + (y 3).val) (Nat.zero_mul 128)).trans (Nat.zero_add _)))
  rw [ey]
  rw [show y = ix4 0 (y 1) (y 2) (y 3) from funext fun a => match a with
    | ⟨0, _⟩ => Fin.ext (by show (y 0).val = 0; omega) | ⟨1, _⟩ => rfl | ⟨2, _⟩ => rfl | ⟨3, _⟩ => rfl]
  refine Eq.trans (congrFun (out3_eq _ _ _ _ _) _) ?_
  refine out2_val _ _ _ _ _ (fun u v k => ?_) (fun u v k o => ?_) (fun k => ?_) (fun k o => ?_) (fun k => ?_) _ _ _
  · refine Eq.trans (congrArg (V c (Pipeline.arrRef spec3 0)) (funext fun a => Fin.ext ((win3_0.rect_emb_val t _ a).trans ?_))) (h0 t u v k)
    rw [e0]
    match a with
    | ⟨0, _⟩ => exact Nat.mul_one _
    | ⟨1, _⟩ => exact (congrArg (· + u.val) (Nat.zero_mul 66)).trans (Nat.zero_add _)
    | ⟨2, _⟩ => exact (congrArg (· + v.val) (Nat.zero_mul 66)).trans (Nat.zero_add _)
    | ⟨3, _⟩ => exact (congrArg (· + k.val) (Nat.zero_mul 128)).trans (Nat.zero_add _)
  · exact (congrArg (V c (Pipeline.arrRef spec3 1)) (funext fun a => Fin.ext (win3_1.rect_emb_val_of_index_zero t a ((congrFun e1 a).trans (zero4 a)) _))).trans (h1 u v k o)
  · exact (congrArg (V c (Pipeline.arrRef spec3 2)) (funext fun a => Fin.ext (win3_2.rect_emb_val_of_index_zero t a ((congrFun e2 a).trans (zero2 a)) _))).trans (h2 k)
  · exact (congrArg (V c (Pipeline.arrRef spec3 3)) (funext fun a => Fin.ext (win3_3.rect_emb_val_of_index_zero t a ((congrFun e3 a).trans (zero2 a)) _))).trans (h3 k o)
  · exact (congrArg (V c (Pipeline.arrRef spec3 4)) (funext fun a => Fin.ext (win3_4.rect_emb_val_of_index_zero t a ((congrFun e4 a).trans (zero2 a)) _))).trans (h4 k)

/-- The same body as the first residual region's. -/
theorem out6_eq (x0 : Vec Ideal S1x66x66x128 .f32) (x1 : Vec Ideal S3x3x128x128 .f32) (x2 : Vec Ideal S1x128 .f32)
    (x3 : Vec Ideal S128x128 .f32) (x4 : Vec Ideal S1x128 .f32) : out6_5 x0 x1 x2 x3 x4 = out2_5 x0 x1 x2 x3 x4 := rfl

theorem idx6 : ∀ t : Fin grid6.N, win6_0.index t = ![t.val, 0, 0, 0] ∧ win6_1.index t = ![0, 0, 0, 0] ∧ win6_2.index t = ![0, 0] ∧
    win6_3.index t = ![0, 0] ∧ win6_4.index t = ![0, 0] ∧ win6_5.index t = ![t.val, 0, 0, 0] := by decide +kernel

theorem arr6 (c : Dev nD) (f : Fin 32 → Fin 128 → Fin 64 → Fin 64 → EReal)
    (h0 : ∀ b (u v : Fin 66) k, V c (Pipeline.arrRef spec6 0) (ix4 b u v k : S32x66x66x128.Idx) = pad1 (f b k) u v)
    (h1 : ∀ ky kx k o, V c (Pipeline.arrRef spec6 1) (ix4 ky kx k o : S3x3x128x128.Idx) = w3 o k ky kx)
    (h2 : ∀ k, V c (Pipeline.arrRef spec6 2) (ix2 0 k : S1x128.Idx) = b3 k)
    (h3 : ∀ k o, V c (Pipeline.arrRef spec6 3) (ix2 k o : S128x128.Idx) = w1 o k)
    (h4 : ∀ k, V c (Pipeline.arrRef spec6 4) (ix2 0 k : S1x128.Idx) = b1 k) :
    (dat6 V c).arrAt 5 cfg6.N = fun y : S32x64x64x128.Idx => res (f (y 0)) w3 b3 w1 b1 (y 3) (y 1) (y 2) := by
  refine (dat6 V c).arrAt_eq_of_covers 5 _ (by decide +kernel) fun t hf y => ?_
  blk_simp
  rw [after6_5]
  obtain ⟨e0, e1, e2, e3, e4, e5⟩ := idx6 t
  have hy : (y 0).val < 1 := (y 0).isLt
  have ey : (win6_5.blk t).view.emb y = (ix4 t (y 1) (y 2) (y 3) : S32x64x64x128.Idx) :=
    funext fun a => Fin.ext ((win6_5.rect_emb_val t y a).trans (by
      rw [e5]
      match a with
      | ⟨0, _⟩ => show t.val * 1 + (y 0).val = t.val; omega
      | ⟨1, _⟩ => exact (congrArg (· + (y 1).val) (Nat.zero_mul 64)).trans (Nat.zero_add _)
      | ⟨2, _⟩ => exact (congrArg (· + (y 2).val) (Nat.zero_mul 64)).trans (Nat.zero_add _)
      | ⟨3, _⟩ => exact (congrArg (· + (y 3).val) (Nat.zero_mul 128)).trans (Nat.zero_add _)))
  rw [ey]
  rw [show y = ix4 0 (y 1) (y 2) (y 3) from funext fun a => match a with
    | ⟨0, _⟩ => Fin.ext (by show (y 0).val = 0; omega) | ⟨1, _⟩ => rfl | ⟨2, _⟩ => rfl | ⟨3, _⟩ => rfl]
  refine Eq.trans (congrFun (out6_eq _ _ _ _ _) _) ?_
  refine out2_val _ _ _ _ _ (fun u v k => ?_) (fun u v k o => ?_) (fun k => ?_) (fun k o => ?_) (fun k => ?_) _ _ _
  · refine Eq.trans (congrArg (V c (Pipeline.arrRef spec6 0)) (funext fun a => Fin.ext ((win6_0.rect_emb_val t _ a).trans ?_))) (h0 t u v k)
    rw [e0]
    match a with
    | ⟨0, _⟩ => exact Nat.mul_one _
    | ⟨1, _⟩ => exact (congrArg (· + u.val) (Nat.zero_mul 66)).trans (Nat.zero_add _)
    | ⟨2, _⟩ => exact (congrArg (· + v.val) (Nat.zero_mul 66)).trans (Nat.zero_add _)
    | ⟨3, _⟩ => exact (congrArg (· + k.val) (Nat.zero_mul 128)).trans (Nat.zero_add _)
  · exact (congrArg (V c (Pipeline.arrRef spec6 1)) (funext fun a => Fin.ext (win6_1.rect_emb_val_of_index_zero t a ((congrFun e1 a).trans (zero4 a)) _))).trans (h1 u v k o)
  · exact (congrArg (V c (Pipeline.arrRef spec6 2)) (funext fun a => Fin.ext (win6_2.rect_emb_val_of_index_zero t a ((congrFun e2 a).trans (zero2 a)) _))).trans (h2 k)
  · exact (congrArg (V c (Pipeline.arrRef spec6 3)) (funext fun a => Fin.ext (win6_3.rect_emb_val_of_index_zero t a ((congrFun e3 a).trans (zero2 a)) _))).trans (h3 k o)
  · exact (congrArg (V c (Pipeline.arrRef spec6 4)) (funext fun a => Fin.ext (win6_4.rect_emb_val_of_index_zero t a ((congrFun e4 a).trans (zero2 a)) _))).trans (h4 k)

/-- The same body as the first residual region's. -/
theorem out7_eq (x0 : Vec Ideal S1x66x66x128 .f32) (x1 : Vec Ideal S3x3x128x128 .f32) (x2 : Vec Ideal S1x128 .f32)
    (x3 : Vec Ideal S128x128 .f32) (x4 : Vec Ideal S1x128 .f32) : out7_5 x0 x1 x2 x3 x4 = out2_5 x0 x1 x2 x3 x4 := rfl

theorem idx7 : ∀ t : Fin grid7.N, win7_0.index t = ![t.val, 0, 0, 0] ∧ win7_1.index t = ![0, 0, 0, 0] ∧ win7_2.index t = ![0, 0] ∧
    win7_3.index t = ![0, 0] ∧ win7_4.index t = ![0, 0] ∧ win7_5.index t = ![t.val, 0, 0, 0] := by decide +kernel

theorem arr7 (c : Dev nD) (f : Fin 32 → Fin 128 → Fin 64 → Fin 64 → EReal)
    (h0 : ∀ b (u v : Fin 66) k, V c (Pipeline.arrRef spec7 0) (ix4 b u v k : S32x66x66x128.Idx) = pad1 (f b k) u v)
    (h1 : ∀ ky kx k o, V c (Pipeline.arrRef spec7 1) (ix4 ky kx k o : S3x3x128x128.Idx) = w3 o k ky kx)
    (h2 : ∀ k, V c (Pipeline.arrRef spec7 2) (ix2 0 k : S1x128.Idx) = b3 k)
    (h3 : ∀ k o, V c (Pipeline.arrRef spec7 3) (ix2 k o : S128x128.Idx) = w1 o k)
    (h4 : ∀ k, V c (Pipeline.arrRef spec7 4) (ix2 0 k : S1x128.Idx) = b1 k) :
    (dat7 V c).arrAt 5 cfg7.N = fun y : S32x64x64x128.Idx => res (f (y 0)) w3 b3 w1 b1 (y 3) (y 1) (y 2) := by
  refine (dat7 V c).arrAt_eq_of_covers 5 _ (by decide +kernel) fun t hf y => ?_
  blk_simp
  rw [after7_5]
  obtain ⟨e0, e1, e2, e3, e4, e5⟩ := idx7 t
  have hy : (y 0).val < 1 := (y 0).isLt
  have ey : (win7_5.blk t).view.emb y = (ix4 t (y 1) (y 2) (y 3) : S32x64x64x128.Idx) :=
    funext fun a => Fin.ext ((win7_5.rect_emb_val t y a).trans (by
      rw [e5]
      match a with
      | ⟨0, _⟩ => show t.val * 1 + (y 0).val = t.val; omega
      | ⟨1, _⟩ => exact (congrArg (· + (y 1).val) (Nat.zero_mul 64)).trans (Nat.zero_add _)
      | ⟨2, _⟩ => exact (congrArg (· + (y 2).val) (Nat.zero_mul 64)).trans (Nat.zero_add _)
      | ⟨3, _⟩ => exact (congrArg (· + (y 3).val) (Nat.zero_mul 128)).trans (Nat.zero_add _)))
  rw [ey]
  rw [show y = ix4 0 (y 1) (y 2) (y 3) from funext fun a => match a with
    | ⟨0, _⟩ => Fin.ext (by show (y 0).val = 0; omega) | ⟨1, _⟩ => rfl | ⟨2, _⟩ => rfl | ⟨3, _⟩ => rfl]
  refine Eq.trans (congrFun (out7_eq _ _ _ _ _) _) ?_
  refine out2_val _ _ _ _ _ (fun u v k => ?_) (fun u v k o => ?_) (fun k => ?_) (fun k o => ?_) (fun k => ?_) _ _ _
  · refine Eq.trans (congrArg (V c (Pipeline.arrRef spec7 0)) (funext fun a => Fin.ext ((win7_0.rect_emb_val t _ a).trans ?_))) (h0 t u v k)
    rw [e0]
    match a with
    | ⟨0, _⟩ => exact Nat.mul_one _
    | ⟨1, _⟩ => exact (congrArg (· + u.val) (Nat.zero_mul 66)).trans (Nat.zero_add _)
    | ⟨2, _⟩ => exact (congrArg (· + v.val) (Nat.zero_mul 66)).trans (Nat.zero_add _)
    | ⟨3, _⟩ => exact (congrArg (· + k.val) (Nat.zero_mul 128)).trans (Nat.zero_add _)
  · exact (congrArg (V c (Pipeline.arrRef spec7 1)) (funext fun a => Fin.ext (win7_1.rect_emb_val_of_index_zero t a ((congrFun e1 a).trans (zero4 a)) _))).trans (h1 u v k o)
  · exact (congrArg (V c (Pipeline.arrRef spec7 2)) (funext fun a => Fin.ext (win7_2.rect_emb_val_of_index_zero t a ((congrFun e2 a).trans (zero2 a)) _))).trans (h2 k)
  · exact (congrArg (V c (Pipeline.arrRef spec7 3)) (funext fun a => Fin.ext (win7_3.rect_emb_val_of_index_zero t a ((congrFun e3 a).trans (zero2 a)) _))).trans (h3 k o)
  · exact (congrArg (V c (Pipeline.arrRef spec7 4)) (funext fun a => Fin.ext (win7_4.rect_emb_val_of_index_zero t a ((congrFun e4 a).trans (zero2 a)) _))).trans (h4 k)

end Cert.KernelIdeal.Gen
end
-- ==== Proof.KConv.lean ====
module
public import proofs.«01_k».proof.Proof.Gen.KernelIdeal.Frame
public import proofs.«01_k».proof.Proof.Blocks
public import proofs.«01_k».proof.Proof.Sums

/-! # The strided convolution regions -/

@[expose] public section
set_option maxRecDepth 16384
set_option maxHeartbeats 2000000
noncomputable section
namespace Cert.KernelIdeal.Gen
open Idealize.ShloMosaic Idealize.ShloMosaic.TcCoe
open Idealize.ShloMosaic.Pipeline (Dat Cfg Window)
open Vq

section R0
variable {f : Fin 3 → Fin 256 → Fin 256 → EReal} {w : Fin 128 → Fin 3 → Fin 4 → Fin 4 → EReal} {b : Fin 128 → EReal}

/-- One block of region 0: the strided convolution of the block's image. -/
theorem out0_val (x0 : Vec Ideal S1x129x129x12 .f32) (x1 : Vec Ideal S2x2x12x128 .f32) (x2 : Vec Ideal S1x128 .f32)
    (h0 : ∀ (u v : Fin 129) (k : Fin 12), x0 (ix4 0 u v k) = pad1 (f ⟨k.val % 3, Nat.mod_lt _ (by decide)⟩) (2 * u + k.val / 3 / 2) (2 * v + k.val / 3 % 2))
    (h1 : ∀ (da db : Fin 2) (k : Fin 12) (o : Fin 128), x1 (ix4 da db k o) = w o ⟨k.val % 3, Nat.mod_lt _ (by decide)⟩
      ⟨2 * da + k.val / 3 / 2, by omega⟩ ⟨2 * db + k.val / 3 % 2, by omega⟩)
    (h2 : ∀ k, x2 (ix2 0 k) = b k) (i j : Fin 128) (o : Fin 128) :
    out0_3 x0 x1 x2 (ix4 0 i j o) = conv4 f w b o i j := by
  have hp0 : ∀ (i j : Fin 128) k, View.ld x0 r0_0 (ix4 0 i j k) = _ := fun i j k => ld_pad (P := fun k u v => pad1 (f ⟨k.val % 3, Nat.mod_lt _ (by decide)⟩) (2 * u + k.val / 3 / 2) (2 * v + k.val / 3 % 2)) h0 _ i j k
  have hp1 : ∀ (i j : Fin 128) k, View.ld x0 r0_2 (ix4 0 i j k) = _ := fun i j k => ld_pad (P := fun k u v => pad1 (f ⟨k.val % 3, Nat.mod_lt _ (by decide)⟩) (2 * u + k.val / 3 / 2) (2 * v + k.val / 3 % 2)) h0 _ i j k
  have hp2 : ∀ (i j : Fin 128) k, View.ld x0 r0_4 (ix4 0 i j k) = _ := fun i j k => ld_pad (P := fun k u v => pad1 (f ⟨k.val % 3, Nat.mod_lt _ (by decide)⟩) (2 * u + k.val / 3 / 2) (2 * v + k.val / 3 % 2)) h0 _ i j k
  have hp3 : ∀ (i j : Fin 128) k, View.ld x0 r0_6 (ix4 0 i j k) = _ := fun i j k => ld_pad (P := fun k u v => pad1 (f ⟨k.val % 3, Nat.mod_lt _ (by decide)⟩) (2 * u + k.val / 3 / 2) (2 * v + k.val / 3 % 2)) h0 _ i j k
  have hq0 : ∀ k o, View.ld x1 r0_1 (ix4 0 0 k o) = _ := fun k o => (ld_mat x1 _ k o).trans (h1 0 0 k o)
  have hq1 : ∀ k o, View.ld x1 r0_3 (ix4 0 0 k o) = _ := fun k o => (ld_mat x1 _ k o).trans (h1 0 1 k o)
  have hq2 : ∀ k o, View.ld x1 r0_5 (ix4 0 0 k o) = _ := fun k o => (ld_mat x1 _ k o).trans (h1 1 0 k o)
  have hq3 : ∀ k o, View.ld x1 r0_7 (ix4 0 0 k o) = _ := fun k o => (ld_mat x1 _ k o).trans (h1 1 1 k o)
  unfold out0_3
  rw [View.canon_unit_zero hz4]
  simp only [View.ld_unit_zero (S := S1x128) hz2]
  generalize View.ld x0 r0_0 = p0 at *
  generalize View.ld x0 r0_2 = p1 at *
  generalize View.ld x0 r0_4 = p2 at *
  generalize View.ld x0 r0_6 = p3 at *
  generalize View.ld x1 r0_1 = q0 at *
  generalize View.ld x1 r0_3 = q1 at *
  generalize View.ld x1 r0_5 = q2 at *
  generalize View.ld x1 r0_7 = q3 at *
  rw [← conv4_core (n := 12) rfl (by decide) ![![fun k => p0 (ix4 0 i j k), fun k => p1 (ix4 0 i j k)], ![fun k => p2 (ix4 0 i j k), fun k => p3 (ix4 0 i j k)]]
    ![![fun k => q0 (ix4 0 0 k o), fun k => q1 (ix4 0 0 k o)], ![fun k => q2 (ix4 0 0 k o), fun k => q3 (ix4 0 0 k o)]] o i j
    (fun da db k => by fin_cases da <;> fin_cases db; exacts [hp0 i j k, hp1 i j k, hp2 i j k, hp3 i j k])
    (fun da db k => by fin_cases da <;> fin_cases db; exacts [hq0 k o, hq1 k o, hq2 k o, hq3 k o])]
  simp only [k0_pay1, k0_pay2, k0_pay3, pointwise]
  simp only [h2, zero_add, dite_true, ↓reduceDIte, OfNat.ofNat_ne_one]
  rfl
end R0

section R1
variable {f : Fin 128 → Fin 128 → Fin 128 → EReal} {w : Fin 128 → Fin 128 → Fin 4 → Fin 4 → EReal} {b : Fin 128 → EReal}

/-- One block of region 1: the strided convolution of the block's image. -/
theorem out1_val (x0 : Vec Ideal S1x65x65x512 .f32) (x1 : Vec Ideal S2x2x512x128 .f32) (x2 : Vec Ideal S1x128 .f32)
    (h0 : ∀ (u v : Fin 65) (k : Fin 512), x0 (ix4 0 u v k) = pad1 (f ⟨k.val % 128, Nat.mod_lt _ (by decide)⟩) (2 * u + k.val / 128 / 2) (2 * v + k.val / 128 % 2))
    (h1 : ∀ (da db : Fin 2) (k : Fin 512) (o : Fin 128), x1 (ix4 da db k o) = w o ⟨k.val % 128, Nat.mod_lt _ (by decide)⟩
      ⟨2 * da + k.val / 128 / 2, by omega⟩ ⟨2 * db + k.val / 128 % 2, by omega⟩)
    (h2 : ∀ k, x2 (ix2 0 k) = b k) (i j : Fin 64) (o : Fin 128) :
    out1_3 x0 x1 x2 (ix4 0 i j o) = conv4 f w b o i j := by
  have hp0 : ∀ (i j : Fin 64) k, View.ld x0 r1_0 (ix4 0 i j k) = _ := fun i j k => ld_pad (P := fun k u v => pad1 (f ⟨k.val % 128, Nat.mod_lt _ (by decide)⟩) (2 * u + k.val / 128 / 2) (2 * v + k.val / 128 % 2)) h0 _ i j k
  have hp1 : ∀ (i j : Fin 64) k, View.ld x0 r1_2 (ix4 0 i j k) = _ := fun i j k => ld_pad (P := fun k u v => pad1 (f ⟨k.val % 128, Nat.mod_lt _ (by decide)⟩) (2 * u + k.val / 128 / 2) (2 * v + k.val / 128 % 2)) h0 _ i j k
  have hp2 : ∀ (i j : Fin 64) k, View.ld x0 r1_4 (ix4 0 i j k) = _ := fun i j k => ld_pad (P := fun k u v => pad1 (f ⟨k.val % 128, Nat.mod_lt _ (by decide)⟩) (2 * u + k.val / 128 / 2) (2 * v + k.val / 128 % 2)) h0 _ i j k
  have hp3 : ∀ (i j : Fin 64) k, View.ld x0 r1_6 (ix4 0 i j k) = _ := fun i j k => ld_pad (P := fun k u v => pad1 (f ⟨k.val % 128, Nat.mod_lt _ (by decide)⟩) (2 * u + k.val / 128 / 2) (2 * v + k.val / 128 % 2)) h0 _ i j k
  have hq0 : ∀ k o, View.ld x1 r1_1 (ix4 0 0 k o) = _ := fun k o => (ld_mat x1 _ k o).trans (h1 0 0 k o)
  have hq1 : ∀ k o, View.ld x1 r1_3 (ix4 0 0 k o) = _ := fun k o => (ld_mat x1 _ k o).trans (h1 0 1 k o)
  have hq2 : ∀ k o, View.ld x1 r1_5 (ix4 0 0 k o) = _ := fun k o => (ld_mat x1 _ k o).trans (h1 1 0 k o)
  have hq3 : ∀ k o, View.ld x1 r1_7 (ix4 0 0 k o) = _ := fun k o => (ld_mat x1 _ k o).trans (h1 1 1 k o)
  unfold out1_3
  rw [View.canon_unit_zero hz4]
  simp only [View.ld_unit_zero (S := S1x128) hz2]
  generalize View.ld x0 r1_0 = p0 at *
  generalize View.ld x0 r1_2 = p1 at *
  generalize View.ld x0 r1_4 = p2 at *
  generalize View.ld x0 r1_6 = p3 at *
  generalize View.ld x1 r1_1 = q0 at *
  generalize View.ld x1 r1_3 = q1 at *
  generalize View.ld x1 r1_5 = q2 at *
  generalize View.ld x1 r1_7 = q3 at *
  rw [← conv4_core (n := 512) rfl (by decide) ![![fun k => p0 (ix4 0 i j k), fun k => p1 (ix4 0 i j k)], ![fun k => p2 (ix4 0 i j k), fun k => p3 (ix4 0 i j k)]]
    ![![fun k => q0 (ix4 0 0 k o), fun k => q1 (ix4 0 0 k o)], ![fun k => q2 (ix4 0 0 k o), fun k => q3 (ix4 0 0 k o)]] o i j
    (fun da db k => by fin_cases da <;> fin_cases db; exacts [hp0 i j k, hp1 i j k, hp2 i j k, hp3 i j k])
    (fun da db k => by fin_cases da <;> fin_cases db; exacts [hq0 k o, hq1 k o, hq2 k o, hq3 k o])]
  simp only [k1_pay1, k1_pay2, k1_pay3, pointwise]
  simp only [h2, zero_add, dite_true, ↓reduceDIte, OfNat.ofNat_ne_one]
  rfl
end R1

end Cert.KernelIdeal.Gen
end
-- ==== Proof.KConvArr.lean ====
module
public import proofs.«01_k».proof.Proof.Gen.KernelIdeal.Frame
public import proofs.«01_k».proof.Proof.KConv

/-! # The strided convolution regions' arrays -/

@[expose] public section
set_option maxRecDepth 16384
set_option maxHeartbeats 2000000
noncomputable section
namespace Cert.KernelIdeal.Gen
open Idealize.ShloMosaic Idealize.ShloMosaic.TcCoe
open Idealize.ShloMosaic.Pipeline (Dat Cfg Window)
open Vq

variable (V : (c : Dev nD) → (b : Ref sig .tc) → Buf (Elt Ideal) ((c : Thread nD τ).loc b))

theorem idx0 : ∀ t : Fin grid0.N, win0_0.index t = ![t.val, 0, 0, 0] ∧ win0_1.index t = ![0, 0, 0, 0] ∧ win0_2.index t = ![0, 0] ∧ win0_3.index t = ![t.val, 0, 0, 0] := by decide +kernel

/-- What region 0 leaves: the rectified strided convolution of each item's image. -/
theorem arr0 (c : Dev nD) (f : Fin 32 → Fin 3 → Fin 256 → Fin 256 → EReal) {w : Fin 128 → Fin 3 → Fin 4 → Fin 4 → EReal} {bias : Fin 128 → EReal}
    (h0 : ∀ b (u v : Fin 129) (k : Fin 12), V c (Pipeline.arrRef spec0 0) (ix4 b u v k : S32x129x129x12.Idx)
      = pad1 (f b ⟨k.val % 3, Nat.mod_lt _ (by decide)⟩) (2 * u + k.val / 3 / 2) (2 * v + k.val / 3 % 2))
    (h1 : ∀ (da db : Fin 2) (k : Fin 12) (o : Fin 128), V c (Pipeline.arrRef spec0 1) (ix4 da db k o : S2x2x12x128.Idx) = w o ⟨k.val % 3, Nat.mod_lt _ (by decide)⟩
      ⟨2 * da + k.val / 3 / 2, by omega⟩ ⟨2 * db + k.val / 3 % 2, by omega⟩)
    (h2 : ∀ k, V c (Pipeline.arrRef spec0 2) (ix2 0 k : S1x128.Idx) = bias k) :
    (dat0 V c).arrAt 3 cfg0.N = fun y : S32x128x128x128.Idx => conv4 (f (y 0)) w bias (y 3) (y 1) (y 2) := by
  refine (dat0 V c).arrAt_eq_of_covers 3 _ (by decide +kernel) fun t hf y => ?_
  blk_simp
  rw [after0_3]
  obtain ⟨e0, e1, e2, e3⟩ := idx0 t
  have hy : (y 0).val < 1 := (y 0).isLt
  have ey : (win0_3.blk t).view.emb y = (ix4 t (y 1) (y 2) (y 3) : S32x128x128x128.Idx) :=
    funext fun a => Fin.ext ((win0_3.rect_emb_val t y a).trans (by
      rw [e3]
      match a with
      | ⟨0, _⟩ => show t.val * 1 + (y 0).val = t.val; omega
      | ⟨1, _⟩ => exact (congrArg (· + (y 1).val) (Nat.zero_mul 128)).trans (Nat.zero_add _)
      | ⟨2, _⟩ => exact (congrArg (· + (y 2).val) (Nat.zero_mul 128)).trans (Nat.zero_add _)
      | ⟨3, _⟩ => exact (congrArg (· + (y 3).val) (Nat.zero_mul 128)).trans (Nat.zero_add _)))
  rw [ey]
  rw [show y = ix4 0 (y 1) (y 2) (y 3) from funext fun a => match a with
    | ⟨0, _⟩ => Fin.ext (by show (y 0).val = 0; omega) | ⟨1, _⟩ => rfl | ⟨2, _⟩ => rfl | ⟨3, _⟩ => rfl]
  refine out0_val _ _ _ (fun u v k => ?_) (fun da db k o => ?_) (fun k => ?_) _ _ _
  · refine Eq.trans (congrArg (V c (Pipeline.arrRef spec0 0)) (funext fun a => Fin.ext ((win0_0.rect_emb_val t _ a).trans ?_))) (h0 t u v k)
    rw [e0]
    match a with
    | ⟨0, _⟩ => exact Nat.mul_one _
    | ⟨1, _⟩ => exact (congrArg (· + u.val) (Nat.zero_mul 129)).trans (Nat.zero_add _)
    | ⟨2, _⟩ => exact (congrArg (· + v.val) (Nat.zero_mul 129)).trans (Nat.zero_add _)
    | ⟨3, _⟩ => exact (congrArg (· + k.val) (Nat.zero_mul 12)).trans (Nat.zero_add _)
  · exact (congrArg (V c (Pipeline.arrRef spec0 1)) (funext fun a => Fin.ext (win0_1.rect_emb_val_of_index_zero t a ((congrFun e1 a).trans (zero4 a)) _))).trans (h1 da db k o)
  · exact (congrArg (V c (Pipeline.arrRef spec0 2)) (funext fun a => Fin.ext (win0_2.rect_emb_val_of_index_zero t a ((congrFun e2 a).trans (zero2 a)) _))).trans (h2 k)

theorem idx1 : ∀ t : Fin grid1.N, win1_0.index t = ![t.val, 0, 0, 0] ∧ win1_1.index t = ![0, 0, 0, 0] ∧ win1_2.index t = ![0, 0] ∧ win1_3.index t = ![t.val, 0, 0, 0] := by decide +kernel

/-- What region 1 leaves: the rectified strided convolution of each item's image. -/
theorem arr1 (c : Dev nD) (f : Fin 32 → Fin 128 → Fin 128 → Fin 128 → EReal) {w : Fin 128 → Fin 128 → Fin 4 → Fin 4 → EReal} {bias : Fin 128 → EReal}
    (h0 : ∀ b (u v : Fin 65) (k : Fin 512), V c (Pipeline.arrRef spec1 0) (ix4 b u v k : S32x65x65x512.Idx)
      = pad1 (f b ⟨k.val % 128, Nat.mod_lt _ (by decide)⟩) (2 * u + k.val / 128 / 2) (2 * v + k.val / 128 % 2))
    (h1 : ∀ (da db : Fin 2) (k : Fin 512) (o : Fin 128), V c (Pipeline.arrRef spec1 1) (ix4 da db k o : S2x2x512x128.Idx) = w o ⟨k.val % 128, Nat.mod_lt _ (by decide)⟩
      ⟨2 * da + k.val / 128 / 2, by omega⟩ ⟨2 * db + k.val / 128 % 2, by omega⟩)
    (h2 : ∀ k, V c (Pipeline.arrRef spec1 2) (ix2 0 k : S1x128.Idx) = bias k) :
    (dat1 V c).arrAt 3 cfg1.N = fun y : S32x64x64x128.Idx => conv4 (f (y 0)) w bias (y 3) (y 1) (y 2) := by
  refine (dat1 V c).arrAt_eq_of_covers 3 _ (by decide +kernel) fun t hf y => ?_
  blk_simp
  rw [after1_3]
  obtain ⟨e0, e1, e2, e3⟩ := idx1 t
  have hy : (y 0).val < 1 := (y 0).isLt
  have ey : (win1_3.blk t).view.emb y = (ix4 t (y 1) (y 2) (y 3) : S32x64x64x128.Idx) :=
    funext fun a => Fin.ext ((win1_3.rect_emb_val t y a).trans (by
      rw [e3]
      match a with
      | ⟨0, _⟩ => show t.val * 1 + (y 0).val = t.val; omega
      | ⟨1, _⟩ => exact (congrArg (· + (y 1).val) (Nat.zero_mul 64)).trans (Nat.zero_add _)
      | ⟨2, _⟩ => exact (congrArg (· + (y 2).val) (Nat.zero_mul 64)).trans (Nat.zero_add _)
      | ⟨3, _⟩ => exact (congrArg (· + (y 3).val) (Nat.zero_mul 128)).trans (Nat.zero_add _)))
  rw [ey]
  rw [show y = ix4 0 (y 1) (y 2) (y 3) from funext fun a => match a with
    | ⟨0, _⟩ => Fin.ext (by show (y 0).val = 0; omega) | ⟨1, _⟩ => rfl | ⟨2, _⟩ => rfl | ⟨3, _⟩ => rfl]
  refine out1_val _ _ _ (fun u v k => ?_) (fun da db k o => ?_) (fun k => ?_) _ _ _
  · refine Eq.trans (congrArg (V c (Pipeline.arrRef spec1 0)) (funext fun a => Fin.ext ((win1_0.rect_emb_val t _ a).trans ?_))) (h0 t u v k)
    rw [e0]
    match a with
    | ⟨0, _⟩ => exact Nat.mul_one _
    | ⟨1, _⟩ => exact (congrArg (· + u.val) (Nat.zero_mul 65)).trans (Nat.zero_add _)
    | ⟨2, _⟩ => exact (congrArg (· + v.val) (Nat.zero_mul 65)).trans (Nat.zero_add _)
    | ⟨3, _⟩ => exact (congrArg (· + k.val) (Nat.zero_mul 512)).trans (Nat.zero_add _)
  · exact (congrArg (V c (Pipeline.arrRef spec1 1)) (funext fun a => Fin.ext (win1_1.rect_emb_val_of_index_zero t a ((congrFun e1 a).trans (zero4 a)) _))).trans (h1 da db k o)
  · exact (congrArg (V c (Pipeline.arrRef spec1 2)) (funext fun a => Fin.ext (win1_2.rect_emb_val_of_index_zero t a ((congrFun e2 a).trans (zero2 a)) _))).trans (h2 k)

end Cert.KernelIdeal.Gen
end
-- ==== Proof.KVqArr.lean ====
module
public import proofs.«01_k».proof.Proof.Gen.KernelIdeal.Frame
public import proofs.«01_k».proof.Proof.KVq
public import proofs.«01_k».proof.Proof.KD0

/-! # The codebook region's arrays and the first decoder region's -/

@[expose] public section
set_option maxRecDepth 16384
set_option maxHeartbeats 2000000
noncomputable section
namespace Cert.KernelIdeal.Gen
open Idealize.ShloMosaic Idealize.ShloMosaic.TcCoe
open Idealize.ShloMosaic.Pipeline (Dat Cfg Window)
open Vq

variable (V : (c : Dev nD) → (b : Ref sig .tc) → Buf (Elt Ideal) ((c : Thread nD τ).loc b))

theorem idx4 : ∀ t : Fin grid4.N, win4_0.index t = ![t.val, 0, 0, 0] ∧ win4_1.index t = ![0, 0] ∧ win4_2.index t = ![0, 0] ∧ win4_3.index t = ![0, 0] ∧ win4_4.index t = ![0, 0] ∧ win4_5.index t = ![t.val, 0, 0, 0] ∧ win4_6.index t = ![t.val, 0, 0] ∧ win4_7.index t = ![t.val, 0, 0] := by decide +kernel

/-- What region 4 leaves: the encoder's output. -/
theorem arr4_z (c : Dev nD) (f : Fin 32 → Fin 128 → Fin 64 → Fin 64 → EReal) {w : Fin 64 → Fin 128 → EReal} {bias : Fin 64 → EReal}
    (h0 : ∀ b i j k, V c (Pipeline.arrRef spec4 0) (ix4 b i j k : S32x64x64x128.Idx) = f b k i j)
    (h1 : ∀ k e, V c (Pipeline.arrRef spec4 1) (ix2 k e : S128x64.Idx) = w e k)
    (h2 : ∀ e, V c (Pipeline.arrRef spec4 2) (ix2 0 e : S1x64.Idx) = bias e) :
    (dat4 V c).arrAt 5 cfg4.N = fun y : S32x64x64x64.Idx => conv1 (f (y 0)) w bias (y 3) (y 1) (y 2) := by
  refine (dat4 V c).arrAt_eq_of_covers 5 _ (by decide +kernel) fun t hf y => ?_
  blk_simp
  rw [after4_5]
  obtain ⟨e0, e1, e2, e3, e4, e5, e6, e7⟩ := idx4 t
  have hy : (y 0).val < 1 := (y 0).isLt
  have ey : (win4_5.blk t).view.emb y = (ix4 t (y 1) (y 2) (y 3) : S32x64x64x64.Idx) :=
    funext fun a => Fin.ext ((win4_5.rect_emb_val t y a).trans (by
      rw [e5]
      match a with
      | ⟨0, _⟩ => show t.val * 1 + (y 0).val = t.val; omega
      | ⟨1, _⟩ => exact (congrArg (· + (y 1).val) (Nat.zero_mul 64)).trans (Nat.zero_add _)
      | ⟨2, _⟩ => exact (congrArg (· + (y 2).val) (Nat.zero_mul 64)).trans (Nat.zero_add _)
      | ⟨3, _⟩ => exact (congrArg (· + (y 3).val) (Nat.zero_mul 64)).trans (Nat.zero_add _)))
  rw [ey]
  rw [show y = ix4 0 (y 1) (y 2) (y 3) from funext fun a => match a with
    | ⟨0, _⟩ => Fin.ext (by show (y 0).val = 0; omega) | ⟨1, _⟩ => rfl | ⟨2, _⟩ => rfl | ⟨3, _⟩ => rfl]
  refine out4_5_val _ _ _ _ _ (fun i j k => ?_) (fun k e => ?_) (fun e => ?_) _ _ _
  · refine Eq.trans (congrArg (V c (Pipeline.arrRef spec4 0)) (funext fun a => Fin.ext ((win4_0.rect_emb_val t _ a).trans ?_))) (h0 t i j k)
    rw [e0]
    match a with
    | ⟨0, _⟩ => exact Nat.mul_one _
    | ⟨1, _⟩ => exact (congrArg (· + i.val) (Nat.zero_mul 64)).trans (Nat.zero_add _)
    | ⟨2, _⟩ => exact (congrArg (· + j.val) (Nat.zero_mul 64)).trans (Nat.zero_add _)
    | ⟨3, _⟩ => exact (congrArg (· + k.val) (Nat.zero_mul 128)).trans (Nat.zero_add _)
  · exact (congrArg (V c (Pipeline.arrRef spec4 1)) (funext fun a => Fin.ext (win4_1.rect_emb_val_of_index_zero t a ((congrFun e1 a).trans (zero2 a)) _))).trans (h1 k e)
  · exact (congrArg (V c (Pipeline.arrRef spec4 2)) (funext fun a => Fin.ext (win4_2.rect_emb_val_of_index_zero t a ((congrFun e2 a).trans (zero2 a)) _))).trans (h2 e)

/-- What region 4 leaves: the nearest codebook row. -/
theorem arr4_zq (c : Dev nD) (f : Fin 32 → Fin 128 → Fin 64 → Fin 64 → EReal) {w : Fin 64 → Fin 128 → EReal} {bias : Fin 64 → EReal} {emb : Fin 512 → Fin 64 → EReal}
    (h0 : ∀ b i j k, V c (Pipeline.arrRef spec4 0) (ix4 b i j k : S32x64x64x128.Idx) = f b k i j)
    (h1 : ∀ k e, V c (Pipeline.arrRef spec4 1) (ix2 k e : S128x64.Idx) = w e k)
    (h2 : ∀ e, V c (Pipeline.arrRef spec4 2) (ix2 0 e : S1x64.Idx) = bias e)
    (h3 : ∀ n e, V c (Pipeline.arrRef spec4 3) (ix2 n e : S512x64.Idx) = emb n e)
    (h4 : ∀ n, V c (Pipeline.arrRef spec4 4) (ix2 0 n : S1x512.Idx) = ∑ e, emb n e * emb n e) :
    (dat4 V c).arrAt 6 cfg4.N = fun y : S32x4096x64.Idx => emb (code emb (zrow (conv1 (f (y 0)) w bias) (y 1))) (y 2) := by
  refine (dat4 V c).arrAt_eq_of_covers 6 _ (by decide +kernel) fun t hf y => ?_
  blk_simp
  rw [after4_6]
  obtain ⟨e0, e1, e2, e3, e4, e5, e6, e7⟩ := idx4 t
  have hy : (y 0).val < 1 := (y 0).isLt
  have ey : (win4_6.blk t).view.emb y = (ix3 t (y 1) (y 2) : S32x4096x64.Idx) :=
    funext fun a => Fin.ext ((win4_6.rect_emb_val t y a).trans (by
      rw [e6]
      match a with
      | ⟨0, _⟩ => show t.val * 1 + (y 0).val = t.val; omega
      | ⟨1, _⟩ => exact (congrArg (· + (y 1).val) (Nat.zero_mul 4096)).trans (Nat.zero_add _)
      | ⟨2, _⟩ => exact (congrArg (· + (y 2).val) (Nat.zero_mul 64)).trans (Nat.zero_add _)))
  rw [ey]
  rw [show y = ix3 0 (y 1) (y 2) from funext fun a => match a with
    | ⟨0, _⟩ => Fin.ext (by show (y 0).val = 0; omega) | ⟨1, _⟩ => rfl | ⟨2, _⟩ => rfl]
  refine out4_6_val _ _ _ _ _ (fun i j k => ?_) (fun k e => ?_) (fun e => ?_) (fun n e => ?_) (fun n => ?_) _ _
  · refine Eq.trans (congrArg (V c (Pipeline.arrRef spec4 0)) (funext fun a => Fin.ext ((win4_0.rect_emb_val t _ a).trans ?_))) (h0 t i j k)
    rw [e0]
    match a with
    | ⟨0, _⟩ => exact Nat.mul_one _
    | ⟨1, _⟩ => exact (congrArg (· + i.val) (Nat.zero_mul 64)).trans (Nat.zero_add _)
    | ⟨2, _⟩ => exact (congrArg (· + j.val) (Nat.zero_mul 64)).trans (Nat.zero_add _)
    | ⟨3, _⟩ => exact (congrArg (· + k.val) (Nat.zero_mul 128)).trans (Nat.zero_add _)
  · exact (congrArg (V c (Pipeline.arrRef spec4 1)) (funext fun a => Fin.ext (win4_1.rect_emb_val_of_index_zero t a ((congrFun e1 a).trans (zero2 a)) _))).trans (h1 k e)
  · exact (congrArg (V c (Pipeline.arrRef spec4 2)) (funext fun a => Fin.ext (win4_2.rect_emb_val_of_index_zero t a ((congrFun e2 a).trans (zero2 a)) _))).trans (h2 e)
  · exact (congrArg (V c (Pipeline.arrRef spec4 3)) (funext fun a => Fin.ext (win4_3.rect_emb_val_of_index_zero t a ((congrFun e3 a).trans (zero2 a)) _))).trans (h3 n e)
  · exact (congrArg (V c (Pipeline.arrRef spec4 4)) (funext fun a => Fin.ext (win4_4.rect_emb_val_of_index_zero t a ((congrFun e4 a).trans (zero2 a)) _))).trans (h4 n)

/-- What region 4 leaves: the nearest codebook row's index. -/
theorem arr4_idx (c : Dev nD) (f : Fin 32 → Fin 128 → Fin 64 → Fin 64 → EReal) {w : Fin 64 → Fin 128 → EReal} {bias : Fin 64 → EReal} {emb : Fin 512 → Fin 64 → EReal}
    (h0 : ∀ b i j k, V c (Pipeline.arrRef spec4 0) (ix4 b i j k : S32x64x64x128.Idx) = f b k i j)
    (h1 : ∀ k e, V c (Pipeline.arrRef spec4 1) (ix2 k e : S128x64.Idx) = w e k)
    (h2 : ∀ e, V c (Pipeline.arrRef spec4 2) (ix2 0 e : S1x64.Idx) = bias e)
    (h3 : ∀ n e, V c (Pipeline.arrRef spec4 3) (ix2 n e : S512x64.Idx) = emb n e)
    (h4 : ∀ n, V c (Pipeline.arrRef spec4 4) (ix2 0 n : S1x512.Idx) = ∑ e, emb n e * emb n e) :
    (dat4 V c).arrAt 7 cfg4.N = fun y : S32x4096x128.Idx => BitVec.ofNat 32 (code emb (zrow (conv1 (f (y 0)) w bias) (y 1))).val := by
  refine (dat4 V c).arrAt_eq_of_covers 7 _ (by decide +kernel) fun t hf y => ?_
  blk_simp
  rw [after4_7]
  obtain ⟨e0, e1, e2, e3, e4, e5, e6, e7⟩ := idx4 t
  have hy : (y 0).val < 1 := (y 0).isLt
  have ey : (win4_7.blk t).view.emb y = (ix3 t (y 1) (y 2) : S32x4096x128.Idx) :=
    funext fun a => Fin.ext ((win4_7.rect_emb_val t y a).trans (by
      rw [e7]
      match a with
      | ⟨0, _⟩ => show t.val * 1 + (y 0).val = t.val; omega
      | ⟨1, _⟩ => exact (congrArg (· + (y 1).val) (Nat.zero_mul 4096)).trans (Nat.zero_add _)
      | ⟨2, _⟩ => exact (congrArg (· + (y 2).val) (Nat.zero_mul 128)).trans (Nat.zero_add _)))
  rw [ey]
  rw [show y = ix3 0 (y 1) (y 2) from funext fun a => match a with
    | ⟨0, _⟩ => Fin.ext (by show (y 0).val = 0; omega) | ⟨1, _⟩ => rfl | ⟨2, _⟩ => rfl]
  refine out4_7_val _ _ _ _ _ (fun i j k => ?_) (fun k e => ?_) (fun e => ?_) (fun n e => ?_) (fun n => ?_) _ _
  · refine Eq.trans (congrArg (V c (Pipeline.arrRef spec4 0)) (funext fun a => Fin.ext ((win4_0.rect_emb_val t _ a).trans ?_))) (h0 t i j k)
    rw [e0]
    match a with
    | ⟨0, _⟩ => exact Nat.mul_one _
    | ⟨1, _⟩ => exact (congrArg (· + i.val) (Nat.zero_mul 64)).trans (Nat.zero_add _)
    | ⟨2, _⟩ => exact (congrArg (· + j.val) (Nat.zero_mul 64)).trans (Nat.zero_add _)
    | ⟨3, _⟩ => exact (congrArg (· + k.val) (Nat.zero_mul 128)).trans (Nat.zero_add _)
  · exact (congrArg (V c (Pipeline.arrRef spec4 1)) (funext fun a => Fin.ext (win4_1.rect_emb_val_of_index_zero t a ((congrFun e1 a).trans (zero2 a)) _))).trans (h1 k e)
  · exact (congrArg (V c (Pipeline.arrRef spec4 2)) (funext fun a => Fin.ext (win4_2.rect_emb_val_of_index_zero t a ((congrFun e2 a).trans (zero2 a)) _))).trans (h2 e)
  · exact (congrArg (V c (Pipeline.arrRef spec4 3)) (funext fun a => Fin.ext (win4_3.rect_emb_val_of_index_zero t a ((congrFun e3 a).trans (zero2 a)) _))).trans (h3 n e)
  · exact (congrArg (V c (Pipeline.arrRef spec4 4)) (funext fun a => Fin.ext (win4_4.rect_emb_val_of_index_zero t a ((congrFun e4 a).trans (zero2 a)) _))).trans (h4 n)

theorem idx5 : ∀ t : Fin grid5.N, win5_0.index t = ![t.val, 0, 0, 0] ∧ win5_1.index t = ![t.val, 0, 0, 0] ∧ win5_2.index t = ![0, 0, 0, 0] ∧ win5_3.index t = ![0, 0] ∧ win5_4.index t = ![t.val, 0, 0, 0] ∧ win5_5.index t = ![t.val, 0, 0] := by decide +kernel

/-- What region 5 leaves: the first decoder convolution. -/
theorem arr5_g (c : Dev nD) (f : Fin 32 → Fin 64 → Fin 64 → Fin 64 → EReal) {w : Fin 128 → Fin 64 → Fin 3 → Fin 3 → EReal} {bias : Fin 128 → EReal}
    (h0 : ∀ b (u v : Fin 66) k, V c (Pipeline.arrRef spec5 0) (ix4 b u v k : S32x66x66x64.Idx) = pad1 (f b k) u v)
    (h1 : ∀ ky kx k o, V c (Pipeline.arrRef spec5 2) (ix4 ky kx k o : S3x3x64x128.Idx) = w o k ky kx)
    (h2 : ∀ k, V c (Pipeline.arrRef spec5 3) (ix2 0 k : S1x128.Idx) = bias k) :
    (dat5 V c).arrAt 4 cfg5.N = fun y : S32x64x64x128.Idx => conv3 (f (y 0)) w bias (y 3) (y 1) (y 2) := by
  refine (dat5 V c).arrAt_eq_of_covers 4 _ (by decide +kernel) fun t hf y => ?_
  blk_simp
  rw [after5_4]
  obtain ⟨e0, e1, e2, e3, e4, e5⟩ := idx5 t
  have hy : (y 0).val < 1 := (y 0).isLt
  have ey : (win5_4.blk t).view.emb y = (ix4 t (y 1) (y 2) (y 3) : S32x64x64x128.Idx) :=
    funext fun a => Fin.ext ((win5_4.rect_emb_val t y a).trans (by
      rw [e4]
      match a with
      | ⟨0, _⟩ => show t.val * 1 + (y 0).val = t.val; omega
      | ⟨1, _⟩ => exact (congrArg (· + (y 1).val) (Nat.zero_mul 64)).trans (Nat.zero_add _)
      | ⟨2, _⟩ => exact (congrArg (· + (y 2).val) (Nat.zero_mul 64)).trans (Nat.zero_add _)
      | ⟨3, _⟩ => exact (congrArg (· + (y 3).val) (Nat.zero_mul 128)).trans (Nat.zero_add _)))
  rw [ey]
  rw [show y = ix4 0 (y 1) (y 2) (y 3) from funext fun a => match a with
    | ⟨0, _⟩ => Fin.ext (by show (y 0).val = 0; omega) | ⟨1, _⟩ => rfl | ⟨2, _⟩ => rfl | ⟨3, _⟩ => rfl]
  refine out5_4_val _ _ _ _ (fun u v k => ?_) (fun ky kx k o => ?_) (fun k => ?_) _ _ _
  · refine Eq.trans (congrArg (V c (Pipeline.arrRef spec5 0)) (funext fun a => Fin.ext ((win5_0.rect_emb_val t _ a).trans ?_))) (h0 t u v k)
    rw [e0]
    match a with
    | ⟨0, _⟩ => exact Nat.mul_one _
    | ⟨1, _⟩ => exact (congrArg (· + u.val) (Nat.zero_mul 66)).trans (Nat.zero_add _)
    | ⟨2, _⟩ => exact (congrArg (· + v.val) (Nat.zero_mul 66)).trans (Nat.zero_add _)
    | ⟨3, _⟩ => exact (congrArg (· + k.val) (Nat.zero_mul 64)).trans (Nat.zero_add _)
  · exact (congrArg (V c (Pipeline.arrRef spec5 2)) (funext fun a => Fin.ext (win5_2.rect_emb_val_of_index_zero t a ((congrFun e2 a).trans (zero4 a)) _))).trans (h1 ky kx k o)
  · exact (congrArg (V c (Pipeline.arrRef spec5 3)) (funext fun a => Fin.ext (win5_3.rect_emb_val_of_index_zero t a ((congrFun e3 a).trans (zero2 a)) _))).trans (h2 k)

/-- What region 5 leaves: each item's sum of squared differences. -/
theorem arr5_l (c : Dev nD) (f z : Fin 32 → Fin 64 → Fin 64 → Fin 64 → EReal)
    (h0 : ∀ b (u v : Fin 66) k, V c (Pipeline.arrRef spec5 0) (ix4 b u v k : S32x66x66x64.Idx) = pad1 (f b k) u v)
    (h1 : ∀ b i j e, V c (Pipeline.arrRef spec5 1) (ix4 b i j e : S32x64x64x64.Idx) = z b e i j) :
    (dat5 V c).arrAt 5 cfg5.N = fun y : S32x1x128.Idx => sqdist (f (y 0)) (z (y 0)) := by
  refine (dat5 V c).arrAt_eq_of_covers 5 _ (by decide +kernel) fun t hf y => ?_
  blk_simp
  rw [after5_5]
  obtain ⟨e0, e1, e2, e3, e4, e5⟩ := idx5 t
  have hy : (y 0).val < 1 := (y 0).isLt
  have ey : (win5_5.blk t).view.emb y = (ix3 t (y 1) (y 2) : S32x1x128.Idx) :=
    funext fun a => Fin.ext ((win5_5.rect_emb_val t y a).trans (by
      rw [e5]
      match a with
      | ⟨0, _⟩ => show t.val * 1 + (y 0).val = t.val; omega
      | ⟨1, _⟩ => exact (congrArg (· + (y 1).val) (Nat.zero_mul 1)).trans (Nat.zero_add _)
      | ⟨2, _⟩ => exact (congrArg (· + (y 2).val) (Nat.zero_mul 128)).trans (Nat.zero_add _)))
  rw [ey]
  rw [show y = ix3 0 (y 1) (y 2) from funext fun a => match a with
    | ⟨0, _⟩ => Fin.ext (by show (y 0).val = 0; omega) | ⟨1, _⟩ => rfl | ⟨2, _⟩ => rfl]
  refine Eq.trans (congrArg (out5_5 _ _ _ _) (show (ix3 0 (y 1) (y 2) : S1x1x128.Idx) = ix3 0 0 (y 2) from funext fun a => match a with
    | ⟨0, _⟩ => rfl | ⟨1, _⟩ => Fin.ext (by have : (y 1).val < 1 := (y 1).isLt; show (y 1).val = 0; omega) | ⟨2, _⟩ => rfl)) ?_
  refine out5_5_val _ _ _ _ (fun u v k => ?_) (fun i j e => ?_) _
  · refine Eq.trans (congrArg (V c (Pipeline.arrRef spec5 0)) (funext fun a => Fin.ext ((win5_0.rect_emb_val t _ a).trans ?_))) (h0 t u v k)
    rw [e0]
    match a with
    | ⟨0, _⟩ => exact Nat.mul_one _
    | ⟨1, _⟩ => exact (congrArg (· + u.val) (Nat.zero_mul 66)).trans (Nat.zero_add _)
    | ⟨2, _⟩ => exact (congrArg (· + v.val) (Nat.zero_mul 66)).trans (Nat.zero_add _)
    | ⟨3, _⟩ => exact (congrArg (· + k.val) (Nat.zero_mul 64)).trans (Nat.zero_add _)
  · refine Eq.trans (congrArg (V c (Pipeline.arrRef spec5 1)) (funext fun a => Fin.ext ((win5_1.rect_emb_val t _ a).trans ?_))) (h1 t i j e)
    rw [e1]
    match a with
    | ⟨0, _⟩ => exact Nat.mul_one _
    | ⟨1, _⟩ => exact (congrArg (· + i.val) (Nat.zero_mul 64)).trans (Nat.zero_add _)
    | ⟨2, _⟩ => exact (congrArg (· + j.val) (Nat.zero_mul 64)).trans (Nat.zero_add _)
    | ⟨3, _⟩ => exact (congrArg (· + e.val) (Nat.zero_mul 64)).trans (Nat.zero_add _)

end Cert.KernelIdeal.Gen
end
-- ==== Proof.KConvT.lean ====
module
public import proofs.«01_k».proof.Proof.Gen.KernelIdeal.Frame
public import proofs.«01_k».proof.Proof.Blocks
public import proofs.«01_k».proof.Proof.Sums
public import proofs.«01_k».proof.Proof.Argmin

/-! # The transposed convolution regions -/

@[expose] public section
set_option maxRecDepth 16384
set_option maxHeartbeats 2000000
noncomputable section
namespace Cert.KernelIdeal.Gen
open Idealize.ShloMosaic Idealize.ShloMosaic.TcCoe
open Idealize.ShloMosaic.Pipeline (Dat Cfg Window)
open Vq

section R8
variable {f : Fin 128 → Fin 64 → Fin 64 → EReal} {w : Fin 128 → Fin 128 → Fin 4 → Fin 4 → EReal} {b : Fin 128 → EReal}

theorem k8_pay_val (p : Fin 3 → Fin 3 → Vec Ideal S1x1x64x64x128 .f32) (q : Fin 3 → Fin 3 → Vec Ideal S1x1x128x512 .f32)
   (x2 : Vec Ideal S1x512 .f32) (d : ℕ)
   (hp : ∀ ky kx (i : Fin 64) (j : Fin 64) k, p ky kx (ix5 0 0 i j k) = pad1 (f k) (d + (i + ky)) (j + kx))
   (hq : ∀ (ky kx : Fin 3) k (o : Fin 512), q ky kx (ix4 0 0 k o) = wsel (w k ⟨o.val % 128, Nat.mod_lt _ (by decide)⟩) (o.val / 128 / 2) (o.val / 128 % 2) ky kx)
   (h2 : ∀ o : Fin 512, x2 (ix2 0 o) = b ⟨o.val % 128, Nat.mod_lt _ (by decide)⟩) (i : Fin 64) (j : Fin 64) (o : Fin 512)
   (i' j' : Fin 128) (hi : i'.val = 2 * (d + i) + o.val / 128 / 2) (hj : j'.val = 2 * j + o.val / 128 % 2) :
   k8_pay1 (k8_pay4 (k8_pay2 (p 0 0) (q 0 0) (p 0 1) (q 0 1) (p 0 2) (q 0 2)) (k8_pay3 (p 1 0)) (q 1 0) (p 1 1) (q 1 1) (p 1 2) (q 1 2) (p 2 0) (q 2 0))
     (p 2 1) (q 2 1) (p 2 2) (q 2 2) x2 (ix4 0 i j o) = relu (convT f w b ⟨o.val % 128, Nat.mod_lt _ (by decide)⟩ i' j') := by
  unfold convT
  rw [hi, hj, ← convT_core _ (d + i) j _ _ (by omega) (by omega)]
  simp only [k8_pay1, k8_pay2, k8_pay3, k8_pay4, pointwise]
  simp only [hp, hq, h2, zero_add, dite_true, ↓reduceDIte, OfNat.ofNat_ne_one]
  simp only [Nat.add_assoc]
  rfl

theorem out8_val (x0 : Vec Ideal S1x1x66x66x128 .f32) (x1 : Vec Ideal S3x3x128x512 .f32) (x2 : Vec Ideal S1x512 .f32) (d : ℕ)
    (h0 : ∀ (u : Fin 66) (v : Fin 66) k, x0 (ix5 0 0 u v k) = pad1 (f k) (d + u) v)
    (h1 : ∀ (ky kx : Fin 3) k (o : Fin 512), x1 (ix4 ky kx k o) = wsel (w k ⟨o.val % 128, Nat.mod_lt _ (by decide)⟩) (o.val / 128 / 2) (o.val / 128 % 2) ky kx)
    (h2 : ∀ o : Fin 512, x2 (ix2 0 o) = b ⟨o.val % 128, Nat.mod_lt _ (by decide)⟩) (i : Fin 64) (j : Fin 64) (o : Fin 512)
    (i' j' : Fin 128) (hi : i'.val = 2 * (d + i) + o.val / 128 / 2) (hj : j'.val = 2 * j + o.val / 128 % 2) :
    out8_3 x0 x1 x2 (ix4 0 i j o) = relu (convT f w b ⟨o.val % 128, Nat.mod_lt _ (by decide)⟩ i' j') := by
  unfold out8_3
  rw [View.canon_unit_zero hz4]
  simp only [View.ld_unit_zero (S := S1x512) hz2]
  refine k8_pay_val ![![View.ld x0 r8_0, View.ld x0 r8_2, View.ld x0 r8_4], ![View.ld x0 r8_6, View.ld x0 r8_8, View.ld x0 r8_10],
      ![View.ld x0 r8_12, View.ld x0 r8_14, View.ld x0 r8_16]]
    ![![View.ld x1 r8_1, View.ld x1 r8_3, View.ld x1 r8_5], ![View.ld x1 r8_7, View.ld x1 r8_9, View.ld x1 r8_11],
      ![View.ld x1 r8_13, View.ld x1 r8_15, View.ld x1 r8_17]] x2 d ?_ ?_ h2 i j o i' j' hi hj
  · intro ky kx i j k
    fin_cases ky <;> fin_cases kx <;> exact ld_pad5 (P := fun k u v => pad1 (f k) (d + u) v) h0 _ i j k
  · intro ky kx k o
    fin_cases ky <;> fin_cases kx <;> exact (ld_mat x1 _ k o).trans (h1 _ _ _ _)
end R8

section R9
variable {f : Fin 128 → Fin 128 → Fin 128 → EReal} {w : Fin 128 → Fin 3 → Fin 4 → Fin 4 → EReal} {b : Fin 3 → EReal}

theorem k9_pay_val (p : Fin 3 → Fin 3 → Vec Ideal S1x1x32x128x128 .f32) (q : Fin 3 → Fin 3 → Vec Ideal S1x1x128x12 .f32)
   (x2 : Vec Ideal S1x12 .f32) (d : ℕ)
   (hp : ∀ ky kx (i : Fin 32) (j : Fin 128) k, p ky kx (ix5 0 0 i j k) = pad1 (f k) (d + (i + ky)) (j + kx))
   (hq : ∀ (ky kx : Fin 3) k (o : Fin 12), q ky kx (ix4 0 0 k o) = wsel (w k ⟨o.val % 3, Nat.mod_lt _ (by decide)⟩) (o.val / 3 / 2) (o.val / 3 % 2) ky kx)
   (h2 : ∀ o : Fin 12, x2 (ix2 0 o) = b ⟨o.val % 3, Nat.mod_lt _ (by decide)⟩) (i : Fin 32) (j : Fin 128) (o : Fin 12)
   (i' j' : Fin 256) (hi : i'.val = 2 * (d + i) + o.val / 3 / 2) (hj : j'.val = 2 * j + o.val / 3 % 2) :
   k9_pay1 (k9_pay4 (k9_pay2 (p 0 0) (q 0 0) (p 0 1) (q 0 1) (p 0 2) (q 0 2)) (k9_pay3 (p 1 0)) (q 1 0) (p 1 1) (q 1 1) (p 1 2) (q 1 2) (p 2 0) (q 2 0))
     (p 2 1) (q 2 1) (p 2 2) (q 2 2) x2 (ix4 0 i j o) = Ideal.tanh (convT f w b ⟨o.val % 3, Nat.mod_lt _ (by decide)⟩ i' j') := by
  unfold convT
  rw [hi, hj, ← convT_core _ (d + i) j _ _ (by omega) (by omega)]
  simp only [k9_pay1, k9_pay2, k9_pay3, k9_pay4, pointwise]
  simp only [hp, hq, h2, zero_add, dite_true, ↓reduceDIte, OfNat.ofNat_ne_one]
  simp only [Nat.add_assoc]
  rfl

theorem out9_val (x0 : Vec Ideal S1x1x34x130x128 .f32) (x1 : Vec Ideal S3x3x128x12 .f32) (x2 : Vec Ideal S1x12 .f32) (d : ℕ)
    (h0 : ∀ (u : Fin 34) (v : Fin 130) k, x0 (ix5 0 0 u v k) = pad1 (f k) (d + u) v)
    (h1 : ∀ (ky kx : Fin 3) k (o : Fin 12), x1 (ix4 ky kx k o) = wsel (w k ⟨o.val % 3, Nat.mod_lt _ (by decide)⟩) (o.val / 3 / 2) (o.val / 3 % 2) ky kx)
    (h2 : ∀ o : Fin 12, x2 (ix2 0 o) = b ⟨o.val % 3, Nat.mod_lt _ (by decide)⟩) (i : Fin 32) (j : Fin 128) (o : Fin 12)
    (i' j' : Fin 256) (hi : i'.val = 2 * (d + i) + o.val / 3 / 2) (hj : j'.val = 2 * j + o.val / 3 % 2) :
    out9_3 x0 x1 x2 (ix4 0 i j o) = Ideal.tanh (convT f w b ⟨o.val % 3, Nat.mod_lt _ (by decide)⟩ i' j') := by
  unfold out9_3
  rw [View.canon_unit_zero hz4]
  simp only [View.ld_unit_zero (S := S1x12) hz2]
  refine k9_pay_val ![![View.ld x0 r9_0, View.ld x0 r9_2, View.ld x0 r9_4], ![View.ld x0 r9_6, View.ld x0 r9_8, View.ld x0 r9_10],
      ![View.ld x0 r9_12, View.ld x0 r9_14, View.ld x0 r9_16]]
    ![![View.ld x1 r9_1, View.ld x1 r9_3, View.ld x1 r9_5], ![View.ld x1 r9_7, View.ld x1 r9_9, View.ld x1 r9_11],
      ![View.ld x1 r9_13, View.ld x1 r9_15, View.ld x1 r9_17]] x2 d ?_ ?_ h2 i j o i' j' hi hj
  · intro ky kx i j k
    fin_cases ky <;> fin_cases kx <;> exact ld_pad5 (P := fun k u v => pad1 (f k) (d + u) v) h0 _ i j k
  · intro ky kx k o
    fin_cases ky <;> fin_cases kx <;> exact (ld_mat x1 _ k o).trans (h1 _ _ _ _)
end R9

end Cert.KernelIdeal.Gen
end
-- ==== Proof.KConvTArr.lean ====
module
public import proofs.«01_k».proof.Proof.Gen.KernelIdeal.Frame
public import proofs.«01_k».proof.Proof.KConvT

/-! # The transposed convolution regions' arrays -/

@[expose] public section
set_option maxRecDepth 16384
set_option maxHeartbeats 2000000
noncomputable section
namespace Cert.KernelIdeal.Gen
open Idealize.ShloMosaic Idealize.ShloMosaic.TcCoe
open Idealize.ShloMosaic.Pipeline (Dat Cfg Window)
open Vq

variable (V : (c : Dev nD) → (b : Ref sig .tc) → Buf (Elt Ideal) ((c : Thread nD τ).loc b))

theorem idx8 : ∀ t : Fin grid8.N, win8_0.index t = ![t.val / 1, t.val % 1, 0, 0, 0] ∧ win8_1.index t = ![0, 0, 0, 0] ∧ win8_2.index t = ![0, 0] ∧ win8_3.index t = ![t.val / 1, t.val % 1, 0, 0] := by decide +kernel

/-- The output array of region 8: channel `q * 128 + o` of pixel `(i, j)` is channel `o` of the pixel of parity `q` under it. -/
def pack8 (f : Fin 32 → Fin 128 → Fin 64 → Fin 64 → EReal) (w : Fin 128 → Fin 128 → Fin 4 → Fin 4 → EReal) (bias : Fin 128 → EReal)
    (y : S32x64x64x512.Idx) : EReal := relu (convT (H' := 128) (W' := 128) (f (y 0)) w bias
      ⟨(y 3).val % 128, Nat.mod_lt _ (by decide)⟩ ⟨2 * (y 1).val + (y 3).val / 128 / 2, by have : (y 1).val < 64 := (y 1).isLt; have : (y 3).val < 512 := (y 3).isLt; omega⟩
      ⟨2 * (y 2).val + (y 3).val / 128 % 2, by have : (y 2).val < 64 := (y 2).isLt; omega⟩)

/-- What region 8 leaves: four output pixels of the transposed convolution per input pixel. -/
theorem arr8 (c : Dev nD) (f : Fin 32 → Fin 128 → Fin 64 → Fin 64 → EReal) {w : Fin 128 → Fin 128 → Fin 4 → Fin 4 → EReal} {bias : Fin 128 → EReal}
    (h0 : ∀ b (r : Fin 1) (u : Fin 66) (v : Fin 66) k, V c (Pipeline.arrRef spec8 0) (ix5 b r u v k : S32x1x66x66x128.Idx) = pad1 (f b k) (64 * r + u) v)
    (h1 : ∀ (ky kx : Fin 3) k (o : Fin 512), V c (Pipeline.arrRef spec8 1) (ix4 ky kx k o : S3x3x128x512.Idx)
      = wsel (w k ⟨o.val % 128, Nat.mod_lt _ (by decide)⟩) (o.val / 128 / 2) (o.val / 128 % 2) ky kx)
    (h2 : ∀ o : Fin 512, V c (Pipeline.arrRef spec8 2) (ix2 0 o : S1x512.Idx) = bias ⟨o.val % 128, Nat.mod_lt _ (by decide)⟩) :
    (dat8 V c).arrAt 3 cfg8.N = pack8 f w bias := by
  refine (dat8 V c).arrAt_eq_of_covers 3 _ (by decide +kernel) fun t hf y => ?_
  blk_simp
  rw [after8_3]
  obtain ⟨e0, e1, e2, e3⟩ := idx8 t
  have ht : t.val < 32 := t.isLt
  have hy : (y 0).val < 1 := (y 0).isLt
  have hy1 : (y 1).val < 64 := (y 1).isLt
  have ey : (win8_3.blk t).view.emb y = (ix4 ⟨t.val / 1, by omega⟩ ⟨64 * (t.val % 1) + (y 1).val, by omega⟩ (y 2) (y 3) : S32x64x64x512.Idx) :=
    funext fun a => Fin.ext ((win8_3.rect_emb_val t y a).trans (by
      rw [e3]
      match a with
      | ⟨0, _⟩ => show t.val / 1 * 1 + (y 0).val = t.val / 1; omega
      | ⟨1, _⟩ => show t.val % 1 * 64 + (y 1).val = 64 * (t.val % 1) + (y 1).val; omega
      | ⟨2, _⟩ => exact (congrArg (· + (y 2).val) (Nat.zero_mul 64)).trans (Nat.zero_add _)
      | ⟨3, _⟩ => exact (congrArg (· + (y 3).val) (Nat.zero_mul 512)).trans (Nat.zero_add _)))
  rw [ey]
  refine Eq.trans (congrArg (out8_3 _ _ _) (show y = (ix4 0 (y 1) (y 2) (y 3) : S1x64x64x512.Idx) from funext fun a => match a with
    | ⟨0, _⟩ => Fin.ext (by show (y 0).val = 0; omega) | ⟨1, _⟩ => rfl | ⟨2, _⟩ => rfl | ⟨3, _⟩ => rfl)) ?_
  refine out8_val (f := f ⟨t.val / 1, by omega⟩) _ _ _ (64 * (t.val % 1)) (fun u v k => ?_) (fun ky kx k o => ?_) (fun o => ?_) _ _ _ _ _ rfl rfl
  · refine Eq.trans (congrArg (V c (Pipeline.arrRef spec8 0)) (funext fun a => Fin.ext ((win8_0.rect_emb_val t _ a).trans ?_))) (h0 ⟨t.val / 1, by omega⟩ ⟨t.val % 1, by omega⟩ u v k)
    rw [e0]
    match a with
    | ⟨0, _⟩ => exact Nat.mul_one _
    | ⟨1, _⟩ => exact Nat.mul_one _
    | ⟨2, _⟩ => exact (congrArg (· + u.val) (Nat.zero_mul 66)).trans (Nat.zero_add _)
    | ⟨3, _⟩ => exact (congrArg (· + v.val) (Nat.zero_mul 66)).trans (Nat.zero_add _)
    | ⟨4, _⟩ => exact (congrArg (· + k.val) (Nat.zero_mul 128)).trans (Nat.zero_add _)
  · exact (congrArg (V c (Pipeline.arrRef spec8 1)) (funext fun a => Fin.ext (win8_1.rect_emb_val_of_index_zero t a ((congrFun e1 a).trans (zero4 a)) _))).trans (h1 ky kx k o)
  · exact (congrArg (V c (Pipeline.arrRef spec8 2)) (funext fun a => Fin.ext (win8_2.rect_emb_val_of_index_zero t a ((congrFun e2 a).trans (zero2 a)) _))).trans (h2 o)

theorem idx9 : ∀ t : Fin grid9.N, win9_0.index t = ![t.val / 4, t.val % 4, 0, 0, 0] ∧ win9_1.index t = ![0, 0, 0, 0] ∧ win9_2.index t = ![0, 0] ∧ win9_3.index t = ![t.val / 4, t.val % 4, 0, 0] := by decide +kernel

/-- The output array of region 9: channel `q * 3 + o` of pixel `(i, j)` is channel `o` of the pixel of parity `q` under it. -/
def pack9 (f : Fin 32 → Fin 128 → Fin 128 → Fin 128 → EReal) (w : Fin 128 → Fin 3 → Fin 4 → Fin 4 → EReal) (bias : Fin 3 → EReal)
    (y : S32x128x128x12.Idx) : EReal := Ideal.tanh (convT (H' := 256) (W' := 256) (f (y 0)) w bias
      ⟨(y 3).val % 3, Nat.mod_lt _ (by decide)⟩ ⟨2 * (y 1).val + (y 3).val / 3 / 2, by have : (y 1).val < 128 := (y 1).isLt; have : (y 3).val < 12 := (y 3).isLt; omega⟩
      ⟨2 * (y 2).val + (y 3).val / 3 % 2, by have : (y 2).val < 128 := (y 2).isLt; omega⟩)

/-- What region 9 leaves: four output pixels of the transposed convolution per input pixel. -/
theorem arr9 (c : Dev nD) (f : Fin 32 → Fin 128 → Fin 128 → Fin 128 → EReal) {w : Fin 128 → Fin 3 → Fin 4 → Fin 4 → EReal} {bias : Fin 3 → EReal}
    (h0 : ∀ b (r : Fin 4) (u : Fin 34) (v : Fin 130) k, V c (Pipeline.arrRef spec9 0) (ix5 b r u v k : S32x4x34x130x128.Idx) = pad1 (f b k) (32 * r + u) v)
    (h1 : ∀ (ky kx : Fin 3) k (o : Fin 12), V c (Pipeline.arrRef spec9 1) (ix4 ky kx k o : S3x3x128x12.Idx)
      = wsel (w k ⟨o.val % 3, Nat.mod_lt _ (by decide)⟩) (o.val / 3 / 2) (o.val / 3 % 2) ky kx)
    (h2 : ∀ o : Fin 12, V c (Pipeline.arrRef spec9 2) (ix2 0 o : S1x12.Idx) = bias ⟨o.val % 3, Nat.mod_lt _ (by decide)⟩) :
    (dat9 V c).arrAt 3 cfg9.N = pack9 f w bias := by
  refine (dat9 V c).arrAt_eq_of_covers 3 _ (by decide +kernel) fun t hf y => ?_
  blk_simp
  rw [after9_3]
  obtain ⟨e0, e1, e2, e3⟩ := idx9 t
  have ht : t.val < 128 := t.isLt
  have hy : (y 0).val < 1 := (y 0).isLt
  have hy1 : (y 1).val < 32 := (y 1).isLt
  have ey : (win9_3.blk t).view.emb y = (ix4 ⟨t.val / 4, by omega⟩ ⟨32 * (t.val % 4) + (y 1).val, by omega⟩ (y 2) (y 3) : S32x128x128x12.Idx) :=
    funext fun a => Fin.ext ((win9_3.rect_emb_val t y a).trans (by
      rw [e3]
      match a with
      | ⟨0, _⟩ => show t.val / 4 * 1 + (y 0).val = t.val / 4; omega
      | ⟨1, _⟩ => show t.val % 4 * 32 + (y 1).val = 32 * (t.val % 4) + (y 1).val; omega
      | ⟨2, _⟩ => exact (congrArg (· + (y 2).val) (Nat.zero_mul 128)).trans (Nat.zero_add _)
      | ⟨3, _⟩ => exact (congrArg (· + (y 3).val) (Nat.zero_mul 12)).trans (Nat.zero_add _)))
  rw [ey]
  refine Eq.trans (congrArg (out9_3 _ _ _) (show y = (ix4 0 (y 1) (y 2) (y 3) : S1x32x128x12.Idx) from funext fun a => match a with
    | ⟨0, _⟩ => Fin.ext (by show (y 0).val = 0; omega) | ⟨1, _⟩ => rfl | ⟨2, _⟩ => rfl | ⟨3, _⟩ => rfl)) ?_
  refine out9_val (f := f ⟨t.val / 4, by omega⟩) _ _ _ (32 * (t.val % 4)) (fun u v k => ?_) (fun ky kx k o => ?_) (fun o => ?_) _ _ _ _ _ rfl rfl
  · refine Eq.trans (congrArg (V c (Pipeline.arrRef spec9 0)) (funext fun a => Fin.ext ((win9_0.rect_emb_val t _ a).trans ?_))) (h0 ⟨t.val / 4, by omega⟩ ⟨t.val % 4, by omega⟩ u v k)
    rw [e0]
    match a with
    | ⟨0, _⟩ => exact Nat.mul_one _
    | ⟨1, _⟩ => exact Nat.mul_one _
    | ⟨2, _⟩ => exact (congrArg (· + u.val) (Nat.zero_mul 34)).trans (Nat.zero_add _)
    | ⟨3, _⟩ => exact (congrArg (· + v.val) (Nat.zero_mul 130)).trans (Nat.zero_add _)
    | ⟨4, _⟩ => exact (congrArg (· + k.val) (Nat.zero_mul 128)).trans (Nat.zero_add _)
  · exact (congrArg (V c (Pipeline.arrRef spec9 1)) (funext fun a => Fin.ext (win9_1.rect_emb_val_of_index_zero t a ((congrFun e1 a).trans (zero4 a)) _))).trans (h1 ky kx k o)
  · exact (congrArg (V c (Pipeline.arrRef spec9 2)) (funext fun a => Fin.ext (win9_2.rect_emb_val_of_index_zero t a ((congrFun e2 a).trans (zero2 a)) _))).trans (h2 o)

end Cert.KernelIdeal.Gen
end
-- ==== Proof.KNet.lean ====
module
public import proofs.«01_k».proof.Proof.KHosts
public import proofs.«01_k».proof.Proof.KHostsB
public import proofs.«01_k».proof.Proof.KRes
public import proofs.«01_k».proof.Proof.KConvArr
public import proofs.«01_k».proof.Proof.KVqArr
public import proofs.«01_k».proof.Proof.KConvTArr
public import proofs.«01_k».proof.Proof.Net

/-! # The kernel computes the network -/

@[expose] public section
set_option maxRecDepth 16384
noncomputable section
namespace Cert.KernelIdeal.Gen
open Idealize.ShloMosaic Idealize.ShloMosaic.TcCoe
open Idealize.ShloMosaic.StableHlo
open Vq

variable (m : (ℓ : Loc nD τ sig) → Buf (Elt Ideal) ℓ) (ρ : Dev nD → PrngReg) (c : Dev nD)

/-- The launch arguments, read at plain coordinates. -/
def kArgs : Args where
  x := fun o k i j => (m (c.tc.loc main_arg0) : Vec Ideal S32x3x256x256 .f32) (ix4 o k i j)
  ew1 := fun o k i j => (m (c.tc.loc main_arg1) : Vec Ideal S128x3x4x4 .f32) (ix4 o k i j)
  eb1 := fun k => (m (c.tc.loc main_arg2) : Vec Ideal S128 .f32) (ix1 k)
  ew2 := fun o k i j => (m (c.tc.loc main_arg3) : Vec Ideal S128x128x4x4 .f32) (ix4 o k i j)
  eb2 := fun k => (m (c.tc.loc main_arg4) : Vec Ideal S128 .f32) (ix1 k)
  er1w3 := fun o k i j => (m (c.tc.loc main_arg5) : Vec Ideal S128x128x3x3 .f32) (ix4 o k i j)
  er1b3 := fun k => (m (c.tc.loc main_arg6) : Vec Ideal S128 .f32) (ix1 k)
  er1w1 := fun o k => (m (c.tc.loc main_arg7) : Vec Ideal S128x128x1x1 .f32) (ix4 o k 0 0)
  er1b1 := fun k => (m (c.tc.loc main_arg8) : Vec Ideal S128 .f32) (ix1 k)
  er2w3 := fun o k i j => (m (c.tc.loc main_arg9) : Vec Ideal S128x128x3x3 .f32) (ix4 o k i j)
  er2b3 := fun k => (m (c.tc.loc main_arg10) : Vec Ideal S128 .f32) (ix1 k)
  er2w1 := fun o k => (m (c.tc.loc main_arg11) : Vec Ideal S128x128x1x1 .f32) (ix4 o k 0 0)
  er2b1 := fun k => (m (c.tc.loc main_arg12) : Vec Ideal S128 .f32) (ix1 k)
  eow := fun o k => (m (c.tc.loc main_arg13) : Vec Ideal S64x128x1x1 .f32) (ix4 o k 0 0)
  eob := fun k => (m (c.tc.loc main_arg14) : Vec Ideal S64 .f32) (ix1 k)
  emb := fun n e => (m (c.tc.loc main_arg15) : Vec Ideal S512x64 .f32) (ix2 n e)
  dw0 := fun o k i j => (m (c.tc.loc main_arg16) : Vec Ideal S128x64x3x3 .f32) (ix4 o k i j)
  db0 := fun k => (m (c.tc.loc main_arg17) : Vec Ideal S128 .f32) (ix1 k)
  dr1w3 := fun o k i j => (m (c.tc.loc main_arg18) : Vec Ideal S128x128x3x3 .f32) (ix4 o k i j)
  dr1b3 := fun k => (m (c.tc.loc main_arg19) : Vec Ideal S128 .f32) (ix1 k)
  dr1w1 := fun o k => (m (c.tc.loc main_arg20) : Vec Ideal S128x128x1x1 .f32) (ix4 o k 0 0)
  dr1b1 := fun k => (m (c.tc.loc main_arg21) : Vec Ideal S128 .f32) (ix1 k)
  dr2w3 := fun o k i j => (m (c.tc.loc main_arg22) : Vec Ideal S128x128x3x3 .f32) (ix4 o k i j)
  dr2b3 := fun k => (m (c.tc.loc main_arg23) : Vec Ideal S128 .f32) (ix1 k)
  dr2w1 := fun o k => (m (c.tc.loc main_arg24) : Vec Ideal S128x128x1x1 .f32) (ix4 o k 0 0)
  dr2b1 := fun k => (m (c.tc.loc main_arg25) : Vec Ideal S128 .f32) (ix1 k)
  dt1w := fun o k i j => (m (c.tc.loc main_arg26) : Vec Ideal S128x128x4x4 .f32) (ix4 o k i j)
  dt1b := fun k => (m (c.tc.loc main_arg27) : Vec Ideal S128 .f32) (ix1 k)
  dt2w := fun o k i j => (m (c.tc.loc main_arg28) : Vec Ideal S128x3x4x4 .f32) (ix4 o k i j)
  dt2b := fun k => (m (c.tc.loc main_arg29) : Vec Ideal S3 .f32) (ix1 k)

/-- After the first region: the first strided convolution. -/
theorem s0 : W4 m ρ c main_v10 = fun y : S32x128x128x128.Idx => h1 (kArgs m c) (y 0) (y 3) (y 1) (y 2) :=
  (W4_arr m ρ c 3).trans (arr0 (V3 m ρ) c (kArgs m c).x
    (fun b u v k => e0_0 (W0 m ρ c) b u v k)
    (fun da db k o => e0_1 (W0 m ρ c) da db k o)
    (fun k => e0_2 (W0 m ρ c) k))

theorem s1 : W8 m ρ c main_v20 = fun y : S32x64x64x128.Idx => h2 (kArgs m c) (y 0) (y 3) (y 1) (y 2) :=
  (W8_arr m ρ c 3).trans (arr1 (V7 m ρ) c (h1 (kArgs m c))
    (fun b u v k => (e1_0 (W4 m ρ c) b u v k).trans (by rw [s0]; rfl))
    (fun da db k o => (e1_1 (W4 m ρ c) da db k o).trans (congrFun (W4_args m ρ c main_arg3 (by decide)) _))
    (fun k => (e1_2 (W4 m ρ c) k).trans (congrFun (W4_args m ρ c main_arg4 (by decide)) _)))

theorem s2 : W12 m ρ c main_v27 = fun y : S32x64x64x128.Idx => h3 (kArgs m c) (y 0) (y 3) (y 1) (y 2) :=
  (W12_arr m ρ c 5).trans (arr2 (V11 m ρ) c (h2 (kArgs m c))
    (fun b u v k => (e2_0 (W8 m ρ c) b u v k).trans (by rw [s1]; rfl))
    (fun ky kx k o => (e2_1 (W8 m ρ c) ky kx k o).trans (congrFun (W8_args m ρ c main_arg5 (by decide)) _))
    (fun k => (e2_2 (W8 m ρ c) k).trans (congrFun (W8_args m ρ c main_arg6 (by decide)) _))
    (fun k o => (e2_3 (W8 m ρ c) k o).trans (congrFun (W8_args m ρ c main_arg7 (by decide)) _))
    (fun k => (e2_4 (W8 m ρ c) k).trans (congrFun (W8_args m ρ c main_arg8 (by decide)) _)))

theorem s3 : W16 m ρ c main_v34 = fun y : S32x64x64x128.Idx => h4 (kArgs m c) (y 0) (y 3) (y 1) (y 2) :=
  (W16_arr m ρ c 5).trans (arr3 (V15 m ρ) c (h3 (kArgs m c))
    (fun b u v k => (e3_0 (W12 m ρ c) b u v k).trans (by rw [s2]; rfl))
    (fun ky kx k o => (e3_1 (W12 m ρ c) ky kx k o).trans (congrFun (W12_args m ρ c main_arg9 (by decide)) _))
    (fun k => (e3_2 (W12 m ρ c) k).trans (congrFun (W12_args m ρ c main_arg10 (by decide)) _))
    (fun k o => (e3_3 (W12 m ρ c) k o).trans (congrFun (W12_args m ρ c main_arg11 (by decide)) _))
    (fun k => (e3_4 (W12 m ρ c) k).trans (congrFun (W12_args m ρ c main_arg12 (by decide)) _)))

theorem in4_0 (b : Fin 32) (i j : Fin 64) (k : Fin 128) : (W17 m ρ c main_v34 : Vec Ideal S32x64x64x128 .f32) (ix4 b i j k) = h4 (kArgs m c) b k i j :=
  (congrFun (W17_of m ρ c main_v34 (by decide)) _).trans (by rw [s3]; rfl)
theorem in4_1 (k : Fin 128) (e : Fin 64) : (W17 m ρ c main_v36 : Vec Ideal S128x64 .f32) (ix2 k e) = (kArgs m c).eow e k :=
  (e4_1 (W16 m ρ c) k e).trans (congrFun (W16_args m ρ c main_arg13 (by decide)) _)
theorem in4_2 (e : Fin 64) : (W17 m ρ c main_v40 : Vec Ideal S1x64 .f32) (ix2 0 e) = (kArgs m c).eob e :=
  (e4_2 (W16 m ρ c) e).trans (congrFun (W16_args m ρ c main_arg14 (by decide)) _)
theorem in4_3 (n : Fin 512) (e : Fin 64) : (W17 m ρ c main_arg15 : Vec Ideal S512x64 .f32) (ix2 n e) = (kArgs m c).emb n e :=
  congrFun (W17_args m ρ c main_arg15 (by decide)) _
theorem in4_4 (n : Fin 512) : (W17 m ρ c main_v39 : Vec Ideal S1x512 .f32) (ix2 0 n) = ∑ e, (kArgs m c).emb n e * (kArgs m c).emb n e :=
  e4_4 (W16 m ρ c) _ (fun n e => congrFun (W16_args m ρ c main_arg15 (by decide)) (ix2 n e)) n

/-- The quantizer's region leaves the encoder's output, -/
theorem s4_z : W18 m ρ c main_v41_0 = fun y : S32x64x64x64.Idx => zz (kArgs m c) (y 0) (y 3) (y 1) (y 2) :=
  (W18_arr m ρ c 5).trans (arr4_z (V17 m ρ) c (h4 (kArgs m c)) (in4_0 m ρ c) (in4_1 m ρ c) (in4_2 m ρ c))
/-- the chosen codebook rows, -/
theorem s4_zq : W18 m ρ c main_v41_1 = fun y : S32x4096x64.Idx => (kArgs m c).emb (ids (kArgs m c) (y 0) (y 1)) (y 2) :=
  (W18_arr m ρ c 6).trans (arr4_zq (V17 m ρ) c (h4 (kArgs m c)) (in4_0 m ρ c) (in4_1 m ρ c) (in4_2 m ρ c) (in4_3 m ρ c) (in4_4 m ρ c))
/-- and the codes. -/
theorem s4_idx : W18 m ρ c main_v41_2 = fun y : S32x4096x128.Idx => BitVec.ofNat 32 (ids (kArgs m c) (y 0) (y 1)).val :=
  (W18_arr m ρ c 7).trans (arr4_idx (V17 m ρ) c (h4 (kArgs m c)) (in4_0 m ρ c) (in4_1 m ρ c) (in4_2 m ρ c) (in4_3 m ρ c) (in4_4 m ρ c))

theorem in5_0 (b : Fin 32) (u v : Fin 66) (k : Fin 64) : (W21 m ρ c main_v45 : Vec Ideal S32x66x66x64 .f32) (ix4 b u v k) = pad1 (zq (kArgs m c) b k) u v :=
  (e5_0 (W18 m ρ c) b u v k).trans (by rw [s4_zq]; rfl)
theorem in5_1 (b : Fin 32) (i j e : Fin 64) : (W21 m ρ c main_v41_0 : Vec Ideal S32x64x64x64 .f32) (ix4 b i j e) = zz (kArgs m c) b e i j :=
  (congrFun ((W21_of m ρ c main_v41_0 (by decide)).trans ((W20_of m ρ c main_v41_0 (by decide)).trans (W19_of m ρ c main_v41_0 (by decide)))) _).trans (by rw [s4_z]; rfl)

/-- The decoder's first convolution, -/
theorem s5_g : W22 m ρ c main_v47_0 = fun y : S32x64x64x128.Idx => g0 (kArgs m c) (y 0) (y 3) (y 1) (y 2) :=
  (W22_arr m ρ c 4).trans (arr5_g (V21 m ρ) c (zq (kArgs m c)) (in5_0 m ρ c)
    (fun ky kx k o => (e5_2 (W18 m ρ c) ky kx k o).trans (congrFun (W18_args m ρ c main_arg16 (by decide)) _))
    (fun k => (e5_3 (W18 m ρ c) k).trans (congrFun (W18_args m ρ c main_arg17 (by decide)) _)))
/-- and the squared differences of each item. -/
theorem s5_l : W22 m ρ c main_v47_1 = fun y : S32x1x128.Idx => sqdist (zq (kArgs m c) (y 0)) (zz (kArgs m c) (y 0)) :=
  (W22_arr m ρ c 5).trans (arr5_l (V21 m ρ) c (zq (kArgs m c)) (zz (kArgs m c)) (in5_0 m ρ c) (in5_1 m ρ c))

theorem s6 : W26 m ρ c main_v59 = fun y : S32x64x64x128.Idx => g1 (kArgs m c) (y 0) (y 3) (y 1) (y 2) :=
  (W26_arr m ρ c 5).trans (arr6 (V25 m ρ) c (g0 (kArgs m c))
    (fun b u v k => (e6_0 (W22 m ρ c) b u v k).trans (by rw [s5_g]; rfl))
    (fun ky kx k o => (e6_1 (W22 m ρ c) ky kx k o).trans (congrFun (W22_args m ρ c main_arg18 (by decide)) _))
    (fun k => (e6_2 (W22 m ρ c) k).trans (congrFun (W22_args m ρ c main_arg19 (by decide)) _))
    (fun k o => (e6_3 (W22 m ρ c) k o).trans (congrFun (W22_args m ρ c main_arg20 (by decide)) _))
    (fun k => (e6_4 (W22 m ρ c) k).trans (congrFun (W22_args m ρ c main_arg21 (by decide)) _)))

theorem s7 : W30 m ρ c main_v66 = fun y : S32x64x64x128.Idx => g2 (kArgs m c) (y 0) (y 3) (y 1) (y 2) :=
  (W30_arr m ρ c 5).trans (arr7 (V29 m ρ) c (g1 (kArgs m c))
    (fun b u v k => (e7_0 (W26 m ρ c) b u v k).trans (by rw [s6]; rfl))
    (fun ky kx k o => (e7_1 (W26 m ρ c) ky kx k o).trans (congrFun (W26_args m ρ c main_arg22 (by decide)) _))
    (fun k => (e7_2 (W26 m ρ c) k).trans (congrFun (W26_args m ρ c main_arg23 (by decide)) _))
    (fun k o => (e7_3 (W26 m ρ c) k o).trans (congrFun (W26_args m ρ c main_arg24 (by decide)) _))
    (fun k => (e7_4 (W26 m ρ c) k).trans (congrFun (W26_args m ρ c main_arg25 (by decide)) _)))

theorem s8 : W34 m ρ c main_v204 = pack8 (g2 (kArgs m c)) (kArgs m c).dt1w (kArgs m c).dt1b :=
  (W34_arr m ρ c 3).trans (arr8 (V33 m ρ) c (g2 (kArgs m c))
    (fun b r u v k => (e8_0 (W30 m ρ c) b r u v k).trans (by rw [s7]; rfl))
    (fun ky kx k o => e8_1 (W30 m ρ c) _ (fun k o ky kx => congrFun (W30_args m ρ c main_arg26 (by decide)) (ix4 k o ky kx)) ky kx k o)
    (fun k => (e8_2 (W30 m ρ c) k).trans (congrFun (W30_args m ρ c main_arg27 (by decide)) _)))

/-- The packed result of the first transposed convolution, read at a pixel. -/
theorem pack8_at (f : Fin 32 → Fin 128 → Fin 64 → Fin 64 → EReal) (w : Fin 128 → Fin 128 → Fin 4 → Fin 4 → EReal) (bias : Fin 128 → EReal)
    (b : Fin 32) (k i j : Fin 128) :
    pack8 f w bias (ix4 b ⟨i / 2, by omega⟩ ⟨j / 2, by omega⟩ ⟨i % 2 * 256 + j % 2 * 128 + k, by omega⟩) = relu (convT (f b) w bias k i j) := by
  refine congrArg relu (congr (congr (congrArg (convT (f b) w bias) (Fin.ext ?_)) (Fin.ext ?_)) (Fin.ext ?_))
  · show (i.val % 2 * 256 + j.val % 2 * 128 + k.val) % 128 = k.val
    omega
  · show 2 * (i.val / 2) + (i.val % 2 * 256 + j.val % 2 * 128 + k.val) / 128 / 2 = i.val
    omega
  · show 2 * (j.val / 2) + (i.val % 2 * 256 + j.val % 2 * 128 + k.val) / 128 % 2 = j.val
    omega
/-- The packed result of the second, read at a pixel. -/
theorem pack9_at (f : Fin 32 → Fin 128 → Fin 128 → Fin 128 → EReal) (w : Fin 128 → Fin 3 → Fin 4 → Fin 4 → EReal) (bias : Fin 3 → EReal)
    (b : Fin 32) (o : Fin 3) (i j : Fin 256) :
    pack9 f w bias (ix4 b ⟨i / 2, by omega⟩ ⟨j / 2, by omega⟩ ⟨(i % 2 * 2 + j % 2) * 3 + o, by omega⟩) = Ideal.tanh (convT (f b) w bias o i j) := by
  refine congrArg Ideal.tanh (congr (congr (congrArg (convT (f b) w bias) (Fin.ext ?_)) (Fin.ext ?_)) (Fin.ext ?_))
  · show ((i.val % 2 * 2 + j.val % 2) * 3 + o.val) % 3 = o.val
    omega
  · show 2 * (i.val / 2) + ((i.val % 2 * 2 + j.val % 2) * 3 + o.val) / 3 / 2 = i.val
    omega
  · show 2 * (j.val / 2) + ((i.val % 2 * 2 + j.val % 2) * 3 + o.val) / 3 % 2 = j.val
    omega

theorem s9 : W38 m ρ c main_v353 = pack9 (g3 (kArgs m c)) (kArgs m c).dt2w (kArgs m c).dt2b :=
  (W38_arr m ρ c 3).trans (arr9 (V37 m ρ) c (g3 (kArgs m c))
    (fun b r u v k => (e9_0 (W34 m ρ c) b r u v k).trans (by
      rw [s8]
      exact congrArg (fun q => pad1 q (32 * r + u) v) (funext fun i => funext fun j => pack8_at _ _ _ b k i j)))
    (fun ky kx k o => e9_1 (W34 m ρ c) _ (fun k o ky kx => congrFun (W34_args m ρ c main_arg28 (by decide)) (ix4 k o ky kx)) ky kx k o)
    (fun k => (e9_2 (W34 m ρ c) k).trans (congrFun (W34_args m ρ c main_arg29 (by decide)) _)))

/-! ## The results -/

/-- The reconstruction. -/
theorem k_recon : W39 m ρ c main_v357 = fun y : S32x3x256x256.Idx => xr (kArgs m c) (y 0) (y 1) (y 2) (y 3) := by
  funext y
  rw [eq_ix4 y]
  refine (recon_read (W38 m ρ c) _ _ _ _).trans ?_
  rw [s9]
  exact pack9_at _ _ _ _ _ _ _

/-- The codes. -/
theorem k_idx : W39 m ρ c main_v361 = fun y : S131072x1.Idx => BitVec.ofNat 32 (ids (kArgs m c) ⟨(y 0).val / 4096, by have : (y 0).val < 131072 := (y 0).isLt; omega⟩ ⟨(y 0).val % 4096, Nat.mod_lt _ (by decide)⟩).val := by
  funext y
  have hy : y = ix2 (y 0) 0 := (eq_ix2 y).trans (congrArg (ix2 (y 0)) (Subsingleton.elim (α := Fin 1) _ _))
  rw [hy]
  refine (idx_read (W38 m ρ c) _).trans ?_
  rw [W38_of m ρ c main_v41_2 (by decide), W37_of m ρ c main_v41_2 (by decide), W36_of m ρ c main_v41_2 (by decide), W35_of m ρ c main_v41_2 (by decide),
    W34_of m ρ c main_v41_2 (by decide), W33_of m ρ c main_v41_2 (by decide), W32_of m ρ c main_v41_2 (by decide), W31_of m ρ c main_v41_2 (by decide),
    W30_of m ρ c main_v41_2 (by decide), W29_of m ρ c main_v41_2 (by decide), W28_of m ρ c main_v41_2 (by decide), W27_of m ρ c main_v41_2 (by decide),
    W26_of m ρ c main_v41_2 (by decide), W25_of m ρ c main_v41_2 (by decide), W24_of m ρ c main_v41_2 (by decide), W23_of m ρ c main_v41_2 (by decide),
    W22_of m ρ c main_v41_2 (by decide), W21_of m ρ c main_v41_2 (by decide), W20_of m ρ c main_v41_2 (by decide), W19_of m ρ c main_v41_2 (by decide), s4_idx]
  rfl

/-- The loss. -/
theorem k_loss : W39 m ρ c main_v52 = fun _ : S_.Idx => Ideal.div (Ideal.ofBits FTy.f32 0x3FA00000#32 * total (kArgs m c)) (Ideal.ofBits FTy.f32 0x4B000000#32) := by
  funext y
  rw [show y = ix0 from funext fun a : Fin 0 => a.elim0, W39_of m ρ c main_v52 (by decide), W38_of m ρ c main_v52 (by decide), W37_of m ρ c main_v52 (by decide), W36_of m ρ c main_v52 (by decide), W35_of m ρ c main_v52 (by decide),
    W34_of m ρ c main_v52 (by decide), W33_of m ρ c main_v52 (by decide), W32_of m ρ c main_v52 (by decide), W31_of m ρ c main_v52 (by decide),
    W30_of m ρ c main_v52 (by decide), W29_of m ρ c main_v52 (by decide), W28_of m ρ c main_v52 (by decide), W27_of m ρ c main_v52 (by decide),
    W26_of m ρ c main_v52 (by decide)]
  exact loss_read (W22 m ρ c) _ (fun b => by rw [s5_l]; rfl)

end Cert.KernelIdeal.Gen
end
-- ==== Proof.Finite.lean ====
module
public import proofs.«01_k».proof.Pre_encoder_finite
public import proofs.«01_k».proof.Proof.RefDec
public import proofs.«01_k».proof.Proof.KNet

/-! # The precondition makes the encoder's output finite

Also the law that joins the two forms of the loss, and the equality of the two readings of the
arguments. -/

@[expose] public section
set_option maxRecDepth 16384
noncomputable section
namespace Vq
open Idealize.ShloMosaic

/-- A finite value. -/
def Re (x : EReal) : Prop := ∃ r : ℝ, x = (r : EReal)

theorem Re.zero : Re 0 := ⟨0, rfl⟩

/-- A sum of two finite values is finite. -/
theorem Re.add {x y : EReal} : Re x → Re y → Re (x + y) := by
  rintro ⟨r, rfl⟩ ⟨s, rfl⟩; exact ⟨r + s, (EReal.coe_add r s).symm⟩

/-- A product of two finite values is finite. -/
theorem Re.mul {x y : EReal} : Re x → Re y → Re (x * y) := by
  rintro ⟨r, rfl⟩ ⟨s, rfl⟩; exact ⟨r * s, (EReal.coe_mul r s).symm⟩

/-- A finite sum of finite values is finite. -/
theorem Re.sum {n : ℕ} {f : Fin n → EReal} (h : ∀ k, Re (f k)) : Re (∑ k, f k) :=
  Finset.sum_induction f Re (fun _ _ => Re.add) Re.zero fun k _ => h k

/-- The rectifier keeps finite values finite. -/
theorem Re.relu {x : EReal} (h : Re x) : Re (relu x) := by
  unfold Vq.relu
  rcases max_choice x 0 with e | e <;> rw [e]
  · exact h
  · exact Re.zero

variable {C O H W H' W' : ℕ}

/-- Padding with zeros keeps finite values finite. -/
theorem Re.pad1 {f : Fin H → Fin W → EReal} (h : ∀ i j, Re (f i j)) (u v : ℕ) : Re (pad1 f u v) := by
  unfold Vq.pad1
  split
  · exact h _ _
  · exact Re.zero

/-- Nine finite terms have a finite sum. -/
theorem Re.taps3 {t : Fin 3 → Fin 3 → EReal} (h : ∀ i j, Re (t i j)) : Re (taps3 t) :=
  ((((((((h 0 0).add (h 0 1)).add (h 0 2)).add (h 1 0)).add (h 1 1)).add (h 1 2)).add (h 2 0)).add (h 2 1)).add (h 2 2)

/-- Sixteen finite terms have a finite sum. -/
theorem Re.taps4 {t : Fin 4 → Fin 4 → EReal} (h : ∀ i j, Re (t i j)) : Re (taps4 t) :=
  (((((((((((((((h 0 0).add (h 0 1)).add (h 0 2)).add (h 0 3)).add (h 1 0)).add (h 1 1)).add (h 1 2)).add (h 1 3)).add
    (h 2 0)).add (h 2 1)).add (h 2 2)).add (h 2 3)).add (h 3 0)).add (h 3 1)).add (h 3 2)).add (h 3 3)

section
variable {f : Fin C → Fin H → Fin W → EReal} (hf : ∀ c i j, Re (f c i j))
include hf

/-- A 3 by 3 convolution of finite values is finite. -/
theorem Re.conv3 {w : Fin O → Fin C → Fin 3 → Fin 3 → EReal} {b : Fin O → EReal}
    (hw : ∀ o c i j, Re (w o c i j)) (hb : ∀ o, Re (b o)) (o : Fin O) (i : Fin H) (j : Fin W) : Re (conv3 f w b o i j) :=
  (Re.taps3 fun _ _ => Re.sum fun c => (Re.pad1 (hf c) _ _).mul (hw _ _ _ _)).add (hb o)

/-- A 1 by 1 convolution of finite values is finite. -/
theorem Re.conv1 {w : Fin O → Fin C → EReal} {b : Fin O → EReal}
    (hw : ∀ o c, Re (w o c)) (hb : ∀ o, Re (b o)) (o : Fin O) (i : Fin H) (j : Fin W) : Re (conv1 f w b o i j) :=
  (Re.sum fun c => (hf c i j).mul (hw _ _)).add (hb o)

/-- A strided, rectified 4 by 4 convolution of finite values is finite. -/
theorem Re.conv4 {w : Fin O → Fin C → Fin 4 → Fin 4 → EReal} {b : Fin O → EReal}
    (hw : ∀ o c i j, Re (w o c i j)) (hb : ∀ o, Re (b o)) (o : Fin O) (i : Fin H') (j : Fin W') : Re (conv4 f w b o i j) :=
  ((Re.taps4 fun _ _ => Re.sum fun c => (Re.pad1 (hf c) _ _).mul (hw _ _ _ _)).add (hb o)).relu

/-- A residual block of finite values is finite. -/
theorem Re.res {w3 : Fin C → Fin C → Fin 3 → Fin 3 → EReal} {b3 : Fin C → EReal} {w1 : Fin C → Fin C → EReal} {b1 : Fin C → EReal}
    (h3 : ∀ o c i j, Re (w3 o c i j)) (hb3 : ∀ o, Re (b3 o)) (h1 : ∀ o c, Re (w1 o c)) (hb1 : ∀ o, Re (b1 o))
    (o : Fin C) (i : Fin H) (j : Fin W) : Re (res f w3 b3 w1 b1 o i j) :=
  (hf o i j).add (Re.conv1 (fun k i j => (Re.conv3 (fun c i j => (hf c i j).relu) h3 hb3 k i j).relu) h1 hb1 o i j)
end

/-- With finite images and finite encoder weights the encoder's output is finite. -/
theorem zz_finite (A : Args) (hx : ∀ b c i j, Re (A.x b c i j))
    (hw1 : ∀ o c i j, Re (A.ew1 o c i j)) (hb1 : ∀ o, Re (A.eb1 o))
    (hw2 : ∀ o c i j, Re (A.ew2 o c i j)) (hb2 : ∀ o, Re (A.eb2 o))
    (h3 : ∀ o c i j, Re (A.er1w3 o c i j)) (h4 : ∀ o, Re (A.er1b3 o)) (h5 : ∀ o c, Re (A.er1w1 o c)) (h6 : ∀ o, Re (A.er1b1 o))
    (h7 : ∀ o c i j, Re (A.er2w3 o c i j)) (h8 : ∀ o, Re (A.er2b3 o)) (h9 : ∀ o c, Re (A.er2w1 o c)) (h10 : ∀ o, Re (A.er2b1 o))
    (hw : ∀ o c, Re (A.eow o c)) (hb : ∀ o, Re (A.eob o)) (b : Fin 32) (e i j : Fin 64) : Re (zz A b e i j) :=
  Re.conv1 (Re.res (Re.res (Re.conv4 (Re.conv4 (hx b) hw1 hb1) hw2 hb2) h3 h4 h5 h6) h7 h8 h9 h10) hw hb e i j

/-- A value whose absolute value compares below infinity is finite. -/
theorem re_of_lt {S : Shape} {p : Fin 0 → Fin S.rank} (hb : Shape.BroadcastsInDim ⟨0, ![]⟩ S p) (a : FVec Ideal S .f32)
    (h : cmpf .olt (Host.absf a) (broadcastInDim S p hb (constant ⟨0, ![]⟩ .f32 0x7F800000#32)) = fun _ => 1#1)
    (i : S.Idx) : Re (a i) := by
  have e := congrFun h i
  replace e : BitVec.ofBool (decide (max (a i) (-(a i)) < Ideal.ofBits .f32 0x7F800000#32)) = 1#1 := e
  rw [ofBits_inf] at e
  have l : max (a i) (-(a i)) < ⊤ := by
    by_contra hn
    rw [decide_eq_false hn] at e
    exact absurd e (by decide)
  have l1 : a i ≠ ⊤ := ((le_max_left _ _).trans_lt l).ne
  have l2 : a i ≠ ⊥ := fun hbot => ((le_max_right _ _).trans_lt l).ne (by rw [hbot]; rfl)
  exact ⟨(a i).toReal, (EReal.coe_toReal l1 l2).symm⟩

/-- The kernel's form of the loss is the reference's. -/
theorem loss_eq (s : EReal) :
    Ideal.div (Ideal.ofBits FTy.f32 0x3FA00000#32 * s) (Ideal.ofBits FTy.f32 0x4B000000#32)
      = Ideal.div s (Ideal.ofBits FTy.f32 0x4B000000#32)
        + Ideal.ofBits FTy.f32 0x3E800000#32 * Ideal.div s (Ideal.ofBits FTy.f32 0x4B000000#32) := by
  have hN : Ideal.ofBits FTy.f32 0x4B000000#32 ≠ 0 := by
    simp [Ideal.ofBits, Ideal.ieee]
  have hc : Ideal.ofBits FTy.f32 0x3FA00000#32 = 1 + Ideal.ofBits FTy.f32 0x3E800000#32 := by
    simp [Ideal.ofBits, Ideal.ieee]
    rw [← EReal.coe_one, ← EReal.coe_mul, ← EReal.coe_mul, ← EReal.coe_add]
    norm_num
  have h0 : (0 : EReal) ≤ Ideal.ofBits FTy.f32 0x3E800000#32 := by
    simp [Ideal.ofBits, Ideal.ieee]
    rw [← EReal.coe_mul]
    exact EReal.coe_nonneg.2 (by positivity)
  unfold Ideal.div
  rw [if_neg hN, if_neg hN, mul_assoc, hc, EReal.right_distrib_of_nonneg zero_le_one h0, one_mul]

/-- Two memories that agree on every argument give the two programs the same arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : @Eq (Vec Ideal Cert.KernelIdeal.S32x3x256x256 .f32) (m' (c.tc.loc Cert.ReferenceIdeal.main_arg0)) (m (c.tc.loc Cert.KernelIdeal.main_arg0)))
    (e1 : @Eq (Vec Ideal Cert.KernelIdeal.S128x3x4x4 .f32) (m' (c.tc.loc Cert.ReferenceIdeal.main_arg1)) (m (c.tc.loc Cert.KernelIdeal.main_arg1)))
    (e2 : @Eq (Vec Ideal Cert.KernelIdeal.S128 .f32) (m' (c.tc.loc Cert.ReferenceIdeal.main_arg2)) (m (c.tc.loc Cert.KernelIdeal.main_arg2)))
    (e3 : @Eq (Vec Ideal Cert.KernelIdeal.S128x128x4x4 .f32) (m' (c.tc.loc Cert.ReferenceIdeal.main_arg3)) (m (c.tc.loc Cert.KernelIdeal.main_arg3)))
    (e4 : @Eq (Vec Ideal Cert.KernelIdeal.S128 .f32) (m' (c.tc.loc Cert.ReferenceIdeal.main_arg4)) (m (c.tc.loc Cert.KernelIdeal.main_arg4)))
    (e5 : @Eq (Vec Ideal Cert.KernelIdeal.S128x128x3x3 .f32) (m' (c.tc.loc Cert.ReferenceIdeal.main_arg5)) (m (c.tc.loc Cert.KernelIdeal.main_arg5)))
    (e6 : @Eq (Vec Ideal Cert.KernelIdeal.S128 .f32) (m' (c.tc.loc Cert.ReferenceIdeal.main_arg6)) (m (c.tc.loc Cert.KernelIdeal.main_arg6)))
    (e7 : @Eq (Vec Ideal Cert.KernelIdeal.S128x128x1x1 .f32) (m' (c.tc.loc Cert.ReferenceIdeal.main_arg7)) (m (c.tc.loc Cert.KernelIdeal.main_arg7)))
    (e8 : @Eq (Vec Ideal Cert.KernelIdeal.S128 .f32) (m' (c.tc.loc Cert.ReferenceIdeal.main_arg8)) (m (c.tc.loc Cert.KernelIdeal.main_arg8)))
    (e9 : @Eq (Vec Ideal Cert.KernelIdeal.S128x128x3x3 .f32) (m' (c.tc.loc Cert.ReferenceIdeal.main_arg9)) (m (c.tc.loc Cert.KernelIdeal.main_arg9)))
    (e10 : @Eq (Vec Ideal Cert.KernelIdeal.S128 .f32) (m' (c.tc.loc Cert.ReferenceIdeal.main_arg10)) (m (c.tc.loc Cert.KernelIdeal.main_arg10)))
    (e11 : @Eq (Vec Ideal Cert.KernelIdeal.S128x128x1x1 .f32) (m' (c.tc.loc Cert.ReferenceIdeal.main_arg11)) (m (c.tc.loc Cert.KernelIdeal.main_arg11)))
    (e12 : @Eq (Vec Ideal Cert.KernelIdeal.S128 .f32) (m' (c.tc.loc Cert.ReferenceIdeal.main_arg12)) (m (c.tc.loc Cert.KernelIdeal.main_arg12)))
    (e13 : @Eq (Vec Ideal Cert.KernelIdeal.S64x128x1x1 .f32) (m' (c.tc.loc Cert.ReferenceIdeal.main_arg13)) (m (c.tc.loc Cert.KernelIdeal.main_arg13)))
    (e14 : @Eq (Vec Ideal Cert.KernelIdeal.S64 .f32) (m' (c.tc.loc Cert.ReferenceIdeal.main_arg14)) (m (c.tc.loc Cert.KernelIdeal.main_arg14)))
    (e15 : @Eq (Vec Ideal Cert.KernelIdeal.S512x64 .f32) (m' (c.tc.loc Cert.ReferenceIdeal.main_arg15)) (m (c.tc.loc Cert.KernelIdeal.main_arg15)))
    (e16 : @Eq (Vec Ideal Cert.KernelIdeal.S128x64x3x3 .f32) (m' (c.tc.loc Cert.ReferenceIdeal.main_arg16)) (m (c.tc.loc Cert.KernelIdeal.main_arg16)))
    (e17 : @Eq (Vec Ideal Cert.KernelIdeal.S128 .f32) (m' (c.tc.loc Cert.ReferenceIdeal.main_arg17)) (m (c.tc.loc Cert.KernelIdeal.main_arg17)))
    (e18 : @Eq (Vec Ideal Cert.KernelIdeal.S128x128x3x3 .f32) (m' (c.tc.loc Cert.ReferenceIdeal.main_arg18)) (m (c.tc.loc Cert.KernelIdeal.main_arg18)))
    (e19 : @Eq (Vec Ideal Cert.KernelIdeal.S128 .f32) (m' (c.tc.loc Cert.ReferenceIdeal.main_arg19)) (m (c.tc.loc Cert.KernelIdeal.main_arg19)))
    (e20 : @Eq (Vec Ideal Cert.KernelIdeal.S128x128x1x1 .f32) (m' (c.tc.loc Cert.ReferenceIdeal.main_arg20)) (m (c.tc.loc Cert.KernelIdeal.main_arg20)))
    (e21 : @Eq (Vec Ideal Cert.KernelIdeal.S128 .f32) (m' (c.tc.loc Cert.ReferenceIdeal.main_arg21)) (m (c.tc.loc Cert.KernelIdeal.main_arg21)))
    (e22 : @Eq (Vec Ideal Cert.KernelIdeal.S128x128x3x3 .f32) (m' (c.tc.loc Cert.ReferenceIdeal.main_arg22)) (m (c.tc.loc Cert.KernelIdeal.main_arg22)))
    (e23 : @Eq (Vec Ideal Cert.KernelIdeal.S128 .f32) (m' (c.tc.loc Cert.ReferenceIdeal.main_arg23)) (m (c.tc.loc Cert.KernelIdeal.main_arg23)))
    (e24 : @Eq (Vec Ideal Cert.KernelIdeal.S128x128x1x1 .f32) (m' (c.tc.loc Cert.ReferenceIdeal.main_arg24)) (m (c.tc.loc Cert.KernelIdeal.main_arg24)))
    (e25 : @Eq (Vec Ideal Cert.KernelIdeal.S128 .f32) (m' (c.tc.loc Cert.ReferenceIdeal.main_arg25)) (m (c.tc.loc Cert.KernelIdeal.main_arg25)))
    (e26 : @Eq (Vec Ideal Cert.KernelIdeal.S128x128x4x4 .f32) (m' (c.tc.loc Cert.ReferenceIdeal.main_arg26)) (m (c.tc.loc Cert.KernelIdeal.main_arg26)))
    (e27 : @Eq (Vec Ideal Cert.KernelIdeal.S128 .f32) (m' (c.tc.loc Cert.ReferenceIdeal.main_arg27)) (m (c.tc.loc Cert.KernelIdeal.main_arg27)))
    (e28 : @Eq (Vec Ideal Cert.KernelIdeal.S128x3x4x4 .f32) (m' (c.tc.loc Cert.ReferenceIdeal.main_arg28)) (m (c.tc.loc Cert.KernelIdeal.main_arg28)))
    (e29 : @Eq (Vec Ideal Cert.KernelIdeal.S3 .f32) (m' (c.tc.loc Cert.ReferenceIdeal.main_arg29)) (m (c.tc.loc Cert.KernelIdeal.main_arg29))) :
    Cert.ReferenceIdeal.Value.rArgs (StableHlo.launchContents m' c) = Cert.KernelIdeal.Gen.kArgs m c := by
  refine Eq.trans (b := ⟨fun o k i j => (m' (c.tc.loc Cert.ReferenceIdeal.main_arg0) : Vec Ideal Cert.KernelIdeal.S32x3x256x256 .f32) (ix4 o k i j), fun o k i j => (m' (c.tc.loc Cert.ReferenceIdeal.main_arg1) : Vec Ideal Cert.KernelIdeal.S128x3x4x4 .f32) (ix4 o k i j), fun k => (m' (c.tc.loc Cert.ReferenceIdeal.main_arg2) : Vec Ideal Cert.KernelIdeal.S128 .f32) (ix1 k), fun o k i j => (m' (c.tc.loc Cert.ReferenceIdeal.main_arg3) : Vec Ideal Cert.KernelIdeal.S128x128x4x4 .f32) (ix4 o k i j), fun k => (m' (c.tc.loc Cert.ReferenceIdeal.main_arg4) : Vec Ideal Cert.KernelIdeal.S128 .f32) (ix1 k), fun o k i j => (m' (c.tc.loc Cert.ReferenceIdeal.main_arg5) : Vec Ideal Cert.KernelIdeal.S128x128x3x3 .f32) (ix4 o k i j), fun k => (m' (c.tc.loc Cert.ReferenceIdeal.main_arg6) : Vec Ideal Cert.KernelIdeal.S128 .f32) (ix1 k), fun o k => (m' (c.tc.loc Cert.ReferenceIdeal.main_arg7) : Vec Ideal Cert.KernelIdeal.S128x128x1x1 .f32) (ix4 o k 0 0), fun k => (m' (c.tc.loc Cert.ReferenceIdeal.main_arg8) : Vec Ideal Cert.KernelIdeal.S128 .f32) (ix1 k), fun o k i j => (m' (c.tc.loc Cert.ReferenceIdeal.main_arg9) : Vec Ideal Cert.KernelIdeal.S128x128x3x3 .f32) (ix4 o k i j), fun k => (m' (c.tc.loc Cert.ReferenceIdeal.main_arg10) : Vec Ideal Cert.KernelIdeal.S128 .f32) (ix1 k), fun o k => (m' (c.tc.loc Cert.ReferenceIdeal.main_arg11) : Vec Ideal Cert.KernelIdeal.S128x128x1x1 .f32) (ix4 o k 0 0), fun k => (m' (c.tc.loc Cert.ReferenceIdeal.main_arg12) : Vec Ideal Cert.KernelIdeal.S128 .f32) (ix1 k), fun o k => (m' (c.tc.loc Cert.ReferenceIdeal.main_arg13) : Vec Ideal Cert.KernelIdeal.S64x128x1x1 .f32) (ix4 o k 0 0), fun k => (m' (c.tc.loc Cert.ReferenceIdeal.main_arg14) : Vec Ideal Cert.KernelIdeal.S64 .f32) (ix1 k), fun n e => (m' (c.tc.loc Cert.ReferenceIdeal.main_arg15) : Vec Ideal Cert.KernelIdeal.S512x64 .f32) (ix2 n e), fun o k i j => (m' (c.tc.loc Cert.ReferenceIdeal.main_arg16) : Vec Ideal Cert.KernelIdeal.S128x64x3x3 .f32) (ix4 o k i j), fun k => (m' (c.tc.loc Cert.ReferenceIdeal.main_arg17) : Vec Ideal Cert.KernelIdeal.S128 .f32) (ix1 k), fun o k i j => (m' (c.tc.loc Cert.ReferenceIdeal.main_arg18) : Vec Ideal Cert.KernelIdeal.S128x128x3x3 .f32) (ix4 o k i j), fun k => (m' (c.tc.loc Cert.ReferenceIdeal.main_arg19) : Vec Ideal Cert.KernelIdeal.S128 .f32) (ix1 k), fun o k => (m' (c.tc.loc Cert.ReferenceIdeal.main_arg20) : Vec Ideal Cert.KernelIdeal.S128x128x1x1 .f32) (ix4 o k 0 0), fun k => (m' (c.tc.loc Cert.ReferenceIdeal.main_arg21) : Vec Ideal Cert.KernelIdeal.S128 .f32) (ix1 k), fun o k i j => (m' (c.tc.loc Cert.ReferenceIdeal.main_arg22) : Vec Ideal Cert.KernelIdeal.S128x128x3x3 .f32) (ix4 o k i j), fun k => (m' (c.tc.loc Cert.ReferenceIdeal.main_arg23) : Vec Ideal Cert.KernelIdeal.S128 .f32) (ix1 k), fun o k => (m' (c.tc.loc Cert.ReferenceIdeal.main_arg24) : Vec Ideal Cert.KernelIdeal.S128x128x1x1 .f32) (ix4 o k 0 0), fun k => (m' (c.tc.loc Cert.ReferenceIdeal.main_arg25) : Vec Ideal Cert.KernelIdeal.S128 .f32) (ix1 k), fun o k i j => (m' (c.tc.loc Cert.ReferenceIdeal.main_arg26) : Vec Ideal Cert.KernelIdeal.S128x128x4x4 .f32) (ix4 o k i j), fun k => (m' (c.tc.loc Cert.ReferenceIdeal.main_arg27) : Vec Ideal Cert.KernelIdeal.S128 .f32) (ix1 k), fun o k i j => (m' (c.tc.loc Cert.ReferenceIdeal.main_arg28) : Vec Ideal Cert.KernelIdeal.S128x3x4x4 .f32) (ix4 o k i j), fun k => (m' (c.tc.loc Cert.ReferenceIdeal.main_arg29) : Vec Ideal Cert.KernelIdeal.S3 .f32) (ix1 k)⟩) rfl ?_
  rw [e0, e1, e2, e3, e4, e5, e6, e7, e8, e9, e10, e11, e12, e13, e14, e15, e16, e17, e18, e19, e20, e21, e22, e23, e24, e25, e26, e27, e28, e29]
  rfl

section
variable [Cert.Pre_encoder_finite.Facts]
  (m : (ℓ : Loc Cert.KernelIdeal.nD Cert.KernelIdeal.τ Cert.KernelIdeal.sig) → Buf (Elt Ideal) ℓ) (c : Dev Cert.KernelIdeal.nD)

/-- The precondition's fifteen comparisons, of a device's arguments. -/
abbrev preOf := Cert.Pre_encoder_finite.fn (F := Ideal)
    (m (c.tc.loc Cert.KernelIdeal.main_arg0)) (m (c.tc.loc Cert.KernelIdeal.main_arg1)) (m (c.tc.loc Cert.KernelIdeal.main_arg2))
    (m (c.tc.loc Cert.KernelIdeal.main_arg3)) (m (c.tc.loc Cert.KernelIdeal.main_arg4)) (m (c.tc.loc Cert.KernelIdeal.main_arg5))
    (m (c.tc.loc Cert.KernelIdeal.main_arg6)) (m (c.tc.loc Cert.KernelIdeal.main_arg7)) (m (c.tc.loc Cert.KernelIdeal.main_arg8))
    (m (c.tc.loc Cert.KernelIdeal.main_arg9)) (m (c.tc.loc Cert.KernelIdeal.main_arg10)) (m (c.tc.loc Cert.KernelIdeal.main_arg11))
    (m (c.tc.loc Cert.KernelIdeal.main_arg12)) (m (c.tc.loc Cert.KernelIdeal.main_arg13)) (m (c.tc.loc Cert.KernelIdeal.main_arg14))
    (m (c.tc.loc Cert.KernelIdeal.main_arg15)) (m (c.tc.loc Cert.KernelIdeal.main_arg16)) (m (c.tc.loc Cert.KernelIdeal.main_arg17))
    (m (c.tc.loc Cert.KernelIdeal.main_arg18)) (m (c.tc.loc Cert.KernelIdeal.main_arg19)) (m (c.tc.loc Cert.KernelIdeal.main_arg20))
    (m (c.tc.loc Cert.KernelIdeal.main_arg21)) (m (c.tc.loc Cert.KernelIdeal.main_arg22)) (m (c.tc.loc Cert.KernelIdeal.main_arg23))
    (m (c.tc.loc Cert.KernelIdeal.main_arg24)) (m (c.tc.loc Cert.KernelIdeal.main_arg25)) (m (c.tc.loc Cert.KernelIdeal.main_arg26))
    (m (c.tc.loc Cert.KernelIdeal.main_arg27)) (m (c.tc.loc Cert.KernelIdeal.main_arg28)) (m (c.tc.loc Cert.KernelIdeal.main_arg29))

/-- Where the precondition holds the encoder's output is finite. -/
theorem pre_finite (h0 : (preOf m c).1 = fun _ => 1#1)
    (h1 : (preOf m c).2.1 = fun _ => 1#1)
    (h2 : (preOf m c).2.2.1 = fun _ => 1#1)
    (h3 : (preOf m c).2.2.2.1 = fun _ => 1#1)
    (h4 : (preOf m c).2.2.2.2.1 = fun _ => 1#1)
    (h5 : (preOf m c).2.2.2.2.2.1 = fun _ => 1#1)
    (h6 : (preOf m c).2.2.2.2.2.2.1 = fun _ => 1#1)
    (h7 : (preOf m c).2.2.2.2.2.2.2.1 = fun _ => 1#1)
    (h8 : (preOf m c).2.2.2.2.2.2.2.2.1 = fun _ => 1#1)
    (h9 : (preOf m c).2.2.2.2.2.2.2.2.2.1 = fun _ => 1#1)
    (h10 : (preOf m c).2.2.2.2.2.2.2.2.2.2.1 = fun _ => 1#1)
    (h11 : (preOf m c).2.2.2.2.2.2.2.2.2.2.2.1 = fun _ => 1#1)
    (h12 : (preOf m c).2.2.2.2.2.2.2.2.2.2.2.2.1 = fun _ => 1#1)
    (h13 : (preOf m c).2.2.2.2.2.2.2.2.2.2.2.2.2.1 = fun _ => 1#1)
    (h14 : (preOf m c).2.2.2.2.2.2.2.2.2.2.2.2.2.2 = fun _ => 1#1) :
    Cert.ReferenceIdeal.Value.FiniteZ (Cert.KernelIdeal.Gen.kArgs m c) := fun b e i j =>
  zz_finite (Cert.KernelIdeal.Gen.kArgs m c)
    (fun o k i j => re_of_lt (Cert.Pre_encoder_finite.Facts.bcast_S_S32x3x256x256) (m (c.tc.loc Cert.KernelIdeal.main_arg0)) h0 (ix4 o k i j))
    (fun o k i j => re_of_lt (Cert.Pre_encoder_finite.Facts.bcast_S_S128x3x4x4) (m (c.tc.loc Cert.KernelIdeal.main_arg1)) h1 (ix4 o k i j))
    (fun o => re_of_lt (Cert.Pre_encoder_finite.Facts.bcast_S_S128) (m (c.tc.loc Cert.KernelIdeal.main_arg2)) h2 (ix1 o))
    (fun o k i j => re_of_lt (Cert.Pre_encoder_finite.Facts.bcast_S_S128x128x4x4) (m (c.tc.loc Cert.KernelIdeal.main_arg3)) h3 (ix4 o k i j))
    (fun o => re_of_lt (Cert.Pre_encoder_finite.Facts.bcast_S_S128) (m (c.tc.loc Cert.KernelIdeal.main_arg4)) h4 (ix1 o))
    (fun o k i j => re_of_lt (Cert.Pre_encoder_finite.Facts.bcast_S_S128x128x3x3) (m (c.tc.loc Cert.KernelIdeal.main_arg5)) h5 (ix4 o k i j))
    (fun o => re_of_lt (Cert.Pre_encoder_finite.Facts.bcast_S_S128) (m (c.tc.loc Cert.KernelIdeal.main_arg6)) h6 (ix1 o))
    (fun o k => re_of_lt (Cert.Pre_encoder_finite.Facts.bcast_S_S128x128x1x1) (m (c.tc.loc Cert.KernelIdeal.main_arg7)) h7 (ix4 o k 0 0))
    (fun o => re_of_lt (Cert.Pre_encoder_finite.Facts.bcast_S_S128) (m (c.tc.loc Cert.KernelIdeal.main_arg8)) h8 (ix1 o))
    (fun o k i j => re_of_lt (Cert.Pre_encoder_finite.Facts.bcast_S_S128x128x3x3) (m (c.tc.loc Cert.KernelIdeal.main_arg9)) h9 (ix4 o k i j))
    (fun o => re_of_lt (Cert.Pre_encoder_finite.Facts.bcast_S_S128) (m (c.tc.loc Cert.KernelIdeal.main_arg10)) h10 (ix1 o))
    (fun o k => re_of_lt (Cert.Pre_encoder_finite.Facts.bcast_S_S128x128x1x1) (m (c.tc.loc Cert.KernelIdeal.main_arg11)) h11 (ix4 o k 0 0))
    (fun o => re_of_lt (Cert.Pre_encoder_finite.Facts.bcast_S_S128) (m (c.tc.loc Cert.KernelIdeal.main_arg12)) h12 (ix1 o))
    (fun o k => re_of_lt (Cert.Pre_encoder_finite.Facts.bcast_S_S64x128x1x1) (m (c.tc.loc Cert.KernelIdeal.main_arg13)) h13 (ix4 o k 0 0))
    (fun o => re_of_lt (Cert.Pre_encoder_finite.Facts.bcast_S_S64) (m (c.tc.loc Cert.KernelIdeal.main_arg14)) h14 (ix1 o)) b e i j
end

end Vq
-- ==== Proof.KRun.lean ====
module
public import proofs.«01_k».proof.Proof.Gen.KernelIdeal.Frame

/-! # A run of the kernel, and what every buffer holds at its end -/

@[expose] public section
set_option maxRecDepth 16384
noncomputable section
namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every run ends with each unscoped buffer at what the last host stretch leaves in it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W39 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W39 m ρ c b)
    (hfin := fun c s' => by
      iintro ⟨⟨Hh, -⟩, HSI⟩
      unfold StableHlo.held
      imodintro
      iapply (pointsTo_read_all (Pipeline.ucRefs τ sig) (fun b => (((c : Thread nD τ)).1, b)) (W39 m ρ c) s')
      isplitl [Hh] <;> iassumption)
    (hQ := fun s h hz => h)

end Cert.KernelIdeal.Gen
end
-- ==== Proof.RefNet.lean ====
module
public import proofs.«01_k».proof.Proof.RefDec

/-! # The reference's results -/

@[expose] public section
set_option maxRecDepth 16384
set_option maxHeartbeats 2000000
noncomputable section
namespace Cert.ReferenceIdeal.Value
open Idealize.ShloMosaic Idealize.ShloMosaic.TcCoe Idealize.ShloMosaic.StableHlo
open Cert.ReferenceIdeal Cert.ReferenceIdeal.Gen
open Vq

theorem ext4 {α : Type} {n0 n1 n2 n3 : ℕ} {f g : (⟨4, ![n0, n1, n2, n3]⟩ : Shape).Idx → α}
    (h : ∀ b o i j, f (ix4 b o i j) = g (ix4 b o i j)) : f = g :=
  funext fun y => by rw [eq_ix4 y]; exact h _ _ _ _

theorem ext2 {α : Type} {n0 n1 : ℕ} {f g : (⟨2, ![n0, n1]⟩ : Shape).Idx → α}
    (h : ∀ b o, f (ix2 b o) = g (ix2 b o)) : f = g :=
  funext fun y => by rw [eq_ix2 y]; exact h _ _

theorem ext0 {α : Type} {f g : (⟨0, ![]⟩ : Shape).Idx → α} (h : f ix0 = g ix0) : f = g :=
  funext fun y => by rw [show y = ix0 from funext fun a : Fin 0 => a.elim0]; exact h

/-- The mean of the squared differences is the sum over all items, rows, columns and channels. -/
theorem total_eq (A : Args) :
    (∑ b : Fin 32, ∑ e : Fin 64, ∑ i : Fin 64, ∑ j : Fin 64, (zq A b e i j - zz A b e i j) * (zq A b e i j - zz A b e i j)) = total A := by
  unfold total Cert.KernelIdeal.Gen.sqdist
  refine Finset.sum_congr rfl fun b _ => ?_
  rw [Finset.sum_comm]
  exact Finset.sum_congr rfl fun i _ => Finset.sum_comm

/-- A host sum over all four axes. -/
theorem host_total {n0 n1 n2 n3 : ℕ} (h : (⟨4, ![n0, n1, n2, n3]⟩ : Shape).ReducesTo [0, 1, 2, 3] ⟨0, ![]⟩)
    (v : (⟨4, ![n0, n1, n2, n3]⟩ : Shape).Idx → EReal) (j : (⟨0, ![]⟩ : Shape).Idx) :
    Ideal.hostReduceAdd h v 0 j = ∑ a : Fin n0, ∑ b : Fin n1, ∑ c : Fin n2, ∑ e : Fin n3, v (ix4 a b c e) := by
  unfold Ideal.hostReduceAdd
  rw [zero_add, ← sum_idx4]
  refine Finset.sum_congr (Finset.filter_true_of_mem fun i _ => ?_) fun _ _ => rfl
  exact funext fun a : Fin 0 => a.elim0

variable (V : Valuation τ sig (Elt Ideal))

/-- The sum of the first squared differences. -/
theorem sum365 (j : (⟨0, ![]⟩ : Shape).Idx) :
    Ideal.hostReduceAdd reducesTo_S32x64x64x64_S_d0_1_2_3 (mulf (res_main_v369 V : FVec Ideal S32x64x64x64 .f32) (res_main_v369 V)) 0 j
      = total (rArgs V) := by
  rw [← total_eq]
  refine (host_total _ _ j).trans ?_
  refine Finset.sum_congr rfl fun b _ => Finset.sum_congr rfl fun e _ => Finset.sum_congr rfl fun i _ => Finset.sum_congr rfl fun k _ => ?_
  unfold res_main_v369
  pointwise
  simp only [v368_at, v350_at]

/-- The sum of the second squared differences. -/
theorem sum369 (j : (⟨0, ![]⟩ : Shape).Idx) :
    Ideal.hostReduceAdd reducesTo_S32x64x64x64_S_d0_1_2_3 (mulf (res_main_v373 V : FVec Ideal S32x64x64x64 .f32) (res_main_v373 V)) 0 j
      = total (rArgs V) := sum365 V j

variable (m : (ℓ : Loc nD τ sig) → Buf (Elt Ideal) ℓ) (ρ : Dev nD → PrngReg)

/-- The reference's three results, as functions of its arguments. -/
theorem r_run (hz : ∀ c, FiniteZ (rArgs (launchContents m c))) :
    θ_run defs (onTc (τ := τ) (main (F := Ideal))) ⟨m, fun _ => 0, ρ⟩ fun r => ∀ c : Dev nD,
      r.2.mem ((c.tc : Thread nD τ).loc main_v775)
        = (fun y : S32x3x256x256.Idx => xr (rArgs (launchContents m c)) (y 0) (y 1) (y 2) (y 3))
      ∧ r.2.mem ((c.tc : Thread nD τ).loc main_v378)
        = (fun _ : S_.Idx => Ideal.div (total (rArgs (launchContents m c))) (Ideal.ofBits FTy.f32 0x4B000000#32)
            + Ideal.ofBits FTy.f32 0x3E800000#32 * Ideal.div (total (rArgs (launchContents m c))) (Ideal.ofBits FTy.f32 0x4B000000#32))
      ∧ r.2.mem ((c.tc : Thread nD τ).loc main_v776)
        = (fun y : S131072x1.Idx => BitVec.ofNat 32 (ids (rArgs (launchContents m c)) ⟨(y 0).val / 4096, by have : (y 0).val < 131072 := (y 0).2; omega⟩ ⟨(y 0).val % 4096, by omega⟩).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29) := by
  refine (θ_run defs _ _).mono (fun r h c => ⟨(h c).1.trans (ext4 fun b o i j => ?_), (h c).2.1.trans (ext0 ?_),
    (h c).2.2.1.trans (ext2 fun n o => ?_), (h c).2.2.2⟩) (run m ρ)
  · pointwise
    show _ = Ideal.tanh (convT (g3 (rArgs (launchContents m c)) b) (rArgs (launchContents m c)).dt2w (rArgs (launchContents m c)).dt2b (o : Fin 3) i j)
    refine Eq.trans ?_ (congrArg Ideal.tanh (convT_eq (g3 (rArgs (launchContents m c)) b) (rArgs (launchContents m c)).dt2w (rArgs (launchContents m c)).dt2b (o : Fin 3) (i : Fin 256) (j : Fin 256)).symm)
    simp only [v735_at _ (hz c), v3_at, v676_at _ (hz c), Nat.add_comm 1, Nat.add_comm 2, Nat.add_comm 3]
    rfl
  · pointwise
    exact congrArg₂ (fun s t : EReal => Ideal.div s (Ideal.ofBits FTy.f32 0x4B000000#32)
      + Ideal.ofBits FTy.f32 0x3E800000#32 * Ideal.div t (Ideal.ofBits FTy.f32 0x4B000000#32)) (sum365 _ ix0) (sum369 _ ix0)
  · pointwise
    exact v366_at _ n

end Cert.ReferenceIdeal.Value
end
-- ==== Proof.Final.lean ====
module
public import proofs.«01_k».proof.Proof.Finite
public import proofs.«01_k».proof.Proof.KRun
public import proofs.«01_k».proof.Proof.RefNet

/-! # Both programs end at the same three arrays -/

@[expose] public section
set_option maxRecDepth 16384
noncomputable section
namespace Vq
open Idealize.ShloMosaic Idealize.ShloMosaic.TcCoe Idealize.SL.Sem
open Cert.KernelIdeal.Gen (kArgs)

variable (m : (ℓ : Loc Cert.KernelIdeal.nD Cert.KernelIdeal.τ Cert.KernelIdeal.sig) → Buf (Elt Ideal) ℓ) (c : Dev Cert.KernelIdeal.nD)

/-- The reconstructed images. -/
def mRecon : Vec Ideal Cert.KernelIdeal.S32x3x256x256 .f32 := fun y => xr (kArgs m c) (y 0) (y 1) (y 2) (y 3)
/-- The loss. -/
def mLoss : Vec Ideal Cert.KernelIdeal.S_ .f32 := fun _ =>
  Ideal.div (Ideal.ofBits FTy.f32 0x3FA00000#32 * total (kArgs m c)) (Ideal.ofBits FTy.f32 0x4B000000#32)
/-- The chosen codes. -/
def mIds : IVec Cert.KernelIdeal.S131072x1 32 := fun y =>
  BitVec.ofNat 32 (ids (kArgs m c) ⟨(y 0).val / 4096, by have : (y 0).val < 131072 := (y 0).2; omega⟩ ⟨(y 0).val % 4096, by omega⟩).val

/-- The kernel ends at the three arrays, its arguments unchanged. -/
theorem k_final (ρ : Dev Cert.KernelIdeal.nD → PrngReg) :
    θ_run Cert.KernelIdeal.defs (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v357) = mRecon m c
      ∧ r.2.mem ((c.tc : Thread Cert.KernelIdeal.nD Cert.KernelIdeal.τ).loc Cert.KernelIdeal.main_v52) = mLoss m c
      ∧ r.2.mem ((c.tc : Thread Cert.KernelIdeal.nD Cert.KernelIdeal.τ).loc Cert.KernelIdeal.main_v361) = mIds m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)) :=
  (θ_run Cert.KernelIdeal.defs _ _).mono (fun r h c =>
    ⟨(h c _ (Cert.KernelIdeal.Gen.mem_uc Cert.KernelIdeal.main_v357 (by decide))).trans (Cert.KernelIdeal.Gen.k_recon m ρ c),
     (h c _ (Cert.KernelIdeal.Gen.mem_uc Cert.KernelIdeal.main_v52 (by decide))).trans (Cert.KernelIdeal.Gen.k_loss m ρ c),
     (h c _ (Cert.KernelIdeal.Gen.mem_uc Cert.KernelIdeal.main_v361 (by decide))).trans (Cert.KernelIdeal.Gen.k_idx m ρ c),
     (h c _ (Cert.KernelIdeal.Gen.mem_uc Cert.KernelIdeal.main_arg0 (by decide))).trans (Cert.KernelIdeal.Gen.W39_main_arg0 m ρ c),
     (h c _ (Cert.KernelIdeal.Gen.mem_uc Cert.KernelIdeal.main_arg1 (by decide))).trans (Cert.KernelIdeal.Gen.W39_main_arg1 m ρ c),
     (h c _ (Cert.KernelIdeal.Gen.mem_uc Cert.KernelIdeal.main_arg2 (by decide))).trans (Cert.KernelIdeal.Gen.W39_main_arg2 m ρ c),
     (h c _ (Cert.KernelIdeal.Gen.mem_uc Cert.KernelIdeal.main_arg3 (by decide))).trans (Cert.KernelIdeal.Gen.W39_main_arg3 m ρ c),
     (h c _ (Cert.KernelIdeal.Gen.mem_uc Cert.KernelIdeal.main_arg4 (by decide))).trans (Cert.KernelIdeal.Gen.W39_main_arg4 m ρ c),
     (h c _ (Cert.KernelIdeal.Gen.mem_uc Cert.KernelIdeal.main_arg5 (by decide))).trans (Cert.KernelIdeal.Gen.W39_main_arg5 m ρ c),
     (h c _ (Cert.KernelIdeal.Gen.mem_uc Cert.KernelIdeal.main_arg6 (by decide))).trans (Cert.KernelIdeal.Gen.W39_main_arg6 m ρ c),
     (h c _ (Cert.KernelIdeal.Gen.mem_uc Cert.KernelIdeal.main_arg7 (by decide))).trans (Cert.KernelIdeal.Gen.W39_main_arg7 m ρ c),
     (h c _ (Cert.KernelIdeal.Gen.mem_uc Cert.KernelIdeal.main_arg8 (by decide))).trans (Cert.KernelIdeal.Gen.W39_main_arg8 m ρ c),
     (h c _ (Cert.KernelIdeal.Gen.mem_uc Cert.KernelIdeal.main_arg9 (by decide))).trans (Cert.KernelIdeal.Gen.W39_main_arg9 m ρ c),
     (h c _ (Cert.KernelIdeal.Gen.mem_uc Cert.KernelIdeal.main_arg10 (by decide))).trans (Cert.KernelIdeal.Gen.W39_main_arg10 m ρ c),
     (h c _ (Cert.KernelIdeal.Gen.mem_uc Cert.KernelIdeal.main_arg11 (by decide))).trans (Cert.KernelIdeal.Gen.W39_main_arg11 m ρ c),
     (h c _ (Cert.KernelIdeal.Gen.mem_uc Cert.KernelIdeal.main_arg12 (by decide))).trans (Cert.KernelIdeal.Gen.W39_main_arg12 m ρ c),
     (h c _ (Cert.KernelIdeal.Gen.mem_uc Cert.KernelIdeal.main_arg13 (by decide))).trans (Cert.KernelIdeal.Gen.W39_main_arg13 m ρ c),
     (h c _ (Cert.KernelIdeal.Gen.mem_uc Cert.KernelIdeal.main_arg14 (by decide))).trans (Cert.KernelIdeal.Gen.W39_main_arg14 m ρ c),
     (h c _ (Cert.KernelIdeal.Gen.mem_uc Cert.KernelIdeal.main_arg15 (by decide))).trans (Cert.KernelIdeal.Gen.W39_main_arg15 m ρ c),
     (h c _ (Cert.KernelIdeal.Gen.mem_uc Cert.KernelIdeal.main_arg16 (by decide))).trans (Cert.KernelIdeal.Gen.W39_main_arg16 m ρ c),
     (h c _ (Cert.KernelIdeal.Gen.mem_uc Cert.KernelIdeal.main_arg17 (by decide))).trans (Cert.KernelIdeal.Gen.W39_main_arg17 m ρ c),
     (h c _ (Cert.KernelIdeal.Gen.mem_uc Cert.KernelIdeal.main_arg18 (by decide))).trans (Cert.KernelIdeal.Gen.W39_main_arg18 m ρ c),
     (h c _ (Cert.KernelIdeal.Gen.mem_uc Cert.KernelIdeal.main_arg19 (by decide))).trans (Cert.KernelIdeal.Gen.W39_main_arg19 m ρ c),
     (h c _ (Cert.KernelIdeal.Gen.mem_uc Cert.KernelIdeal.main_arg20 (by decide))).trans (Cert.KernelIdeal.Gen.W39_main_arg20 m ρ c),
     (h c _ (Cert.KernelIdeal.Gen.mem_uc Cert.KernelIdeal.main_arg21 (by decide))).trans (Cert.KernelIdeal.Gen.W39_main_arg21 m ρ c),
     (h c _ (Cert.KernelIdeal.Gen.mem_uc Cert.KernelIdeal.main_arg22 (by decide))).trans (Cert.KernelIdeal.Gen.W39_main_arg22 m ρ c),
     (h c _ (Cert.KernelIdeal.Gen.mem_uc Cert.KernelIdeal.main_arg23 (by decide))).trans (Cert.KernelIdeal.Gen.W39_main_arg23 m ρ c),
     (h c _ (Cert.KernelIdeal.Gen.mem_uc Cert.KernelIdeal.main_arg24 (by decide))).trans (Cert.KernelIdeal.Gen.W39_main_arg24 m ρ c),
     (h c _ (Cert.KernelIdeal.Gen.mem_uc Cert.KernelIdeal.main_arg25 (by decide))).trans (Cert.KernelIdeal.Gen.W39_main_arg25 m ρ c),
     (h c _ (Cert.KernelIdeal.Gen.mem_uc Cert.KernelIdeal.main_arg26 (by decide))).trans (Cert.KernelIdeal.Gen.W39_main_arg26 m ρ c),
     (h c _ (Cert.KernelIdeal.Gen.mem_uc Cert.KernelIdeal.main_arg27 (by decide))).trans (Cert.KernelIdeal.Gen.W39_main_arg27 m ρ c),
     (h c _ (Cert.KernelIdeal.Gen.mem_uc Cert.KernelIdeal.main_arg28 (by decide))).trans (Cert.KernelIdeal.Gen.W39_main_arg28 m ρ c),
     (h c _ (Cert.KernelIdeal.Gen.mem_uc Cert.KernelIdeal.main_arg29 (by decide))).trans (Cert.KernelIdeal.Gen.W39_main_arg29 m ρ c)⟩)
    (Cert.KernelIdeal.Gen.run_all m ρ)

/-- The reference, launched on the same finite arguments, ends at the same three arrays, its arguments
unchanged. -/
theorem r_final (m' : (ℓ : Loc Cert.ReferenceIdeal.nD Cert.ReferenceIdeal.τ Cert.ReferenceIdeal.sig) → Buf (Elt Ideal) ℓ)
    (ρ : Dev Cert.ReferenceIdeal.nD → PrngReg)
    (hz : ∀ c, Cert.ReferenceIdeal.Value.FiniteZ (kArgs m c))
    (ha : ∀ c : Dev Cert.KernelIdeal.nD, Cert.ReferenceIdeal.Value.rArgs (StableHlo.launchContents m' c) = kArgs m c) :
    θ_run Cert.ReferenceIdeal.defs (onTc (τ := Cert.ReferenceIdeal.τ) (Cert.ReferenceIdeal.main (F := Ideal))) ⟨m', fun _ => 0, ρ⟩ (fun r => ∀ c : Dev Cert.ReferenceIdeal.nD,
      r.2.mem ((c.tc : Thread Cert.ReferenceIdeal.nD Cert.ReferenceIdeal.τ).loc Cert.ReferenceIdeal.main_v775) = mRecon m c
      ∧ r.2.mem ((c.tc : Thread Cert.ReferenceIdeal.nD Cert.ReferenceIdeal.τ).loc Cert.ReferenceIdeal.main_v378) = mLoss m c
      ∧ r.2.mem ((c.tc : Thread Cert.ReferenceIdeal.nD Cert.ReferenceIdeal.τ).loc Cert.ReferenceIdeal.main_v776) = mIds m c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)) :=
  (θ_run Cert.ReferenceIdeal.defs _ _).mono (fun r h c =>
    ⟨(h c).1.trans (congrArg (fun A : Args => fun y : Cert.ReferenceIdeal.S32x3x256x256.Idx => xr A (y 0) (y 1) (y 2) (y 3)) (ha c)),
     (h c).2.1.trans (funext fun _ => (loss_eq _).symm.trans (congrArg (fun A : Args =>
       Ideal.div (Ideal.ofBits FTy.f32 0x3FA00000#32 * total A) (Ideal.ofBits FTy.f32 0x4B000000#32)) (ha c))),
     (h c).2.2.1.trans (congrArg (fun A : Args => fun y : Cert.ReferenceIdeal.S131072x1.Idx =>
       BitVec.ofNat 32 (ids A ⟨(y 0).val / 4096, by have : (y 0).val < 131072 := (y 0).2; omega⟩ ⟨(y 0).val % 4096, by omega⟩).val) (ha c)),
     (h c).2.2.2⟩)
    (Cert.ReferenceIdeal.Value.r_run m' ρ fun c => (ha c).symm ▸ hz c)

/-- On one device the two memories hold the same arguments. -/
def Agree (m' : (ℓ : Loc Cert.ReferenceIdeal.nD Cert.ReferenceIdeal.τ Cert.ReferenceIdeal.sig) → Buf (Elt Ideal) ℓ) : Prop :=
  @Eq (Vec Ideal Cert.KernelIdeal.S32x3x256x256 .f32) (m' (c.tc.loc Cert.ReferenceIdeal.main_arg0)) (m (c.tc.loc Cert.KernelIdeal.main_arg0))
  ∧ @Eq (Vec Ideal Cert.KernelIdeal.S128x3x4x4 .f32) (m' (c.tc.loc Cert.ReferenceIdeal.main_arg1)) (m (c.tc.loc Cert.KernelIdeal.main_arg1))
  ∧ @Eq (Vec Ideal Cert.KernelIdeal.S128 .f32) (m' (c.tc.loc Cert.ReferenceIdeal.main_arg2)) (m (c.tc.loc Cert.KernelIdeal.main_arg2))
  ∧ @Eq (Vec Ideal Cert.KernelIdeal.S128x128x4x4 .f32) (m' (c.tc.loc Cert.ReferenceIdeal.main_arg3)) (m (c.tc.loc Cert.KernelIdeal.main_arg3))
  ∧ @Eq (Vec Ideal Cert.KernelIdeal.S128 .f32) (m' (c.tc.loc Cert.ReferenceIdeal.main_arg4)) (m (c.tc.loc Cert.KernelIdeal.main_arg4))
  ∧ @Eq (Vec Ideal Cert.KernelIdeal.S128x128x3x3 .f32) (m' (c.tc.loc Cert.ReferenceIdeal.main_arg5)) (m (c.tc.loc Cert.KernelIdeal.main_arg5))
  ∧ @Eq (Vec Ideal Cert.KernelIdeal.S128 .f32) (m' (c.tc.loc Cert.ReferenceIdeal.main_arg6)) (m (c.tc.loc Cert.KernelIdeal.main_arg6))
  ∧ @Eq (Vec Ideal Cert.KernelIdeal.S128x128x1x1 .f32) (m' (c.tc.loc Cert.ReferenceIdeal.main_arg7)) (m (c.tc.loc Cert.KernelIdeal.main_arg7))
  ∧ @Eq (Vec Ideal Cert.KernelIdeal.S128 .f32) (m' (c.tc.loc Cert.ReferenceIdeal.main_arg8)) (m (c.tc.loc Cert.KernelIdeal.main_arg8))
  ∧ @Eq (Vec Ideal Cert.KernelIdeal.S128x128x3x3 .f32) (m' (c.tc.loc Cert.ReferenceIdeal.main_arg9)) (m (c.tc.loc Cert.KernelIdeal.main_arg9))
  ∧ @Eq (Vec Ideal Cert.KernelIdeal.S128 .f32) (m' (c.tc.loc Cert.ReferenceIdeal.main_arg10)) (m (c.tc.loc Cert.KernelIdeal.main_arg10))
  ∧ @Eq (Vec Ideal Cert.KernelIdeal.S128x128x1x1 .f32) (m' (c.tc.loc Cert.ReferenceIdeal.main_arg11)) (m (c.tc.loc Cert.KernelIdeal.main_arg11))
  ∧ @Eq (Vec Ideal Cert.KernelIdeal.S128 .f32) (m' (c.tc.loc Cert.ReferenceIdeal.main_arg12)) (m (c.tc.loc Cert.KernelIdeal.main_arg12))
  ∧ @Eq (Vec Ideal Cert.KernelIdeal.S64x128x1x1 .f32) (m' (c.tc.loc Cert.ReferenceIdeal.main_arg13)) (m (c.tc.loc Cert.KernelIdeal.main_arg13))
  ∧ @Eq (Vec Ideal Cert.KernelIdeal.S64 .f32) (m' (c.tc.loc Cert.ReferenceIdeal.main_arg14)) (m (c.tc.loc Cert.KernelIdeal.main_arg14))
  ∧ @Eq (Vec Ideal Cert.KernelIdeal.S512x64 .f32) (m' (c.tc.loc Cert.ReferenceIdeal.main_arg15)) (m (c.tc.loc Cert.KernelIdeal.main_arg15))
  ∧ @Eq (Vec Ideal Cert.KernelIdeal.S128x64x3x3 .f32) (m' (c.tc.loc Cert.ReferenceIdeal.main_arg16)) (m (c.tc.loc Cert.KernelIdeal.main_arg16))
  ∧ @Eq (Vec Ideal Cert.KernelIdeal.S128 .f32) (m' (c.tc.loc Cert.ReferenceIdeal.main_arg17)) (m (c.tc.loc Cert.KernelIdeal.main_arg17))
  ∧ @Eq (Vec Ideal Cert.KernelIdeal.S128x128x3x3 .f32) (m' (c.tc.loc Cert.ReferenceIdeal.main_arg18)) (m (c.tc.loc Cert.KernelIdeal.main_arg18))
  ∧ @Eq (Vec Ideal Cert.KernelIdeal.S128 .f32) (m' (c.tc.loc Cert.ReferenceIdeal.main_arg19)) (m (c.tc.loc Cert.KernelIdeal.main_arg19))
  ∧ @Eq (Vec Ideal Cert.KernelIdeal.S128x128x1x1 .f32) (m' (c.tc.loc Cert.ReferenceIdeal.main_arg20)) (m (c.tc.loc Cert.KernelIdeal.main_arg20))
  ∧ @Eq (Vec Ideal Cert.KernelIdeal.S128 .f32) (m' (c.tc.loc Cert.ReferenceIdeal.main_arg21)) (m (c.tc.loc Cert.KernelIdeal.main_arg21))
  ∧ @Eq (Vec Ideal Cert.KernelIdeal.S128x128x3x3 .f32) (m' (c.tc.loc Cert.ReferenceIdeal.main_arg22)) (m (c.tc.loc Cert.KernelIdeal.main_arg22))
  ∧ @Eq (Vec Ideal Cert.KernelIdeal.S128 .f32) (m' (c.tc.loc Cert.ReferenceIdeal.main_arg23)) (m (c.tc.loc Cert.KernelIdeal.main_arg23))
  ∧ @Eq (Vec Ideal Cert.KernelIdeal.S128x128x1x1 .f32) (m' (c.tc.loc Cert.ReferenceIdeal.main_arg24)) (m (c.tc.loc Cert.KernelIdeal.main_arg24))
  ∧ @Eq (Vec Ideal Cert.KernelIdeal.S128 .f32) (m' (c.tc.loc Cert.ReferenceIdeal.main_arg25)) (m (c.tc.loc Cert.KernelIdeal.main_arg25))
  ∧ @Eq (Vec Ideal Cert.KernelIdeal.S128x128x4x4 .f32) (m' (c.tc.loc Cert.ReferenceIdeal.main_arg26)) (m (c.tc.loc Cert.KernelIdeal.main_arg26))
  ∧ @Eq (Vec Ideal Cert.KernelIdeal.S128 .f32) (m' (c.tc.loc Cert.ReferenceIdeal.main_arg27)) (m (c.tc.loc Cert.KernelIdeal.main_arg27))
  ∧ @Eq (Vec Ideal Cert.KernelIdeal.S128x3x4x4 .f32) (m' (c.tc.loc Cert.ReferenceIdeal.main_arg28)) (m (c.tc.loc Cert.KernelIdeal.main_arg28))
  ∧ @Eq (Vec Ideal Cert.KernelIdeal.S3 .f32) (m' (c.tc.loc Cert.ReferenceIdeal.main_arg29)) (m (c.tc.loc Cert.KernelIdeal.main_arg29))

/-- Where the memories agree, both programs read the same arguments. -/
theorem agree_args (m' : (ℓ : Loc Cert.ReferenceIdeal.nD Cert.ReferenceIdeal.τ Cert.ReferenceIdeal.sig) → Buf (Elt Ideal) ℓ)
    (h : Agree m c m') : Cert.ReferenceIdeal.Value.rArgs (StableHlo.launchContents m' c) = kArgs m c :=
  args_eq m m' c (h.1) (h.2.1) (h.2.2.1) (h.2.2.2.1) (h.2.2.2.2.1) (h.2.2.2.2.2.1) (h.2.2.2.2.2.2.1) (h.2.2.2.2.2.2.2.1) (h.2.2.2.2.2.2.2.2.1) (h.2.2.2.2.2.2.2.2.2.1) (h.2.2.2.2.2.2.2.2.2.2.1) (h.2.2.2.2.2.2.2.2.2.2.2.1) (h.2.2.2.2.2.2.2.2.2.2.2.2.1) (h.2.2.2.2.2.2.2.2.2.2.2.2.2.1) (h.2.2.2.2.2.2.2.2.2.2.2.2.2.2.1) (h.2.2.2.2.2.2.2.2.2.2.2.2.2.2.2.1) (h.2.2.2.2.2.2.2.2.2.2.2.2.2.2.2.2.1) (h.2.2.2.2.2.2.2.2.2.2.2.2.2.2.2.2.2.1) (h.2.2.2.2.2.2.2.2.2.2.2.2.2.2.2.2.2.2.1) (h.2.2.2.2.2.2.2.2.2.2.2.2.2.2.2.2.2.2.2.1) (h.2.2.2.2.2.2.2.2.2.2.2.2.2.2.2.2.2.2.2.2.1) (h.2.2.2.2.2.2.2.2.2.2.2.2.2.2.2.2.2.2.2.2.2.1) (h.2.2.2.2.2.2.2.2.2.2.2.2.2.2.2.2.2.2.2.2.2.2.1) (h.2.2.2.2.2.2.2.2.2.2.2.2.2.2.2.2.2.2.2.2.2.2.2.1) (h.2.2.2.2.2.2.2.2.2.2.2.2.2.2.2.2.2.2.2.2.2.2.2.2.1) (h.2.2.2.2.2.2.2.2.2.2.2.2.2.2.2.2.2.2.2.2.2.2.2.2.2.1) (h.2.2.2.2.2.2.2.2.2.2.2.2.2.2.2.2.2.2.2.2.2.2.2.2.2.2.1) (h.2.2.2.2.2.2.2.2.2.2.2.2.2.2.2.2.2.2.2.2.2.2.2.2.2.2.2.1) (h.2.2.2.2.2.2.2.2.2.2.2.2.2.2.2.2.2.2.2.2.2.2.2.2.2.2.2.2.1) (h.2.2.2.2.2.2.2.2.2.2.2.2.2.2.2.2.2.2.2.2.2.2.2.2.2.2.2.2.2)

end Vq
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import Idealize.ShloMosaic.Adequacy
public import Idealize.ShloMosaic.Init

@[expose] public section

noncomputable section

namespace Cert.Proof

open Idealize.ShloMosaic Idealize.SL.Sem

/-- The broadcasts the precondition names are proper ones. -/
instance preFacts : Cert.Pre_encoder_finite.Facts where
  bcast_S_S32x3x256x256 := by decide
  bcast_S_S128x3x4x4 := by decide
  bcast_S_S128 := by decide
  bcast_S_S128x128x4x4 := by decide
  bcast_S_S128x128x3x3 := by decide
  bcast_S_S128x128x1x1 := by decide
  bcast_S_S64x128x1x1 := by decide
  bcast_S_S64 := by decide

/-- The kernel runs to the end, leaves its arguments alone and every counter at zero. -/
theorem frame_p : Cert.quiescent_Kernel := fun m ρ _ => Cert.Kernel.Gen.frame m ρ

/-- The same of the idealized kernel. -/
theorem frame_pi : Cert.quiescent_KernelIdeal := fun m ρ _ => Cert.KernelIdeal.Gen.frame m ρ

/-- The same of the idealized kernel under the precondition. -/
theorem frame_pi_pre : Cert.quiescent_KernelIdeal_pre_encoder_finite := fun m ρ _ => Cert.KernelIdeal.Gen.frame m ρ

/-- The same of the idealized reference, which declares no counter. -/
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The same of the idealized reference under the precondition. -/
theorem frame_ri_pre : Cert.quiescent_ReferenceIdeal_pre_encoder_finite := fun m ρ _ => frame_ri m ρ trivial

/-- The kernel and the reference compute the same images, loss and codes wherever the encoder's inputs are
finite. -/
theorem alg : Cert.algebraic_KernelIdeal_ReferenceIdeal_pre_encoder_finite :=
  fun m g m' g' hp (ha : ∀ c, Vq.Agree m c m') =>
    ⟨Vq.mRecon m, Vq.mLoss m, Vq.mIds m, Vq.k_final m g,
      Vq.r_final m m' g' (fun c => Vq.pre_finite m c (hp c).1 (hp c).2.1 (hp c).2.2.1 (hp c).2.2.2.1 (hp c).2.2.2.2.1 (hp c).2.2.2.2.2.1 (hp c).2.2.2.2.2.2.1 (hp c).2.2.2.2.2.2.2.1 (hp c).2.2.2.2.2.2.2.2.1 (hp c).2.2.2.2.2.2.2.2.2.1 (hp c).2.2.2.2.2.2.2.2.2.2.1 (hp c).2.2.2.2.2.2.2.2.2.2.2.1 (hp c).2.2.2.2.2.2.2.2.2.2.2.2.1 (hp c).2.2.2.2.2.2.2.2.2.2.2.2.2.1 (hp c).2.2.2.2.2.2.2.2.2.2.2.2.2.2)
        (fun c => Vq.agree_args m c m' (ha c))⟩

/-- Every claim of this certificate. -/
theorem claim : Cert.Claim := ⟨Cert.Kernel.Gen.facts, Cert.KernelIdeal.Gen.facts, Cert.ReferenceIdeal.Gen.facts, preFacts,
  frame_p, frame_pi, frame_pi_pre, frame_ri, frame_ri_pre, trivial, alg⟩

end Cert.Proof

end
